-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v383) = v0 c
          ∧ r.2.mem ((c.tc : Thread Cert.ReferenceIdeal.nD Cert.ReferenceIdeal.τ).loc Cert.ReferenceIdeal.main_v387) = v1 c
          ∧ r.2.mem ((c.tc : Thread Cert.ReferenceIdeal.nD Cert.ReferenceIdeal.τ).loc Cert.ReferenceIdeal.main_v391) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)) (v3 : (c : Dev Cert.Kernel11Ideal.nD) → Buf (Elt Ideal) ((c.tc : Thread Cert.Kernel11Ideal.nD Cert.Kernel11Ideal.τ).loc Cert.Kernel11Ideal.main_v4_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_v4_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v24) = v2 c
          ∧ r.2.mem ((c.tc : Thread Cert.Reference11Ideal.nD Cert.Reference11Ideal.τ).loc Cert.Reference11Ideal.main_v25) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
-- ==== Kernel.lean ====
abbrev S8704x1024 : Shape := ⟨2, ![8704, 1024]⟩
abbrev S2x4x128x128 : Shape := ⟨4, ![2, 4, 128, 128]⟩
abbrev S2x4x128 : Shape := ⟨3, ![2, 4, 128]⟩
abbrev S2x31x1024 : Shape := ⟨3, ![2, 31, 1024]⟩
abbrev S2x1024 : Shape := ⟨2, ![2, 1024]⟩
abbrev S2x4x256x256 : Shape := ⟨4, ![2, 4, 256, 256]⟩
abbrev S2x128x4 : Shape := ⟨3, ![2, 128, 4]⟩
abbrev S2x128x4x256 : Shape := ⟨4, ![2, 128, 4, 256]⟩
abbrev S2x128x1024 : Shape := ⟨3, ![2, 128, 1024]⟩
abbrev S2x1x1024 : Shape := ⟨3, ![2, 1, 1024]⟩
abbrev S512x1024 : Shape := ⟨2, ![512, 1024]⟩
abbrev S32x1024 : Shape := ⟨2, ![32, 1024]⟩
abbrev S16x1024 : Shape := ⟨2, ![16, 1024]⟩
abbrev S1x4x128x128 : Shape := ⟨4, ![1, 4, 128, 128]⟩
abbrev S1x128x1024 : Shape := ⟨3, ![1, 128, 1024]⟩
abbrev S1x31x1024 : Shape := ⟨3, ![1, 31, 1024]⟩
abbrev S1x1x1024 : Shape := ⟨3, ![1, 1, 1024]⟩
abbrev S1x4x256x256 : Shape := ⟨4, ![1, 4, 256, 256]⟩
abbrev S544x1024 : Shape := ⟨2, ![544, 1024]⟩
abbrev S7x544x1024 : Shape := ⟨3, ![7, 544, 1024]⟩
abbrev S528x1024 : Shape := ⟨2, ![528, 1024]⟩
abbrev S31x16x1024 : Shape := ⟨3, ![31, 16, 1024]⟩
abbrev S128x128 : Shape := ⟨2, ![128, 128]⟩
abbrev S1x1x128x128 : Shape := ⟨4, ![1, 1, 128, 128]⟩
abbrev S128x256 : Shape := ⟨2, ![128, 256]⟩
abbrev S1x128x256 : Shape := ⟨3, ![1, 128, 256]⟩
abbrev S536x1024 : Shape := ⟨2, ![536, 1024]⟩
abbrev S1x536x1024 : Shape := ⟨3, ![1, 536, 1024]⟩
abbrev S1x1024 : Shape := ⟨2, ![1, 1024]⟩
abbrev S1x16x1024 : Shape := ⟨3, ![1, 16, 1024]⟩
abbrev S16 : Shape := ⟨1, ![16]⟩
abbrev S16x1 : Shape := ⟨2, ![16, 1]⟩
abbrev S512x1 : Shape := ⟨2, ![512, 1]⟩
abbrev S527x256 : Shape := ⟨2, ![527, 256]⟩
abbrev S512x256 : Shape := ⟨2, ![512, 256]⟩
abbrev S1x1x256x256 : Shape := ⟨4, ![1, 1, 256, 256]⟩
abbrev S256x256 : Shape := ⟨2, ![256, 256]⟩
abbrev S1x1x256 : Shape := ⟨3, ![1, 1, 256]⟩
abbrev S1x256 : Shape := ⟨2, ![1, 256]⟩
abbrev S525x256 : Shape := ⟨2, ![525, 256]⟩
abbrev S521x256 : Shape := ⟨2, ![521, 256]⟩
abbrev S513x256 : Shape := ⟨2, ![513, 256]⟩

abbrev nBuf : Space → Nat
  | .hbm => 23
  | .vmem => 31
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S8704x1024, .f32⟩
  | .hbm, ⟨3, _⟩ => ⟨S8704x1024, .f32⟩
  | .hbm, ⟨4, _⟩ => ⟨S2x4x128x128, .f32⟩
  | .hbm, ⟨5, _⟩ => ⟨S2x4x128, .f32⟩
  | .hbm, ⟨6, _⟩ => ⟨S2x31x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x4x256x256, .f32⟩
  | .hbm, ⟨11, _⟩ => ⟨S2x1024, .f32⟩
  | .hbm, ⟨12, _⟩ => ⟨S2x128x4, .f32⟩
  | .hbm, ⟨13, _⟩ => ⟨S2x128x4x256, .f32⟩
  | .hbm, ⟨14, _⟩ => ⟨S2x128x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x4x256x256, .bf16⟩
  | .hbm, ⟨20, _⟩ => ⟨S8704x1024, .bf16⟩
  | .hbm, ⟨21, _⟩ => ⟨S8704x1024, .bf16⟩
  | .hbm, ⟨22, _⟩ => ⟨S8704x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S32x1024, .f32⟩
  | .local _ .vmem, ⟨7, _⟩ => ⟨S32x1024, .f32⟩
  | .local _ .vmem, ⟨8, _⟩ => ⟨S512x1024, .f32⟩
  | .local _ .vmem, ⟨9, _⟩ => ⟨S512x1024, .f32⟩
  | .local _ .vmem, ⟨10, _⟩ => ⟨S16x1024, .f32⟩
  | .local _ .vmem, ⟨11, _⟩ => ⟨S16x1024, .f32⟩
  | .local _ .vmem, ⟨12, _⟩ => ⟨S1x4x128x128, .f32⟩
  | .local _ .vmem, ⟨13, _⟩ => ⟨S1x128x1024, .f32⟩
  | .local _ .vmem, ⟨14, _⟩ => ⟨S1x31x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x4x256x256, .bf16⟩
  | .local _ .vmem, ⟨19, _⟩ => ⟨S1x1x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S544x1024, .f32⟩
  | .local _ .vmem, ⟨27, _⟩ => ⟨S7x544x1024, .f32⟩
  | .local _ .vmem, ⟨28, _⟩ => ⟨S528x1024, .f32⟩
  | .local _ .vmem, ⟨29, _⟩ => ⟨S31x16x1024, .f32⟩
  | .local _ .vmem, ⟨30, _⟩ => ⟨S528x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32 : BitVec 32 := 16#32
  let v0 : BitVec 1 := Scalar.cmpi .slt arg0 c16_i32
  let v_true : BitVec 1 := 1#1
  let v3 : BitVec 1 := Scalar.xori v0 v_true
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x31x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S8704x1024 : Shape := ⟨2, ![8704, 1024]⟩
abbrev S2x4x128x128 : Shape := ⟨4, ![2, 4, 128, 128]⟩
abbrev S2x4x128 : Shape := ⟨3, ![2, 4, 128]⟩
abbrev S2x31x1024 : Shape := ⟨3, ![2, 31, 1024]⟩
abbrev S2x1024 : Shape := ⟨2, ![2, 1024]⟩
abbrev S2x4x256x256 : Shape := ⟨4, ![2, 4, 256, 256]⟩
abbrev S8192x1024 : Shape := ⟨2, ![8192, 1024]⟩
abbrev S4x2048x1024 : Shape := ⟨3, ![4, 2048, 1024]⟩
abbrev S4x16x128x4x256 : Shape := ⟨5, ![4, 16, 128, 4, 256]⟩
abbrev S1x4x128x128 : Shape := ⟨4, ![1, 4, 128, 128]⟩
abbrev S4x128x128 : Shape := ⟨3, ![4, 128, 128]⟩
abbrev S128x128 : Shape := ⟨2, ![128, 128]⟩
abbrev S_ : Shape := ⟨0, ![]⟩
abbrev S4x4x16x256x128 : Shape := ⟨5, ![4, 4, 16, 256, 128]⟩
abbrev S1x4x128 : Shape := ⟨3, ![1, 4, 128]⟩
abbrev S4x128 : Shape := ⟨2, ![4, 128]⟩
abbrev S128x4 : Shape := ⟨2, ![128, 4]⟩
abbrev S1x1x128x4x1 : Shape := ⟨5, ![1, 1, 128, 4, 1]⟩
abbrev S4x30x1024 : Shape := ⟨3, ![4, 30, 1024]⟩
abbrev S4x2078x1024 : Shape := ⟨3, ![4, 2078, 1024]⟩
abbrev S1x1x1024 : Shape := ⟨3, ![1, 1, 1024]⟩
abbrev S1024 : Shape := ⟨1, ![1024]⟩
abbrev S1x1024 : Shape := ⟨2, ![1, 1024]⟩
abbrev S4x2048 : Shape := ⟨2, ![4, 2048]⟩
abbrev S4x2048x1 : Shape := ⟨3, ![4, 2048, 1]⟩
abbrev S4x15x1024 : Shape := ⟨3, ![4, 15, 1024]⟩
abbrev S4x2063x1024 : Shape := ⟨3, ![4, 2063, 1024]⟩
abbrev S2048 : Shape := ⟨1, ![2048]⟩
abbrev S4x2048x256 : Shape := ⟨3, ![4, 2048, 256]⟩
abbrev S1x2048x1 : Shape := ⟨3, ![1, 2048, 1]⟩
abbrev S4x2048x1x256 : Shape := ⟨4, ![4, 2048, 1, 256]⟩
abbrev S4x2048x4x256 : Shape := ⟨4, ![4, 2048, 4, 256]⟩
abbrev S1x4x256x256 : Shape := ⟨4, ![1, 4, 256, 256]⟩
abbrev S4x256x256 : Shape := ⟨3, ![4, 256, 256]⟩
abbrev S4x256x4x2048 : Shape := ⟨4, ![4, 256, 4, 2048]⟩
abbrev S512x1024 : Shape := ⟨2, ![512, 1024]⟩

abbrev nBuf : Space → Nat
  | .hbm => 439
  | .vmem => 0
  | .smem => 0
  | _ => 0

abbrev hbmTy0_0 (i : Nat) : BufTy := match i % 128 with
  | 0 => ⟨S8704x1024, .f32⟩
  | 1 => ⟨S8704x1024, .f32⟩
  | 2 => ⟨S8704x1024, .f32⟩
  | 3 => ⟨S8704x1024, .f32⟩
  | 4 => ⟨S2x4x128x128, .f32⟩
  | 5 => ⟨S2x4x128, .f32⟩
  | 6 => ⟨S2x31x1024, .f32⟩
  | 7 => ⟨S2x1024, .f32⟩
  | 8 => ⟨S2x1024, .f32⟩
  | 9 => ⟨S2x1024, .f32⟩
  | 10 => ⟨S2x4x256x256, .f32⟩
  | 11 => ⟨S2x1024, .f32⟩
  | 12 => ⟨S8192x1024, .f32⟩
  | 13 => ⟨S4x2048x1024, .f32⟩
  | 14 => ⟨S8192x1024, .f32⟩
  | 15 => ⟨S4x2048x1024, .f32⟩
  | 16 => ⟨S8192x1024, .f32⟩
  | 17 => ⟨S4x2048x1024, .f32⟩
  | 18 => ⟨S8192x1024, .f32⟩
  | 19 => ⟨S4x2048x1024, .f32⟩
  | 20 => ⟨S4x16x128x4x256, .f32⟩
  | 21 => ⟨S1x4x128x128, .f32⟩
  | 22 => ⟨S4x128x128, .f32⟩
  | 23 => ⟨S128x128, .i32⟩
  | 24 => ⟨S_, .i32⟩
  | 25 => ⟨S128x128, .i32⟩
  | 26 => ⟨S128x128, .i32⟩
  | 27 => ⟨S128x128, .i32⟩
  | 28 => ⟨S128x128, .i1⟩
  | 29 => ⟨S4x128x128, .i1⟩
  | 30 => ⟨S_, .f32⟩
  | 31 => ⟨S4x128x128, .f32⟩
  | 32 => ⟨S4x128x128, .f32⟩
  | 33 => ⟨S4x4x16x256x128, .f32⟩
  | 34 => ⟨S4x16x128x4x256, .f32⟩
  | 35 => ⟨S1x4x128, .f32⟩
  | 36 => ⟨S4x128, .f32⟩
  | 37 => ⟨S128x4, .f32⟩
  | 38 => ⟨S1x1x128x4x1, .f32⟩
  | 39 => ⟨S4x16x128x4x256, .f32⟩
  | 40 => ⟨S4x16x128x4x256, .f32⟩
  | 41 => ⟨S4x2048x1024, .f32⟩
  | 42 => ⟨S4x2048x1024, .f32⟩
  | 43 => ⟨S_, .f32⟩
  | 44 => ⟨S4x30x1024, .f32⟩
  | 45 => ⟨S4x2078x1024, .f32⟩
  | 46 => ⟨S4x2048x1024, .f32⟩
  | 47 => ⟨S1x1x1024, .f32⟩
  | 48 => ⟨S1024, .f32⟩
  | 49 => ⟨S1x1x1024, .f32⟩
  | 50 => ⟨S4x2048x1024, .f32⟩
  | 51 => ⟨S4x2048x1024, .f32⟩
  | 52 => ⟨S4x2048x1024, .f32⟩
  | 53 => ⟨S1x1x1024, .f32⟩
  | 54 => ⟨S1024, .f32⟩
  | 55 => ⟨S1x1x1024, .f32⟩
  | 56 => ⟨S4x2048x1024, .f32⟩
  | 57 => ⟨S4x2048x1024, .f32⟩
  | 58 => ⟨S4x2048x1024, .f32⟩
  | 59 => ⟨S4x2048x1024, .f32⟩
  | 60 => ⟨S1x1x1024, .f32⟩
  | 61 => ⟨S1024, .f32⟩
  | 62 => ⟨S1x1x1024, .f32⟩
  | 63 => ⟨S4x2048x1024, .f32⟩
  | 64 => ⟨S4x2048x1024, .f32⟩
  | 65 => ⟨S4x2048x1024, .f32⟩
  | 66 => ⟨S4x2048x1024, .f32⟩
  | 67 => ⟨S1x1x1024, .f32⟩
  | 68 => ⟨S1024, .f32⟩
  | 69 => ⟨S1x1x1024, .f32⟩
  | 70 => ⟨S4x2048x1024, .f32⟩
  | 71 => ⟨S4x2048x1024, .f32⟩
  | 72 => ⟨S4x2048x1024, .f32⟩
  | 73 => ⟨S4x2048x1024, .f32⟩
  | 74 => ⟨S1x1x1024, .f32⟩
  | 75 => ⟨S1024, .f32⟩
  | 76 => ⟨S1x1x1024, .f32⟩
  | 77 => ⟨S4x2048x1024, .f32⟩
  | 78 => ⟨S4x2048x1024, .f32⟩
  | 79 => ⟨S4x2048x1024, .f32⟩
  | 80 => ⟨S4x2048x1024, .f32⟩
  | 81 => ⟨S1x1x1024, .f32⟩
  | 82 => ⟨S1024, .f32⟩
  | 83 => ⟨S1x1x1024, .f32⟩
  | 84 => ⟨S4x2048x1024, .f32⟩
  | 85 => ⟨S4x2048x1024, .f32⟩
  | 86 => ⟨S4x2048x1024, .f32⟩
  | 87 => ⟨S4x2048x1024, .f32⟩
  | 88 => ⟨S1x1x1024, .f32⟩
  | 89 => ⟨S1024, .f32⟩
  | 90 => ⟨S1x1x1024, .f32⟩
  | 91 => ⟨S4x2048x1024, .f32⟩
  | 92 => ⟨S4x2048x1024, .f32⟩
  | 93 => ⟨S4x2048x1024, .f32⟩
  | 94 => ⟨S4x2048x1024, .f32⟩
  | 95 => ⟨S1x1x1024, .f32⟩
  | 96 => ⟨S1024, .f32⟩
  | 97 => ⟨S1x1x1024, .f32⟩
  | 98 => ⟨S4x2048x1024, .f32⟩
  | 99 => ⟨S4x2048x1024, .f32⟩
  | 100 => ⟨S4x2048x1024, .f32⟩
  | 101 => ⟨S4x2048x1024, .f32⟩
  | 102 => ⟨S1x1x1024, .f32⟩
  | 103 => ⟨S1024, .f32⟩
  | 104 => ⟨S1x1x1024, .f32⟩
  | 105 => ⟨S4x2048x1024, .f32⟩
  | 106 => ⟨S4x2048x1024, .f32⟩
  | 107 => ⟨S4x2048x1024, .f32⟩
  | 108 => ⟨S4x2048x1024, .f32⟩
  | 109 => ⟨S1x1x1024, .f32⟩
  | 110 => ⟨S1024, .f32⟩
  | 111 => ⟨S1x1x1024, .f32⟩
  | 112 => ⟨S4x2048x1024, .f32⟩
  | 113 => ⟨S4x2048x1024, .f32⟩
  | 114 => ⟨S4x2048x1024, .f32⟩
  | 115 => ⟨S4x2048x1024, .f32⟩
  | 116 => ⟨S1x1x1024, .f32⟩
  | 117 => ⟨S1024, .f32⟩
  | 118 => ⟨S1x1x1024, .f32⟩
  | 119 => ⟨S4x2048x1024, .f32⟩
  | 120 => ⟨S4x2048x1024, .f32⟩
  | 121 => ⟨S4x2048x1024, .f32⟩
  | 122 => ⟨S4x2048x1024, .f32⟩
  | 123 => ⟨S1x1x1024, .f32⟩
  | 124 => ⟨S1024, .f32⟩
  | 125 => ⟨S1x1x1024, .f32⟩
  | 126 => ⟨S4x2048x1024, .f32⟩
  | 127 => ⟨S4x2048x1024, .f32⟩
  | _ => ⟨S8704x1024, .f32⟩

abbrev hbmTy0_1 (i : Nat) : BufTy := match i % 128 with
  | 0 => ⟨S4x2048x1024, .f32⟩
  | 1 => ⟨S4x2048x1024, .f32⟩
  | 2 => ⟨S1x1x1024, .f32⟩
  | 3 => ⟨S1024, .f32⟩
  | 4 => ⟨S1x1x1024, .f32⟩
  | 5 => ⟨S4x2048x1024, .f32⟩
  | 6 => ⟨S4x2048x1024, .f32⟩
  | 7 => ⟨S4x2048x1024, .f32⟩
  | 8 => ⟨S4x2048x1024, .f32⟩
  | 9 => ⟨S1x1x1024, .f32⟩
  | 10 => ⟨S1024, .f32⟩
  | 11 => ⟨S1x1x1024, .f32⟩
  | 12 => ⟨S4x2048x1024, .f32⟩
  | 13 => ⟨S4x2048x1024, .f32⟩
  | 14 => ⟨S4x2048x1024, .f32⟩
  | 15 => ⟨S4x2048x1024, .f32⟩
  | 16 => ⟨S1x1x1024, .f32⟩
  | 17 => ⟨S1024, .f32⟩
  | 18 => ⟨S1x1x1024, .f32⟩
  | 19 => ⟨S4x2048x1024, .f32⟩
  | 20 => ⟨S4x2048x1024, .f32⟩
  | 21 => ⟨S4x2048x1024, .f32⟩
  | 22 => ⟨S4x2048x1024, .f32⟩
  | 23 => ⟨S1x1x1024, .f32⟩
  | 24 => ⟨S1024, .f32⟩
  | 25 => ⟨S1x1x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S1x1x1024, .f32⟩
  | 31 => ⟨S1024, .f32⟩
  | 32 => ⟨S1x1x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S1x1x1024, .f32⟩
  | 38 => ⟨S1024, .f32⟩
  | 39 => ⟨S1x1x1024, .f32⟩
  | 40 => ⟨S4x2048x1024, .f32⟩
  | 41 => ⟨S4x2048x1024, .f32⟩
  | 42 => ⟨S4x2048x1024, .f32⟩
  | 43 => ⟨S4x2048x1024, .f32⟩
  | 44 => ⟨S1x1x1024, .f32⟩
  | 45 => ⟨S1024, .f32⟩
  | 46 => ⟨S1x1x1024, .f32⟩
  | 47 => ⟨S4x2048x1024, .f32⟩
  | 48 => ⟨S4x2048x1024, .f32⟩
  | 49 => ⟨S4x2048x1024, .f32⟩
  | 50 => ⟨S4x2048x1024, .f32⟩
  | 51 => ⟨S1x1x1024, .f32⟩
  | 52 => ⟨S1024, .f32⟩
  | 53 => ⟨S1x1x1024, .f32⟩
  | 54 => ⟨S4x2048x1024, .f32⟩
  | 55 => ⟨S4x2048x1024, .f32⟩
  | 56 => ⟨S4x2048x1024, .f32⟩
  | 57 => ⟨S4x2048x1024, .f32⟩
  | 58 => ⟨S1x1x1024, .f32⟩
  | 59 => ⟨S1024, .f32⟩
  | 60 => ⟨S1x1x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S1x1x1024, .f32⟩
  | 66 => ⟨S1024, .f32⟩
  | 67 => ⟨S1x1x1024, .f32⟩
  | 68 => ⟨S4x2048x1024, .f32⟩
  | 69 => ⟨S4x2048x1024, .f32⟩
  | 70 => ⟨S4x2048x1024, .f32⟩
  | 71 => ⟨S4x2048x1024, .f32⟩
  | 72 => ⟨S1x1x1024, .f32⟩
  | 73 => ⟨S1024, .f32⟩
  | 74 => ⟨S1x1x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S1x1x1024, .f32⟩
  | 80 => ⟨S1024, .f32⟩
  | 81 => ⟨S1x1x1024, .f32⟩
  | 82 => ⟨S4x2048x1024, .f32⟩
  | 83 => ⟨S4x2048x1024, .f32⟩
  | 84 => ⟨S4x2048x1024, .f32⟩
  | 85 => ⟨S4x2048x1024, .f32⟩
  | 86 => ⟨S1x1x1024, .f32⟩
  | 87 => ⟨S1024, .f32⟩
  | 88 => ⟨S1x1x1024, .f32⟩
  | 89 => ⟨S4x2048x1024, .f32⟩
  | 90 => ⟨S4x2048x1024, .f32⟩
  | 91 => ⟨S4x2048x1024, .f32⟩
  | 92 => ⟨S4x2048x1024, .f32⟩
  | 93 => ⟨S1x1x1024, .f32⟩
  | 94 => ⟨S1024, .f32⟩
  | 95 => ⟨S1x1x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S1x1x1024, .f32⟩
  | 101 => ⟨S1024, .f32⟩
  | 102 => ⟨S1x1x1024, .f32⟩
  | 103 => ⟨S4x2048x1024, .f32⟩
  | 104 => ⟨S4x2048x1024, .f32⟩
  | 105 => ⟨S4x2048x1024, .f32⟩
  | 106 => ⟨S4x2048x1024, .f32⟩
  | 107 => ⟨S1x1x1024, .f32⟩
  | 108 => ⟨S1024, .f32⟩
  | 109 => ⟨S1x1x1024, .f32⟩
  | 110 => ⟨S4x2048x1024, .f32⟩
  | 111 => ⟨S4x2048x1024, .f32⟩
  | 112 => ⟨S4x2048x1024, .f32⟩
  | 113 => ⟨S4x2048x1024, .f32⟩
  | 114 => ⟨S1x1x1024, .f32⟩
  | 115 => ⟨S1024, .f32⟩
  | 116 => ⟨S1x1x1024, .f32⟩
  | 117 => ⟨S4x2048x1024, .f32⟩
  | 118 => ⟨S4x2048x1024, .f32⟩
  | 119 => ⟨S4x2048x1024, .f32⟩
  | 120 => ⟨S4x2048x1024, .f32⟩
  | 121 => ⟨S1x1x1024, .f32⟩
  | 122 => ⟨S1024, .f32⟩
  | 123 => ⟨S1x1x1024, .f32⟩
  | 124 => ⟨S4x2048x1024, .f32⟩
  | 125 => ⟨S4x2048x1024, .f32⟩
  | 126 => ⟨S4x2048x1024, .f32⟩
  | 127 => ⟨S4x2048x1024, .f32⟩
  | _ => ⟨S8704x1024, .f32⟩

abbrev hbmTy0_2 (i : Nat) : BufTy := match i % 128 with
  | 0 => ⟨S1x1x1024, .f32⟩
  | 1 => ⟨S1024, .f32⟩
  | 2 => ⟨S1x1x1024, .f32⟩
  | 3 => ⟨S4x2048x1024, .f32⟩
  | 4 => ⟨S4x2048x1024, .f32⟩
  | 5 => ⟨S4x2048x1024, .f32⟩
  | 6 => ⟨S1x1024, .f32⟩
  | 7 => ⟨S1024, .f32⟩
  | 8 => ⟨S1x1x1024, .f32⟩
  | 9 => ⟨S4x2048x1024, .f32⟩
  | 10 => ⟨S4x2048x1024, .f32⟩
  | 11 => ⟨S1x1024, .f32⟩
  | 12 => ⟨S1024, .f32⟩
  | 13 => ⟨S1x1024, .f32⟩
  | 14 => ⟨S1024, .f32⟩
  | 15 => ⟨S_, .f32⟩
  | 16 => ⟨S4x2048, .f32⟩
  | 17 => ⟨S4x2048x1, .f32⟩
  | 18 => ⟨S_, .f32⟩
  | 19 => ⟨S4x2048x1, .f32⟩
  | 20 => ⟨S4x2048x1, .f32⟩
  | 21 => ⟨S4x2048x1024, .f32⟩
  | 22 => ⟨S4x2048x1024, .f32⟩
  | 23 => ⟨S4x2048x1024, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S_, .f32⟩
  | 31 => ⟨S4x2048x1, .f32⟩
  | 32 => ⟨S4x2048x1, .f32⟩
  | 33 => ⟨S4x2048x1, .f32⟩
  | 34 => ⟨S4x2048x1024, .f32⟩
  | 35 => ⟨S4x2048x1024, .f32⟩
  | 36 => ⟨S1x1x1024, .f32⟩
  | 37 => ⟨S4x2048x1024, .f32⟩
  | 38 => ⟨S4x2048x1024, .f32⟩
  | 39 => ⟨S1x1x1024, .f32⟩
  | 40 => ⟨S4x2048x1024, .f32⟩
  | 41 => ⟨S4x2048x1024, .f32⟩
  | 42 => ⟨S4x2048x1024, .f32⟩
  | 43 => ⟨S4x2048x1024, .f32⟩
  | 44 => ⟨S_, .f32⟩
  | 45 => ⟨S4x2048x1024, .f32⟩
  | 46 => ⟨S4x2048x1024, .f32⟩
  | 47 => ⟨S_, .f32⟩
  | 48 => ⟨S4x2048x1024, .f32⟩
  | 49 => ⟨S4x2048x1024, .f32⟩
  | 50 => ⟨S4x2048x1024, .f32⟩
  | 51 => ⟨S_, .f32⟩
  | 52 => ⟨S4x15x1024, .f32⟩
  | 53 => ⟨S4x2063x1024, .f32⟩
  | 54 => ⟨S2048, .i32⟩
  | 55 => ⟨S4x2048x256, .f32⟩
  | 56 => ⟨S4x2048x256, .f32⟩
  | 57 => ⟨S4x2048x256, .f32⟩
  | 58 => ⟨S_, .i32⟩
  | 59 => ⟨S2048, .i32⟩
  | 60 => ⟨S2048, .i32⟩
  | 61 => ⟨S_, .i32⟩
  | 62 => ⟨S2048, .i32⟩
  | 63 => ⟨S2048, .i32⟩
  | 64 => ⟨S2048, .f32⟩
  | 65 => ⟨S1x2048x1, .f32⟩
  | 66 => ⟨S4x2048x256, .f32⟩
  | 67 => ⟨S4x2048x256, .f32⟩
  | 68 => ⟨S4x2048x256, .f32⟩
  | 69 => ⟨S4x2048x256, .f32⟩
  | 70 => ⟨S4x2048x256, .f32⟩
  | 71 => ⟨S4x2048x256, .f32⟩
  | 72 => ⟨S4x2048x256, .f32⟩
  | 73 => ⟨S4x2048x256, .f32⟩
  | 74 => ⟨S4x2048x256, .f32⟩
  | 75 => ⟨S_, .i32⟩
  | 76 => ⟨S2048, .i32⟩
  | 77 => ⟨S2048, .i32⟩
  | 78 => ⟨S_, .i32⟩
  | 79 => ⟨S2048, .i32⟩
  | 80 => ⟨S2048, .i32⟩
  | 81 => ⟨S2048, .f32⟩
  | 82 => ⟨S1x2048x1, .f32⟩
  | 83 => ⟨S4x2048x256, .f32⟩
  | 84 => ⟨S4x2048x256, .f32⟩
  | 85 => ⟨S4x2048x256, .f32⟩
  | 86 => ⟨S4x2048x256, .f32⟩
  | 87 => ⟨S4x2048x256, .f32⟩
  | 88 => ⟨S4x2048x256, .f32⟩
  | 89 => ⟨S4x2048x256, .f32⟩
  | 90 => ⟨S4x2048x256, .f32⟩
  | 91 => ⟨S4x2048x256, .f32⟩
  | 92 => ⟨S4x2048x256, .f32⟩
  | 93 => ⟨S4x2048x256, .f32⟩
  | 94 => ⟨S4x2048x256, .f32⟩
  | 95 => ⟨S4x2048x256, .f32⟩
  | 96 => ⟨S4x2048x256, .f32⟩
  | 97 => ⟨S4x2048x256, .f32⟩
  | 98 => ⟨S4x2048x256, .f32⟩
  | 99 => ⟨S4x2048x256, .f32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048, .f32⟩
  | 107 => ⟨S1x2048x1, .f32⟩
  | 108 => ⟨S4x2048x256, .f32⟩
  | 109 => ⟨S4x2048x256, .f32⟩
  | 110 => ⟨S4x2048x256, .f32⟩
  | 111 => ⟨S4x2048x256, .f32⟩
  | 112 => ⟨S4x2048x256, .f32⟩
  | 113 => ⟨S4x2048x256, .f32⟩
  | 114 => ⟨S4x2048x256, .f32⟩
  | 115 => ⟨S4x2048x256, .f32⟩
  | 116 => ⟨S4x2048x256, .f32⟩
  | 117 => ⟨S4x2048x256, .f32⟩
  | 118 => ⟨S4x2048x256, .f32⟩
  | 119 => ⟨S4x2048x256, .f32⟩
  | 120 => ⟨S4x2048x256, .f32⟩
  | 121 => ⟨S4x2048x256, .f32⟩
  | 122 => ⟨S4x2048x256, .f32⟩
  | 123 => ⟨S4x2048x256, .f32⟩
  | 124 => ⟨S4x2048x256, .f32⟩
  | 125 => ⟨S4x2048x256, .f32⟩
  | 126 => ⟨S4x2048x256, .f32⟩
  | 127 => ⟨S4x2048x256, .f32⟩
  | _ => ⟨S8704x1024, .f32⟩

abbrev hbmTy0_3 (i : Nat) : BufTy := match i % 128 with
  | 0 => ⟨S4x2048x256, .f32⟩
  | 1 => ⟨S4x2048x256, .f32⟩
  | 2 => ⟨S4x2048x256, .f32⟩
  | 3 => ⟨S4x2048x256, .f32⟩
  | 4 => ⟨S4x2048x256, .f32⟩
  | 5 => ⟨S4x2048x256, .f32⟩
  | 6 => ⟨S4x2048x256, .f32⟩
  | 7 => ⟨S4x2048x256, .f32⟩
  | 8 => ⟨S4x2048x256, .f32⟩
  | 9 => ⟨S4x2048x256, .f32⟩
  | 10 => ⟨S4x2048x256, .f32⟩
  | 11 => ⟨S4x2048x256, .f32⟩
  | 12 => ⟨S4x2048x256, .f32⟩
  | 13 => ⟨S_, .i32⟩
  | 14 => ⟨S2048, .i32⟩
  | 15 => ⟨S2048, .i32⟩
  | 16 => ⟨S_, .i32⟩
  | 17 => ⟨S2048, .i32⟩
  | 18 => ⟨S2048, .i32⟩
  | 19 => ⟨S2048, .f32⟩
  | 20 => ⟨S1x2048x1, .f32⟩
  | 21 => ⟨S4x2048x256, .f32⟩
  | 22 => ⟨S4x2048x256, .f32⟩
  | 23 => ⟨S4x2048x1x256, .f32⟩
  | 24 => ⟨S4x2048x1x256, .f32⟩
  | 25 => ⟨S4x2048x1x256, .f32⟩
  | 26 => ⟨S4x2048x1x256, .f32⟩
  | 27 => ⟨S4x2048x4x256, .f32⟩
  | 28 => ⟨S4x2048x4x256, .f32⟩
  | 29 => ⟨S4x2048x4x256, .f32⟩
  | 30 => ⟨S1x4x256x256, .f32⟩
  | 31 => ⟨S4x256x256, .f32⟩
  | 32 => ⟨S4x256x4x2048, .f32⟩
  | 33 => ⟨S4x2048x4x256, .f32⟩
  | 34 => ⟨S4x2048x1024, .f32⟩
  | 35 => ⟨S1x1024, .f32⟩
  | 36 => ⟨S1024, .f32⟩
  | 37 => ⟨S1x1x1024, .f32⟩
  | 38 => ⟨S4x2048x1024, .f32⟩
  | 39 => ⟨S4x2048x1024, .f32⟩
  | 40 => ⟨S8192x1024, .f32⟩
  | 41 => ⟨S_, .f32⟩
  | 42 => ⟨S512x1024, .f32⟩
  | 43 => ⟨S8704x1024, .f32⟩
  | 44 => ⟨S8704x1024, .bf16⟩
  | 45 => ⟨S8192x1024, .f32⟩
  | 46 => ⟨S_, .f32⟩
  | 47 => ⟨S512x1024, .f32⟩
  | 48 => ⟨S8704x1024, .f32⟩
  | 49 => ⟨S8704x1024, .bf16⟩
  | 50 => ⟨S8192x1024, .f32⟩
  | 51 => ⟨S_, .f32⟩
  | 52 => ⟨S512x1024, .f32⟩
  | 53 => ⟨S8704x1024, .f32⟩
  | 54 => ⟨S8704x1024, .bf16⟩
  | _ => ⟨S8704x1024, .f32⟩

abbrev hbmTy (i : Nat) : BufTy := match i / 128 with
  | 0 => hbmTy0_0 i
  | 1 => hbmTy0_1 i
  | 2 => hbmTy0_2 i
  | 3 => hbmTy0_3 i
  | _ => ⟨S8704x1024, .f32⟩

abbrev bufTy : (tb : Table) → Fin (tcTables nBuf tb) → BufTy
  | .hbm, ⟨i, _⟩ => hbmTy i
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_cst : Ref sig .tc := ⟨.hbm, 30, rfl⟩
abbrev main_call0_v6 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_v218 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_v233 : Ref sig .tc := ⟨.hbm, 255, rfl⟩
abbrev main_v234 : Ref sig .tc := ⟨.hbm, 256, rfl⟩
abbrev main_v235 : Ref sig .tc := ⟨.hbm, 257, rfl⟩
abbrev main_v236 : Ref sig .tc := ⟨.hbm, 258, rfl⟩
abbrev main_v237 : Ref sig .tc := ⟨.hbm, 259, rfl⟩
abbrev main_v238 : Ref sig .tc := ⟨.hbm, 260, rfl⟩
abbrev main_v239 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩
abbrev main_cst_0 : Ref sig .tc := ⟨.hbm, 271, rfl⟩
abbrev main_v249 : Ref sig .tc := ⟨.hbm, 272, rfl⟩
abbrev main_v250 : Ref sig .tc := ⟨.hbm, 273, rfl⟩
abbrev main_cst_1 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_cst_2 : Ref sig .tc := ⟨.hbm, 280, rfl⟩
abbrev main_v256 : Ref sig .tc := ⟨.hbm, 281, rfl⟩
abbrev main_v257 : Ref sig .tc := ⟨.hbm, 282, rfl⟩
abbrev main_cst_3 : Ref sig .tc := ⟨.hbm, 283, rfl⟩
abbrev main_v258 : Ref sig .tc := ⟨.hbm, 284, rfl⟩
abbrev main_v259 : Ref sig .tc := ⟨.hbm, 285, rfl⟩
abbrev main_cst_4 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_call1_v0 : Ref sig .tc := ⟨.hbm, 298, rfl⟩
abbrev main_call1_v1 : Ref sig .tc := ⟨.hbm, 299, rfl⟩
abbrev main_call1_cst : Ref sig .tc := ⟨.hbm, 300, rfl⟩
abbrev main_call1_v2 : Ref sig .tc := ⟨.hbm, 301, rfl⟩
abbrev main_call1_v3 : Ref sig .tc := ⟨.hbm, 302, rfl⟩
abbrev main_call1_cst_0 : Ref sig .tc := ⟨.hbm, 303, rfl⟩
abbrev main_call1_v4 : Ref sig .tc := ⟨.hbm, 304, rfl⟩
abbrev main_call1_v5 : Ref sig .tc := ⟨.hbm, 305, rfl⟩
abbrev main_v271 : Ref sig .tc := ⟨.hbm, 306, rfl⟩
abbrev main_cst_5 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_c : Ref sig .tc := ⟨.hbm, 314, rfl⟩
abbrev main_v278 : Ref sig .tc := ⟨.hbm, 315, rfl⟩
abbrev main_v279 : Ref sig .tc := ⟨.hbm, 316, rfl⟩
abbrev main_c_6 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_v284 : Ref sig .tc := ⟨.hbm, 322, rfl⟩
abbrev main_v285 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_v291 : Ref sig .tc := ⟨.hbm, 329, rfl⟩
abbrev main_v292 : Ref sig .tc := ⟨.hbm, 330, rfl⟩
abbrev main_c_7 : Ref sig .tc := ⟨.hbm, 331, rfl⟩
abbrev main_v293 : Ref sig .tc := ⟨.hbm, 332, rfl⟩
abbrev main_v294 : Ref sig .tc := ⟨.hbm, 333, rfl⟩
abbrev main_c_8 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_v299 : Ref sig .tc := ⟨.hbm, 339, rfl⟩
abbrev main_v300 : Ref sig .tc := ⟨.hbm, 340, rfl⟩
abbrev main_v301 : Ref sig .tc := ⟨.hbm, 341, rfl⟩
abbrev main_v302 : Ref sig .tc := ⟨.hbm, 342, rfl⟩
abbrev main_v303 : Ref sig .tc := ⟨.hbm, 343, rfl⟩
abbrev main_v304 : Ref sig .tc := ⟨.hbm, 344, rfl⟩
abbrev main_v305 : Ref sig .tc := ⟨.hbm, 345, rfl⟩
abbrev main_v306 : Ref sig .tc := ⟨.hbm, 346, rfl⟩
abbrev main_v307 : Ref sig .tc := ⟨.hbm, 347, rfl⟩
abbrev main_v308 : Ref sig .tc := ⟨.hbm, 348, rfl⟩
abbrev main_v309 : Ref sig .tc := ⟨.hbm, 349, rfl⟩
abbrev main_v310 : Ref sig .tc := ⟨.hbm, 350, rfl⟩
abbrev main_v311 : Ref sig .tc := ⟨.hbm, 351, rfl⟩
abbrev main_v312 : Ref sig .tc := ⟨.hbm, 352, rfl⟩
abbrev main_v313 : Ref sig .tc := ⟨.hbm, 353, rfl⟩
abbrev main_v314 : Ref sig .tc := ⟨.hbm, 354, rfl⟩
abbrev main_v315 : Ref sig .tc := ⟨.hbm, 355, rfl⟩
abbrev main_c_9 : Ref sig .tc := ⟨.hbm, 356, rfl⟩
abbrev main_v316 : Ref sig .tc := ⟨.hbm, 357, rfl⟩
abbrev main_v317 : Ref sig .tc := ⟨.hbm, 358, rfl⟩
abbrev main_c_10 : Ref sig .tc := ⟨.hbm, 359, rfl⟩
abbrev main_v318 : Ref sig .tc := ⟨.hbm, 360, rfl⟩
abbrev main_v319 : Ref sig .tc := ⟨.hbm, 361, rfl⟩
abbrev main_v320 : Ref sig .tc := ⟨.hbm, 362, rfl⟩
abbrev main_v321 : Ref sig .tc := ⟨.hbm, 363, rfl⟩
abbrev main_v322 : Ref sig .tc := ⟨.hbm, 364, rfl⟩
abbrev main_v323 : Ref sig .tc := ⟨.hbm, 365, rfl⟩
abbrev main_v324 : Ref sig .tc := ⟨.hbm, 366, rfl⟩
abbrev main_v325 : Ref sig .tc := ⟨.hbm, 367, rfl⟩
abbrev main_v326 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_v332 : Ref sig .tc := ⟨.hbm, 374, rfl⟩
abbrev main_v333 : Ref sig .tc := ⟨.hbm, 375, rfl⟩
abbrev main_v334 : Ref sig .tc := ⟨.hbm, 376, rfl⟩
abbrev main_v335 : Ref sig .tc := ⟨.hbm, 377, rfl⟩
abbrev main_v336 : Ref sig .tc := ⟨.hbm, 378, rfl⟩
abbrev main_v337 : Ref sig .tc := ⟨.hbm, 379, rfl⟩
abbrev main_v338 : Ref sig .tc := ⟨.hbm, 380, rfl⟩
abbrev main_v339 : Ref sig .tc := ⟨.hbm, 381, rfl⟩
abbrev main_v340 : Ref sig .tc := ⟨.hbm, 382, rfl⟩
abbrev main_v341 : Ref sig .tc := ⟨.hbm, 383, rfl⟩
abbrev main_v342 : Ref sig .tc := ⟨.hbm, 384, rfl⟩
abbrev main_v343 : Ref sig .tc := ⟨.hbm, 385, rfl⟩
abbrev main_v344 : Ref sig .tc := ⟨.hbm, 386, rfl⟩
abbrev main_v345 : Ref sig .tc := ⟨.hbm, 387, rfl⟩
abbrev main_v346 : Ref sig .tc := ⟨.hbm, 388, rfl⟩
abbrev main_v347 : Ref sig .tc := ⟨.hbm, 389, rfl⟩
abbrev main_v348 : Ref sig .tc := ⟨.hbm, 390, rfl⟩
abbrev main_v349 : Ref sig .tc := ⟨.hbm, 391, rfl⟩
abbrev main_v350 : Ref sig .tc := ⟨.hbm, 392, rfl⟩
abbrev main_v351 : Ref sig .tc := ⟨.hbm, 393, rfl⟩
abbrev main_v352 : Ref sig .tc := ⟨.hbm, 394, rfl⟩
abbrev main_v353 : Ref sig .tc := ⟨.hbm, 395, rfl⟩
abbrev main_v354 : Ref sig .tc := ⟨.hbm, 396, rfl⟩
abbrev main_c_11 : Ref sig .tc := ⟨.hbm, 397, rfl⟩
abbrev main_v355 : Ref sig .tc := ⟨.hbm, 398, rfl⟩
abbrev main_v356 : Ref sig .tc := ⟨.hbm, 399, rfl⟩
abbrev main_c_12 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_v362 : Ref sig .tc := ⟨.hbm, 406, rfl⟩
abbrev main_v363 : Ref sig .tc := ⟨.hbm, 407, rfl⟩
abbrev main_v364 : Ref sig .tc := ⟨.hbm, 408, rfl⟩
abbrev main_v365 : Ref sig .tc := ⟨.hbm, 409, rfl⟩
abbrev main_v366 : Ref sig .tc := ⟨.hbm, 410, rfl⟩
abbrev main_v367 : Ref sig .tc := ⟨.hbm, 411, rfl⟩
abbrev main_v368 : Ref sig .tc := ⟨.hbm, 412, rfl⟩
abbrev main_v369 : Ref sig .tc := ⟨.hbm, 413, rfl⟩
abbrev main_v370 : Ref sig .tc := ⟨.hbm, 414, rfl⟩
abbrev main_v371 : Ref sig .tc := ⟨.hbm, 415, rfl⟩
abbrev main_v372 : Ref sig .tc := ⟨.hbm, 416, rfl⟩
abbrev main_v373 : Ref sig .tc := ⟨.hbm, 417, rfl⟩
abbrev main_v374 : Ref sig .tc := ⟨.hbm, 418, rfl⟩
abbrev main_v375 : Ref sig .tc := ⟨.hbm, 419, rfl⟩
abbrev main_v376 : Ref sig .tc := ⟨.hbm, 420, rfl⟩
abbrev main_v377 : Ref sig .tc := ⟨.hbm, 421, rfl⟩
abbrev main_v378 : Ref sig .tc := ⟨.hbm, 422, rfl⟩
abbrev main_v379 : Ref sig .tc := ⟨.hbm, 423, rfl⟩
abbrev main_v380 : Ref sig .tc := ⟨.hbm, 424, rfl⟩
abbrev main_cst_13 : Ref sig .tc := ⟨.hbm, 425, rfl⟩
abbrev main_v381 : Ref sig .tc := ⟨.hbm, 426, rfl⟩
abbrev main_v382 : Ref sig .tc := ⟨.hbm, 427, rfl⟩
abbrev main_v383 : Ref sig .tc := ⟨.hbm, 428, rfl⟩
abbrev main_v384 : Ref sig .tc := ⟨.hbm, 429, rfl⟩
abbrev main_cst_14 : Ref sig .tc := ⟨.hbm, 430, rfl⟩
abbrev main_v385 : Ref sig .tc := ⟨.hbm, 431, rfl⟩
abbrev main_v386 : Ref sig .tc := ⟨.hbm, 432, rfl⟩
abbrev main_v387 : Ref sig .tc := ⟨.hbm, 433, rfl⟩
abbrev main_v388 : Ref sig .tc := ⟨.hbm, 434, rfl⟩
abbrev main_cst_15 : Ref sig .tc := ⟨.hbm, 435, rfl⟩
abbrev main_v389 : Ref sig .tc := ⟨.hbm, 436, rfl⟩
abbrev main_v390 : Ref sig .tc := ⟨.hbm, 437, rfl⟩
abbrev main_v391 : Ref sig .tc := ⟨.hbm, 438, rfl⟩

abbrev nD : Nat := 1
abbrev τ : Topo := Topo.v7x

variable {F : FTy → Type} [FloatOps F]
-- ==== Kernel2.lean ====
abbrev S8704x2048 : Shape := ⟨2, ![8704, 2048]⟩
abbrev S2x2048x11264 : Shape := ⟨3, ![2, 2048, 11264]⟩
abbrev S8704x6144 : Shape := ⟨2, ![8704, 6144]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2x2048x11264, .f32⟩
  | .hbm, ⟨2, _⟩ => ⟨S8704x6144, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1088x1024, .bf16⟩
  | .local _ .vmem, ⟨5, _⟩ => ⟨S1088x1024, .bf16⟩
  | .local _ .vmem, ⟨6, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8704x2048 : Shape := ⟨2, ![8704, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S8704x11264 : Shape := ⟨2, ![8704, 11264]⟩
abbrev S8704x6144 : Shape := ⟨2, ![8704, 6144]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x11264, .f32⟩
  | .hbm, ⟨2, _⟩ => ⟨S8704x2048, .f32⟩
  | .hbm, ⟨3, _⟩ => ⟨S1x2048x11264, .f32⟩
  | .hbm, ⟨4, _⟩ => ⟨S2048x11264, .f32⟩
  | .hbm, ⟨5, _⟩ => ⟨S8704x11264, .f32⟩
  | .hbm, ⟨6, _⟩ => ⟨S8704x6144, .f32⟩
  | .hbm, ⟨7, _⟩ => ⟨S8704x6144, .f32⟩
  | .hbm, ⟨8, _⟩ => ⟨S8704x6144, .f32⟩
  | .hbm, ⟨9, _⟩ => ⟨S_, .f32⟩
  | .hbm, ⟨10, _⟩ => ⟨S8704x6144, .f32⟩
  | .hbm, ⟨11, _⟩ => ⟨S8704x6144, .f32⟩
  | .hbm, ⟨12, _⟩ => ⟨S_, .f32⟩
  | .hbm, ⟨13, _⟩ => ⟨S8704x6144, .f32⟩
  | .hbm, ⟨14, _⟩ => ⟨S8704x6144, .f32⟩
  | .hbm, ⟨15, _⟩ => ⟨S8704x6144, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel3.lean ====
abbrev S8704x2048 : Shape := ⟨2, ![8704, 2048]⟩
abbrev S2x2048x11264 : Shape := ⟨3, ![2, 2048, 11264]⟩
abbrev S8704x1024 : Shape := ⟨2, ![8704, 1024]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2x2048x11264, .f32⟩
  | .hbm, ⟨2, _⟩ => ⟨S8704x1024, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1088x1024, .f32⟩
  | .local _ .vmem, ⟨4, _⟩ => ⟨S1088x1024, .f32⟩
  | .local _ .vmem, ⟨5, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8704x2048 : Shape := ⟨2, ![8704, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S8704x11264 : Shape := ⟨2, ![8704, 11264]⟩
abbrev S8704x1024 : Shape := ⟨2, ![8704, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x11264, .f32⟩
  | .hbm, ⟨2, _⟩ => ⟨S8704x2048, .f32⟩
  | .hbm, ⟨3, _⟩ => ⟨S1x2048x11264, .f32⟩
  | .hbm, ⟨4, _⟩ => ⟨S2048x11264, .f32⟩
  | .hbm, ⟨5, _⟩ => ⟨S8704x11264, .f32⟩
  | .hbm, ⟨6, _⟩ => ⟨S8704x1024, .f32⟩
  | .hbm, ⟨7, _⟩ => ⟨S8704x1024, .f32⟩
  | .hbm, ⟨8, _⟩ => ⟨S8704x1024, .f32⟩
  | .hbm, ⟨9, _⟩ => ⟨S_, .f32⟩
  | .hbm, ⟨10, _⟩ => ⟨S8704x1024, .f32⟩
  | .hbm, ⟨11, _⟩ => ⟨S8704x1024, .f32⟩
  | .hbm, ⟨12, _⟩ => ⟨S8704x1024, .f32⟩
  | .hbm, ⟨13, _⟩ => ⟨S_, .f32⟩
  | .hbm, ⟨14, _⟩ => ⟨S8704x1024, .f32⟩
  | .hbm, ⟨15, _⟩ => ⟨S8704x1024, .f32⟩
  | .hbm, ⟨16, _⟩ => ⟨S8704x1024, .f32⟩
  | .hbm, ⟨17, _⟩ => ⟨S_, .f32⟩
  | .hbm, ⟨18, _⟩ => ⟨S8704x1024, .f32⟩
  | .hbm, ⟨19, _⟩ => ⟨S8704x1024, .f32⟩
  | .hbm, ⟨20, _⟩ => ⟨S_, .f32⟩
  | .hbm, ⟨21, _⟩ => ⟨S8704x1024, .f32⟩
  | .hbm, ⟨22, _⟩ => ⟨S8704x1024, .f32⟩
  | .hbm, ⟨23, _⟩ => ⟨S8704x1024, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S8704x2048 : Shape := ⟨2, ![8704, 2048]⟩
abbrev S2x2048x11264 : Shape := ⟨3, ![2, 2048, 11264]⟩
abbrev S2x1024 : Shape := ⟨2, ![2, 1024]⟩
abbrev S2x1x1024 : Shape := ⟨3, ![2, 1, 1024]⟩
abbrev S8704x1024 : Shape := ⟨2, ![8704, 1024]⟩
abbrev S1088x2048 : Shape := ⟨2, ![1088, 2048]⟩
abbrev S1x2048x1024 : Shape := ⟨3, ![1, 2048, 1024]⟩
abbrev S1x1x1024 : Shape := ⟨3, ![1, 1, 1024]⟩
abbrev S1088x1024 : Shape := ⟨2, ![1088, 1024]⟩
abbrev S2048x1024 : Shape := ⟨2, ![2048, 1024]⟩
abbrev S1x1024 : Shape := ⟨2, ![1, 1024]⟩
abbrev S1088 : Shape := ⟨1, ![1088]⟩
abbrev S1088x1 : Shape := ⟨2, ![1088, 1]⟩

abbrev nBuf : Space → Nat
  | .hbm => 7
  | .vmem => 8
  | .smem => 0
  | _ => 0

abbrev bufTy : (tb : Table) → Fin (tcTables nBuf tb) → BufTy
  | .hbm, ⟨0, _⟩ => ⟨S8704x2048, .bf16⟩
  | .hbm, ⟨1, _⟩ => ⟨S2x2048x11264, .f32⟩
  | .hbm, ⟨2, _⟩ => ⟨S2x1024, .f32⟩
  | .hbm, ⟨3, _⟩ => ⟨S2x1024, .f32⟩
  | .hbm, ⟨4, _⟩ => ⟨S2x1x1024, .f32⟩
  | .hbm, ⟨5, _⟩ => ⟨S2x1x1024, .f32⟩
  | .hbm, ⟨6, _⟩ => ⟨S8704x1024, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1088x1024, .f32⟩
  | .local _ .vmem, ⟨6, _⟩ => ⟨S1088x1024, .f32⟩
  | .local _ .vmem, ⟨7, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8704x2048 : Shape := ⟨2, ![8704, 2048]⟩
abbrev S2x2048x11264 : Shape := ⟨3, ![2, 2048, 11264]⟩
abbrev S2x1024 : Shape := ⟨2, ![2, 1024]⟩
abbrev S1x2048x11264 : Shape := ⟨3, ![1, 2048, 11264]⟩
abbrev S2048x11264 : Shape := ⟨2, ![2048, 11264]⟩
abbrev S8704x11264 : Shape := ⟨2, ![8704, 11264]⟩
abbrev S8704x1024 : Shape := ⟨2, ![8704, 1024]⟩
abbrev S_ : Shape := ⟨0, ![]⟩
abbrev S1x1024 : Shape := ⟨2, ![1, 1024]⟩
abbrev S1024 : Shape := ⟨1, ![1024]⟩
abbrev S8704 : Shape := ⟨1, ![8704]⟩
abbrev S8704x1 : Shape := ⟨2, ![8704, 1]⟩

abbrev nBuf : Space → Nat
  | .hbm => 57
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x11264, .f32⟩
  | .hbm, ⟨2, _⟩ => ⟨S2x1024, .f32⟩
  | .hbm, ⟨3, _⟩ => ⟨S2x1024, .f32⟩
  | .hbm, ⟨4, _⟩ => ⟨S8704x2048, .f32⟩
  | .hbm, ⟨5, _⟩ => ⟨S1x2048x11264, .f32⟩
  | .hbm, ⟨6, _⟩ => ⟨S2048x11264, .f32⟩
  | .hbm, ⟨7, _⟩ => ⟨S8704x11264, .f32⟩
  | .hbm, ⟨8, _⟩ => ⟨S8704x1024, .f32⟩
  | .hbm, ⟨9, _⟩ => ⟨S8704x1024, .f32⟩
  | .hbm, ⟨10, _⟩ => ⟨S8704x1024, .f32⟩
  | .hbm, ⟨11, _⟩ => ⟨S_, .f32⟩
  | .hbm, ⟨12, _⟩ => ⟨S8704x1024, .f32⟩
  | .hbm, ⟨13, _⟩ => ⟨S8704x1024, .f32⟩
  | .hbm, ⟨14, _⟩ => ⟨S8704x1024, .f32⟩
  | .hbm, ⟨15, _⟩ => ⟨S_, .f32⟩
  | .hbm, ⟨16, _⟩ => ⟨S8704x1024, .f32⟩
  | .hbm, ⟨17, _⟩ => ⟨S8704x1024, .f32⟩
  | .hbm, ⟨18, _⟩ => ⟨S8704x1024, .f32⟩
  | .hbm, ⟨19, _⟩ => ⟨S_, .f32⟩
  | .hbm, ⟨20, _⟩ => ⟨S8704x1024, .f32⟩
  | .hbm, ⟨21, _⟩ => ⟨S8704x1024, .f32⟩
  | .hbm, ⟨22, _⟩ => ⟨S_, .f32⟩
  | .hbm, ⟨23, _⟩ => ⟨S8704x1024, .f32⟩
  | .hbm, ⟨24, _⟩ => ⟨S8704x1024, .f32⟩
  | .hbm, ⟨25, _⟩ => ⟨S8704x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S_, .f32⟩
  | .hbm, ⟨31, _⟩ => ⟨S8704, .f32⟩
  | .hbm, ⟨32, _⟩ => ⟨S8704x1, .f32⟩
  | .hbm, ⟨33, _⟩ => ⟨S_, .f32⟩
  | .hbm, ⟨34, _⟩ => ⟨S8704x1, .f32⟩
  | .hbm, ⟨35, _⟩ => ⟨S8704x1, .f32⟩
  | .hbm, ⟨36, _⟩ => ⟨S8704x1024, .f32⟩
  | .hbm, ⟨37, _⟩ => ⟨S8704x1024, .f32⟩
  | .hbm, ⟨38, _⟩ => ⟨S8704x1024, .f32⟩
  | .hbm, ⟨39, _⟩ => ⟨S_, .f32⟩
  | .hbm, ⟨40, _⟩ => ⟨S8704, .f32⟩
  | .hbm, ⟨41, _⟩ => ⟨S8704x1, .f32⟩
  | .hbm, ⟨42, _⟩ => ⟨S_, .f32⟩
  | .hbm, ⟨43, _⟩ => ⟨S8704x1, .f32⟩
  | .hbm, ⟨44, _⟩ => ⟨S8704x1, .f32⟩
  | .hbm, ⟨45, _⟩ => ⟨S_, .f32⟩
  | .hbm, ⟨46, _⟩ => ⟨S8704x1, .f32⟩
  | .hbm, ⟨47, _⟩ => ⟨S8704x1, .f32⟩
  | .hbm, ⟨48, _⟩ => ⟨S8704x1, .f32⟩
  | .hbm, ⟨49, _⟩ => ⟨S8704x1024, .f32⟩
  | .hbm, ⟨50, _⟩ => ⟨S8704x1024, .f32⟩
  | .hbm, ⟨51, _⟩ => ⟨S1x1024, .f32⟩
  | .hbm, ⟨52, _⟩ => ⟨S8704x1024, .f32⟩
  | .hbm, ⟨53, _⟩ => ⟨S8704x1024, .f32⟩
  | .hbm, ⟨54, _⟩ => ⟨S1x1024, .f32⟩
  | .hbm, ⟨55, _⟩ => ⟨S8704x1024, .f32⟩
  | .hbm, ⟨56, _⟩ => ⟨S8704x1024, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel5.lean ====
abbrev S8704x2048 : Shape := ⟨2, ![8704, 2048]⟩
abbrev S2x2048x11264 : Shape := ⟨3, ![2, 2048, 11264]⟩
abbrev S8704x1024 : Shape := ⟨2, ![8704, 1024]⟩
abbrev S1088x2048 : Shape := ⟨2, ![1088, 2048]⟩
abbrev S1x2048x512 : Shape := ⟨3, ![1, 2048, 512]⟩
abbrev S1088x512 : Shape := ⟨2, ![1088, 512]⟩
abbrev S2048x512 : Shape := ⟨2, ![2048, 512]⟩

abbrev nBuf : Space → Nat
  | .hbm => 3
  | .vmem => 10
  | .smem => 0
  | _ => 0

abbrev bufTy : (tb : Table) → Fin (tcTables nBuf tb) → BufTy
  | .hbm, ⟨0, _⟩ => ⟨S8704x2048, .bf16⟩
  | .hbm, ⟨1, _⟩ => ⟨S2x2048x11264, .f32⟩
  | .hbm, ⟨2, _⟩ => ⟨S8704x1024, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1088x512, .f32⟩
  | .local _ .vmem, ⟨7, _⟩ => ⟨S1088x512, .f32⟩
  | .local _ .vmem, ⟨8, _⟩ => ⟨S2048x512, .bf16⟩
  | .local _ .vmem, ⟨9, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8704x2048 : Shape := ⟨2, ![8704, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S8704x11264 : Shape := ⟨2, ![8704, 11264]⟩
abbrev S8704x1024 : Shape := ⟨2, ![8704, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x11264, .f32⟩
  | .hbm, ⟨2, _⟩ => ⟨S8704x2048, .f32⟩
  | .hbm, ⟨3, _⟩ => ⟨S1x2048x11264, .f32⟩
  | .hbm, ⟨4, _⟩ => ⟨S2048x11264, .f32⟩
  | .hbm, ⟨5, _⟩ => ⟨S8704x11264, .f32⟩
  | .hbm, ⟨6, _⟩ => ⟨S8704x2048, .f32⟩
  | .hbm, ⟨7, _⟩ => ⟨S8704x1024, .f32⟩
  | .hbm, ⟨8, _⟩ => ⟨S8704x1024, .f32⟩
  | .hbm, ⟨9, _⟩ => ⟨S8704x1024, .f32⟩
  | .hbm, ⟨10, _⟩ => ⟨S8704x1024, .f32⟩
  | .hbm, ⟨11, _⟩ => ⟨S_, .f32⟩
  | .hbm, ⟨12, _⟩ => ⟨S8704x1024, .f32⟩
  | .hbm, ⟨13, _⟩ => ⟨S8704x1024, .f32⟩
  | .hbm, ⟨14, _⟩ => ⟨S_, .f32⟩
  | .hbm, ⟨15, _⟩ => ⟨S8704x1024, .f32⟩
  | .hbm, ⟨16, _⟩ => ⟨S8704x1024, .f32⟩
  | .hbm, ⟨17, _⟩ => ⟨S8704x1024, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel6.lean ====
abbrev S8704x2048 : Shape := ⟨2, ![8704, 2048]⟩
abbrev S2x2048x11264 : Shape := ⟨3, ![2, 2048, 11264]⟩
abbrev S8704x1024 : Shape := ⟨2, ![8704, 1024]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2x2048x11264, .f32⟩
  | .hbm, ⟨2, _⟩ => ⟨S8704x1024, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1088x1024, .f32⟩
  | .local _ .vmem, ⟨4, _⟩ => ⟨S1088x1024, .f32⟩
  | .local _ .vmem, ⟨5, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8704x2048 : Shape := ⟨2, ![8704, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S8704x11264 : Shape := ⟨2, ![8704, 11264]⟩
abbrev S8704x1024 : Shape := ⟨2, ![8704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x11264, .f32⟩
  | .hbm, ⟨2, _⟩ => ⟨S8704x2048, .f32⟩
  | .hbm, ⟨3, _⟩ => ⟨S1x2048x11264, .f32⟩
  | .hbm, ⟨4, _⟩ => ⟨S2048x11264, .f32⟩
  | .hbm, ⟨5, _⟩ => ⟨S8704x11264, .f32⟩
  | .hbm, ⟨6, _⟩ => ⟨S8704x1024, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S8704x2048 : Shape := ⟨2, ![8704, 2048]⟩
abbrev S2x2048x2048 : Shape := ⟨3, ![2, 2048, 2048]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x2048, .bf16⟩
  | .hbm, ⟨1, _⟩ => ⟨S2x2048x2048, .f32⟩
  | .hbm, ⟨2, _⟩ => ⟨S8704x2048, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1088x1024, .bf16⟩
  | .local _ .vmem, ⟨5, _⟩ => ⟨S1088x1024, .bf16⟩
  | .local _ .vmem, ⟨6, _⟩ => ⟨S2048x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8704x2048 : Shape := ⟨2, ![8704, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x2048, .f32⟩
  | .hbm, ⟨2, _⟩ => ⟨S8704x2048, .f32⟩
  | .hbm, ⟨3, _⟩ => ⟨S1x2048x2048, .f32⟩
  | .hbm, ⟨4, _⟩ => ⟨S2048x2048, .f32⟩
  | .hbm, ⟨5, _⟩ => ⟨S8704x2048, .f32⟩
  | .hbm, ⟨6, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S8704x1024 : Shape := ⟨2, ![8704, 1024]⟩
abbrev S8704x6144 : Shape := ⟨2, ![8704, 6144]⟩
abbrev S8704x2048 : Shape := ⟨2, ![8704, 2048]⟩
abbrev S2x3x1024x2048 : Shape := ⟨4, ![2, 3, 1024, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S256x1024 : Shape := ⟨2, ![256, 1024]⟩
abbrev S256x2048 : Shape := ⟨2, ![256, 2048]⟩
abbrev S1x3x1024x2048 : Shape := ⟨4, ![1, 3, 1024, 2048]⟩
abbrev S1x2048x2048 : Shape := ⟨3, ![1, 2048, 2048]⟩
abbrev S1x1x2048 : Shape := ⟨3, ![1, 1, 2048]⟩
abbrev S1x1x1024x2048 : Shape := ⟨4, ![1, 1, 1024, 2048]⟩
abbrev S1024x2048 : Shape := ⟨2, ![1024, 2048]⟩
abbrev S2048x2048 : Shape := ⟨2, ![2048, 2048]⟩
abbrev S1x2048 : Shape := ⟨2, ![1, 2048]⟩
abbrev S256 : Shape := ⟨1, ![256]⟩
abbrev S256x1 : Shape := ⟨2, ![256, 1]⟩

abbrev nBuf : Space → Nat
  | .hbm => 13
  | .vmem => 21
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x6144, .bf16⟩
  | .hbm, ⟨4, _⟩ => ⟨S8704x2048, .f32⟩
  | .hbm, ⟨5, _⟩ => ⟨S2x3x1024x2048, .f32⟩
  | .hbm, ⟨6, _⟩ => ⟨S2x2048x2048, .f32⟩
  | .hbm, ⟨7, _⟩ => ⟨S2x2048, .f32⟩
  | .hbm, ⟨8, _⟩ => ⟨S2x3x1024x2048, .bf16⟩
  | .hbm, ⟨9, _⟩ => ⟨S2x2048x2048, .bf16⟩
  | .hbm, ⟨10, _⟩ => ⟨S2x1x2048, .f32⟩
  | .hbm, ⟨11, _⟩ => ⟨S8704x2048, .f32⟩
  | .hbm, ⟨12, _⟩ => ⟨S8704x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1x3x1024x2048, .bf16⟩
  | .local _ .vmem, ⟨15, _⟩ => ⟨S1x2048x2048, .bf16⟩
  | .local _ .vmem, ⟨16, _⟩ => ⟨S1x1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference8Ideal.lean ====
abbrev S8704x1024 : Shape := ⟨2, ![8704, 1024]⟩
abbrev S8704x6144 : Shape := ⟨2, ![8704, 6144]⟩
abbrev S8704x2048 : Shape := ⟨2, ![8704, 2048]⟩
abbrev S2x3x1024x2048 : Shape := ⟨4, ![2, 3, 1024, 2048]⟩
abbrev S2x2048x2048 : Shape := ⟨3, ![2, 2048, 2048]⟩
abbrev S2x2048 : Shape := ⟨2, ![2, 2048]⟩
abbrev S8704x1x1024 : Shape := ⟨3, ![8704, 1, 1024]⟩
abbrev S8704x3x1024 : Shape := ⟨3, ![8704, 3, 1024]⟩
abbrev S1x3x1024x2048 : Shape := ⟨4, ![1, 3, 1024, 2048]⟩
abbrev S3x1024x2048 : Shape := ⟨3, ![3, 1024, 2048]⟩
abbrev S3x2048x8704 : Shape := ⟨3, ![3, 2048, 8704]⟩
abbrev S8704x3x2048 : Shape := ⟨3, ![8704, 3, 2048]⟩
abbrev S_ : Shape := ⟨0, ![]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S8704 : Shape := ⟨1, ![8704]⟩
abbrev S8704x1 : Shape := ⟨2, ![8704, 1]⟩

abbrev nBuf : Space → Nat
  | .hbm => 45
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S8704x1024, .bf16⟩
  | .hbm, ⟨3, _⟩ => ⟨S8704x6144, .bf16⟩
  | .hbm, ⟨4, _⟩ => ⟨S8704x2048, .f32⟩
  | .hbm, ⟨5, _⟩ => ⟨S2x3x1024x2048, .f32⟩
  | .hbm, ⟨6, _⟩ => ⟨S2x2048x2048, .f32⟩
  | .hbm, ⟨7, _⟩ => ⟨S2x2048, .f32⟩
  | .hbm, ⟨8, _⟩ => ⟨S8704x1x1024, .bf16⟩
  | .hbm, ⟨9, _⟩ => ⟨S8704x1x1024, .bf16⟩
  | .hbm, ⟨10, _⟩ => ⟨S8704x1x1024, .bf16⟩
  | .hbm, ⟨11, _⟩ => ⟨S8704x3x1024, .bf16⟩
  | .hbm, ⟨12, _⟩ => ⟨S8704x3x1024, .f32⟩
  | .hbm, ⟨13, _⟩ => ⟨S1x3x1024x2048, .f32⟩
  | .hbm, ⟨14, _⟩ => ⟨S3x1024x2048, .f32⟩
  | .hbm, ⟨15, _⟩ => ⟨S3x2048x8704, .f32⟩
  | .hbm, ⟨16, _⟩ => ⟨S8704x3x2048, .f32⟩
  | .hbm, ⟨17, _⟩ => ⟨S8704x6144, .f32⟩
  | .hbm, ⟨18, _⟩ => ⟨S8704x3x2048, .f32⟩
  | .hbm, ⟨19, _⟩ => ⟨S8704x3x2048, .f32⟩
  | .hbm, ⟨20, _⟩ => ⟨S_, .f32⟩
  | .hbm, ⟨21, _⟩ => ⟨S8704x2048, .f32⟩
  | .hbm, ⟨22, _⟩ => ⟨S1x2048x2048, .f32⟩
  | .hbm, ⟨23, _⟩ => ⟨S2048x2048, .f32⟩
  | .hbm, ⟨24, _⟩ => ⟨S8704x2048, .f32⟩
  | .hbm, ⟨25, _⟩ => ⟨S8704x2048, .f32⟩
  | .hbm, ⟨26, _⟩ => ⟨S1x2048, .f32⟩
  | .hbm, ⟨27, _⟩ => ⟨S2048, .f32⟩
  | .hbm, ⟨28, _⟩ => ⟨S8704x2048, .f32⟩
  | .hbm, ⟨29, _⟩ => ⟨S_, .f32⟩
  | .hbm, ⟨30, _⟩ => ⟨S8704, .f32⟩
  | .hbm, ⟨31, _⟩ => ⟨S8704x1, .f32⟩
  | .hbm, ⟨32, _⟩ => ⟨S_, .f32⟩
  | .hbm, ⟨33, _⟩ => ⟨S8704x1, .f32⟩
  | .hbm, ⟨34, _⟩ => ⟨S8704x1, .f32⟩
  | .hbm, ⟨35, _⟩ => ⟨S_, .f32⟩
  | .hbm, ⟨36, _⟩ => ⟨S8704x1, .f32⟩
  | .hbm, ⟨37, _⟩ => ⟨S8704x1, .f32⟩
  | .hbm, ⟨38, _⟩ => ⟨S8704x1, .f32⟩
  | .hbm, ⟨39, _⟩ => ⟨S8704x2048, .f32⟩
  | .hbm, ⟨40, _⟩ => ⟨S8704x2048, .f32⟩
  | .hbm, ⟨41, _⟩ => ⟨S1x2048, .f32⟩
  | .hbm, ⟨42, _⟩ => ⟨S8704x2048, .f32⟩
  | .hbm, ⟨43, _⟩ => ⟨S8704x2048, .f32⟩
  | .hbm, ⟨44, _⟩ => ⟨S8704x2048, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel9.lean ====
abbrev S8704x2048 : Shape := ⟨2, ![8704, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8704x2048, .bf16⟩
  | .hbm, ⟨1, _⟩ => ⟨S2x2048x2048, .f32⟩
  | .hbm, ⟨2, _⟩ => ⟨S8704x2048, .f32⟩
  | .hbm, ⟨3, _⟩ => ⟨S2x2048, .f32⟩
  | .hbm, ⟨4, _⟩ => ⟨S2x2048x2048, .bf16⟩
  | .hbm, ⟨5, _⟩ => ⟨S2x1x2048, .f32⟩
  | .hbm, ⟨6, _⟩ => ⟨S8704x2048, .f32⟩
  | .hbm, ⟨7, _⟩ => ⟨S8704x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8704x2048 : Shape := ⟨2, ![8704, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩

abbrev nBuf : Space → Nat
  | .hbm => 28
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x2048, .f32⟩
  | .hbm, ⟨2, _⟩ => ⟨S8704x2048, .f32⟩
  | .hbm, ⟨3, _⟩ => ⟨S2x2048, .f32⟩
  | .hbm, ⟨4, _⟩ => ⟨S8704x2048, .f32⟩
  | .hbm, ⟨5, _⟩ => ⟨S1x2048x2048, .f32⟩
  | .hbm, ⟨6, _⟩ => ⟨S2048x2048, .f32⟩
  | .hbm, ⟨7, _⟩ => ⟨S8704x2048, .f32⟩
  | .hbm, ⟨8, _⟩ => ⟨S8704x2048, .f32⟩
  | .hbm, ⟨9, _⟩ => ⟨S1x2048, .f32⟩
  | .hbm, ⟨10, _⟩ => ⟨S2048, .f32⟩
  | .hbm, ⟨11, _⟩ => ⟨S8704x2048, .f32⟩
  | .hbm, ⟨12, _⟩ => ⟨S_, .f32⟩
  | .hbm, ⟨13, _⟩ => ⟨S8704, .f32⟩
  | .hbm, ⟨14, _⟩ => ⟨S8704x1, .f32⟩
  | .hbm, ⟨15, _⟩ => ⟨S_, .f32⟩
  | .hbm, ⟨16, _⟩ => ⟨S8704x1, .f32⟩
  | .hbm, ⟨17, _⟩ => ⟨S8704x1, .f32⟩
  | .hbm, ⟨18, _⟩ => ⟨S_, .f32⟩
  | .hbm, ⟨19, _⟩ => ⟨S8704x1, .f32⟩
  | .hbm, ⟨20, _⟩ => ⟨S8704x1, .f32⟩
  | .hbm, ⟨21, _⟩ => ⟨S8704x1, .f32⟩
  | .hbm, ⟨22, _⟩ => ⟨S8704x2048, .f32⟩
  | .hbm, ⟨23, _⟩ => ⟨S8704x2048, .f32⟩
  | .hbm, ⟨24, _⟩ => ⟨S1x2048, .f32⟩
  | .hbm, ⟨25, _⟩ => ⟨S8704x2048, .f32⟩
  | .hbm, ⟨26, _⟩ => ⟨S8704x2048, .f32⟩
  | .hbm, ⟨27, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel10.lean ====
abbrev S8704x2048 : Shape := ⟨2, ![8704, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S2x1x2048 : Shape := ⟨3, ![2, 1, 2048]⟩
abbrev S512x2048 : Shape := ⟨2, ![512, 2048]⟩
abbrev S1x1x2048 : Shape := ⟨3, ![1, 1, 2048]⟩
abbrev S3x2048x1024 : Shape := ⟨3, ![3, 2048, 1024]⟩
abbrev S3x1024x2048 : Shape := ⟨3, ![3, 1024, 2048]⟩
abbrev S2x3 : Shape := ⟨2, ![2, 3]⟩
abbrev S1x1 : Shape := ⟨2, ![1, 1]⟩
abbrev S_ : Shape := ⟨0, ![]⟩
abbrev S1x2048x1024 : Shape := ⟨3, ![1, 2048, 1024]⟩
abbrev S2048x1024 : Shape := ⟨2, ![2048, 1024]⟩
abbrev S1x1024x2048 : Shape := ⟨3, ![1, 1024, 2048]⟩
abbrev S1024x2048 : Shape := ⟨2, ![1024, 2048]⟩
abbrev S512x1024 : Shape := ⟨2, ![512, 1024]⟩
abbrev S1x2048 : Shape := ⟨2, ![1, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8704x2048, .bf16⟩
  | .hbm, ⟨1, _⟩ => ⟨S2x2048x8192, .f32⟩
  | .hbm, ⟨2, _⟩ => ⟨S2x8192x2048, .f32⟩
  | .hbm, ⟨3, _⟩ => ⟨S8704x2048, .f32⟩
  | .hbm, ⟨4, _⟩ => ⟨S2x2048, .f32⟩
  | .hbm, ⟨5, _⟩ => ⟨S2x2048x8192, .bf16⟩
  | .hbm, ⟨6, _⟩ => ⟨S2x8192x2048, .bf16⟩
  | .hbm, ⟨7, _⟩ => ⟨S2x1x2048, .f32⟩
  | .hbm, ⟨8, _⟩ => ⟨S8704x2048, .f32⟩
  | .hbm, ⟨9, _⟩ => ⟨S8704x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S3x2048x1024, .bf16⟩
  | .local _ .vmem, ⟨11, _⟩ => ⟨S3x1024x2048, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_25 : BitVec 32 := 0#32
  c0_i32_25
def k0_mult2 : BitVec 32 :=
  let c1024_i32 : BitVec 32 := 1024#32
  c1024_i32
def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c3_i32 : BitVec 32 := 3#32
  let c0_i32_3 : BitVec 32 := 0#32
  let v8 : BitVec 1 := Scalar.cmpi .eq c3_i32 c0_i32_3
  let c1_i32 : BitVec 32 := 1#32
  let v9 : BitVec 32 := Scalar.select v8 c1_i32 c3_i32
  let v10 : BitVec 32 := Scalar.remsi v1 v9
  let c0_i32_5 : BitVec 32 := 0#32
  let v12 : BitVec 1 := Scalar.cmpi .slt v10 c0_i32_5
  let c0_i32_6 : BitVec 32 := 0#32
  let v13 : BitVec 1 := Scalar.cmpi .slt v9 c0_i32_6
  let v14 : BitVec 1 := Scalar.xori v12 v13
  let c0_i32_4 : BitVec 32 := 0#32
  let v11 : BitVec 1 := Scalar.cmpi .ne v10 c0_i32_4
  let v15 : BitVec 1 := Scalar.andi v14 v11
  let v16 : BitVec 32 := Scalar.addi v10 v9
  let v17 : BitVec 32 := Scalar.select v15 v16 v10
  let c0_i32_7 : BitVec 32 := 0#32
  let v18 : BitVec 1 := Scalar.cmpi .eq v17 c0_i32_7
  let v19 : BitVec 32 := Scalar.extui v18
  let c0_i32_8 : BitVec 32 := 0#32
  let v20 : BitVec 1 := Scalar.cmpi .ne v19 c0_i32_8
  v20

def k0_cond4 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_25 : BitVec 32 := 2#32
  let v50 : BitVec 32 := Scalar.addi v1 c2_i32_25
  let c136_i32 : BitVec 32 := 136#32
  let v51 : BitVec 1 := Scalar.cmpi .slt v50 c136_i32
  let v52 : BitVec 32 := Scalar.extui v51
  let c0_i32_26 : BitVec 32 := 0#32
  let v53 : BitVec 1 := Scalar.cmpi .ne v52 c0_i32_26
  v53

def k0_mult3 (i : grid0.Coords) : BitVec 32 :=
  let arg1 : BitVec 32 := BitVec.ofNat 32 (i 1).val
  let c2_i32_54 : BitVec 32 := 2#32
  let v84 : BitVec 32 := Scalar.addi arg1 c2_i32_54
  let c8_i32_55 : BitVec 32 := 8#32
  let c0_i32_56 : BitVec 32 := 0#32
  let v85 : BitVec 1 := Scalar.cmpi .eq c8_i32_55 c0_i32_56
  let c1_i32_57 : BitVec 32 := 1#32
  let v86 : BitVec 32 := Scalar.select v85 c1_i32_57 c8_i32_55
  let v87 : BitVec 32 := Scalar.remsi v84 v86
  let c0_i32_59 : BitVec 32 := 0#32
  let v89 : BitVec 1 := Scalar.cmpi .slt v87 c0_i32_59
  let c0_i32_60 : BitVec 32 := 0#32
  let v90 : BitVec 1 := Scalar.cmpi .slt v86 c0_i32_60
  let v91 : BitVec 1 := Scalar.xori v89 v90
  let c0_i32_58 : BitVec 32 := 0#32
  let v88 : BitVec 1 := Scalar.cmpi .ne v87 c0_i32_58
  let v92 : BitVec 1 := Scalar.andi v91 v88
  let v93 : BitVec 32 := Scalar.addi v87 v86
  let v94 : BitVec 32 := Scalar.select v92 v93 v87
  let c1024_i32_61 : BitVec 32 := 1024#32
  let v95 : BitVec 32 := Scalar.muli v94 c1024_i32_61
  v95
def k0_off1 (i : grid0.Coords) : Fin 3 → Nat :=
  let c0_i32_62 : BitVec 32 := 0#32
  let c0_i32_68 : BitVec 32 := 0#32
  let arg1 : BitVec 32 := BitVec.ofNat 32 (i 1).val
  let c2_i32_54 : BitVec 32 := 2#32
  let v84 : BitVec 32 := Scalar.addi arg1 c2_i32_54
  let c8_i32_55 : BitVec 32 := 8#32
  let c0_i32_56 : BitVec 32 := 0#32
  let v85 : BitVec 1 := Scalar.cmpi .eq c8_i32_55 c0_i32_56
  let c1_i32_57 : BitVec 32 := 1#32
  let v86 : BitVec 32 := Scalar.select v85 c1_i32_57 c8_i32_55
  let v87 : BitVec 32 := Scalar.remsi v84 v86
  let c0_i32_59 : BitVec 32 := 0#32
  let v89 : BitVec 1 := Scalar.cmpi .slt v87 c0_i32_59
  let c0_i32_60 : BitVec 32 := 0#32
  let v90 : BitVec 1 := Scalar.cmpi .slt v86 c0_i32_60
  let v91 : BitVec 1 := Scalar.xori v89 v90
  let c0_i32_58 : BitVec 32 := 0#32
  let v88 : BitVec 1 := Scalar.cmpi .ne v87 c0_i32_58
  let v92 : BitVec 1 := Scalar.andi v91 v88
  let v93 : BitVec 32 := Scalar.addi v87 v86
  let v94 : BitVec 32 := Scalar.select v92 v93 v87
  let c1024_i32_61 : BitVec 32 := 1024#32
  let v95 : BitVec 32 := Scalar.muli v94 c1024_i32_61
  let v96 : BitVec 32 := v95
  ![0, 0, v96.toNat]
def k0_off2 (i : grid0.Coords) : Fin 3 → Nat :=
  let c0_i32_69 : BitVec 32 := 0#32
  let arg1 : BitVec 32 := BitVec.ofNat 32 (i 1).val
  let c2_i32_54 : BitVec 32 := 2#32
  let v84 : BitVec 32 := Scalar.addi arg1 c2_i32_54
  let c8_i32_55 : BitVec 32 := 8#32
  let c0_i32_56 : BitVec 32 := 0#32
  let v85 : BitVec 1 := Scalar.cmpi .eq c8_i32_55 c0_i32_56
  let c1_i32_57 : BitVec 32 := 1#32
  let v86 : BitVec 32 := Scalar.select v85 c1_i32_57 c8_i32_55
  let v87 : BitVec 32 := Scalar.remsi v84 v86
  let c0_i32_59 : BitVec 32 := 0#32
  let v89 : BitVec 1 := Scalar.cmpi .slt v87 c0_i32_59
  let c0_i32_60 : BitVec 32 := 0#32
  let v90 : BitVec 1 := Scalar.cmpi .slt v86 c0_i32_60
  let v91 : BitVec 1 := Scalar.xori v89 v90
  let c0_i32_58 : BitVec 32 := 0#32
  let v88 : BitVec 1 := Scalar.cmpi .ne v87 c0_i32_58
  let v92 : BitVec 1 := Scalar.andi v91 v88
  let v93 : BitVec 32 := Scalar.addi v87 v86
  let v94 : BitVec 32 := Scalar.select v92 v93 v87
  let c1024_i32_61 : BitVec 32 := 1024#32
  let v95 : BitVec 32 := Scalar.muli v94 c1024_i32_61
  let v96 : BitVec 32 := v95
  let c0_i32_75 : BitVec 32 := 0#32
  ![0, v96.toNat, 0]
def k0_mult4 (i : grid0.Coords) : BitVec 32 :=
  let arg1 : BitVec 32 := BitVec.ofNat 32 (i 1).val
  let c1024_i32 : BitVec 32 := 1024#32
  let v54 : BitVec 32 := Scalar.muli arg1 c1024_i32
  v54
def k0_off3 (i : grid0.Coords) : Fin 3 → Nat :=
  let c0_i32_27 : BitVec 32 := 0#32
  let c0_i32_33 : BitVec 32 := 0#32
  let arg1 : BitVec 32 := BitVec.ofNat 32 (i 1).val
  let c1024_i32 : BitVec 32 := 1024#32
  let v54 : BitVec 32 := Scalar.muli arg1 c1024_i32
  let v55 : BitVec 32 := v54
  ![0, 0, v55.toNat]
def k0_off4 (i : grid0.Coords) : Fin 3 → Nat :=
  let c0_i32_34 : BitVec 32 := 0#32
  let arg1 : BitVec 32 := BitVec.ofNat 32 (i 1).val
  let c1024_i32 : BitVec 32 := 1024#32
  let v54 : BitVec 32 := Scalar.muli arg1 c1024_i32
  let v55 : BitVec 32 := v54
  let c0_i32_40 : BitVec 32 := 0#32
  ![0, v55.toNat, 0]
def k0_cond5 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c3_i32_9 : BitVec 32 := 3#32
  let c0_i32_10 : BitVec 32 := 0#32
  let v21 : BitVec 1 := Scalar.cmpi .eq c3_i32_9 c0_i32_10
  let c1_i32_11 : BitVec 32 := 1#32
  let v22 : BitVec 32 := Scalar.select v21 c1_i32_11 c3_i32_9
  let v23 : BitVec 32 := Scalar.remsi v1 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_15 : BitVec 32 := 1#32
  let v31 : BitVec 1 := Scalar.cmpi .eq v30 c1_i32_15
  let v32 : BitVec 32 := Scalar.extui v31
  let c0_i32_16 : BitVec 32 := 0#32
  let v33 : BitVec 1 := Scalar.cmpi .ne v32 c0_i32_16
  v33

def k0_cond6 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_25 : BitVec 32 := 2#32
  let v50 : BitVec 32 := Scalar.addi v1 c2_i32_25
  let c136_i32 : BitVec 32 := 136#32
  let v51 : BitVec 1 := Scalar.cmpi .slt v50 c136_i32
  let v52 : BitVec 32 := Scalar.extui v51
  let c0_i32_26 : BitVec 32 := 0#32
  let v53 : BitVec 1 := Scalar.cmpi .ne v52 c0_i32_26
  v53

def k0_mult5 (i : grid0.Coords) : BitVec 32 :=
  let arg1 : BitVec 32 := BitVec.ofNat 32 (i 1).val
  let c2_i32_53 : BitVec 32 := 2#32
  let v84 : BitVec 32 := Scalar.addi arg1 c2_i32_53
  let c8_i32_54 : BitVec 32 := 8#32
  let c0_i32_55 : BitVec 32 := 0#32
  let v85 : BitVec 1 := Scalar.cmpi .eq c8_i32_54 c0_i32_55
  let c1_i32_56 : BitVec 32 := 1#32
  let v86 : BitVec 32 := Scalar.select v85 c1_i32_56 c8_i32_54
  let v87 : BitVec 32 := Scalar.remsi v84 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let c1024_i32_60 : BitVec 32 := 1024#32
  let v95 : BitVec 32 := Scalar.muli v94 c1024_i32_60
  v95
def k0_off5 (i : grid0.Coords) : Fin 3 → Nat :=
  let c0_i32_61 : BitVec 32 := 0#32
  let c0_i32_67 : BitVec 32 := 0#32
  let arg1 : BitVec 32 := BitVec.ofNat 32 (i 1).val
  let c2_i32_53 : BitVec 32 := 2#32
  let v84 : BitVec 32 := Scalar.addi arg1 c2_i32_53
  let c8_i32_54 : BitVec 32 := 8#32
  let c0_i32_55 : BitVec 32 := 0#32
  let v85 : BitVec 1 := Scalar.cmpi .eq c8_i32_54 c0_i32_55
  let c1_i32_56 : BitVec 32 := 1#32
  let v86 : BitVec 32 := Scalar.select v85 c1_i32_56 c8_i32_54
  let v87 : BitVec 32 := Scalar.remsi v84 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let c1024_i32_60 : BitVec 32 := 1024#32
  let v95 : BitVec 32 := Scalar.muli v94 c1024_i32_60
  let v96 : BitVec 32 := v95
  ![0, 0, v96.toNat]
def k0_off6 (i : grid0.Coords) : Fin 3 → Nat :=
  let c0_i32_68 : BitVec 32 := 0#32
  let arg1 : BitVec 32 := BitVec.ofNat 32 (i 1).val
  let c2_i32_53 : BitVec 32 := 2#32
  let v84 : BitVec 32 := Scalar.addi arg1 c2_i32_53
  let c8_i32_54 : BitVec 32 := 8#32
  let c0_i32_55 : BitVec 32 := 0#32
  let v85 : BitVec 1 := Scalar.cmpi .eq c8_i32_54 c0_i32_55
  let c1_i32_56 : BitVec 32 := 1#32
  let v86 : BitVec 32 := Scalar.select v85 c1_i32_56 c8_i32_54
  let v87 : BitVec 32 := Scalar.remsi v84 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let c1024_i32_60 : BitVec 32 := 1024#32
  let v95 : BitVec 32 := Scalar.muli v94 c1024_i32_60
  let v96 : BitVec 32 := v95
  let c0_i32_74 : BitVec 32 := 0#32
  ![0, v96.toNat, 0]
def k0_mult6 (i : grid0.Coords) : BitVec 32 :=
  let arg1 : BitVec 32 := BitVec.ofNat 32 (i 1).val
  let c1024_i32 : BitVec 32 := 1024#32
  let v54 : BitVec 32 := Scalar.muli arg1 c1024_i32
  v54
def k0_off7 (i : grid0.Coords) : Fin 3 → Nat :=
  let c0_i32_27 : BitVec 32 := 0#32
  let c0_i32_33 : BitVec 32 := 0#32
  let arg1 : BitVec 32 := BitVec.ofNat 32 (i 1).val
  let c1024_i32 : BitVec 32 := 1024#32
  let v54 : BitVec 32 := Scalar.muli arg1 c1024_i32
  let v55 : BitVec 32 := v54
  ![0, 0, v55.toNat]
def k0_off8 (i : grid0.Coords) : Fin 3 → Nat :=
  let c0_i32_34 : BitVec 32 := 0#32
  let arg1 : BitVec 32 := BitVec.ofNat 32 (i 1).val
  let c1024_i32 : BitVec 32 := 1024#32
  let v54 : BitVec 32 := Scalar.muli arg1 c1024_i32
  let v55 : BitVec 32 := v54
  let c0_i32_40 : BitVec 32 := 0#32
  ![0, v55.toNat, 0]
def k0_cond7 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c3_i32_17 : BitVec 32 := 3#32
  let c0_i32_18 : BitVec 32 := 0#32
  let v34 : BitVec 1 := Scalar.cmpi .eq c3_i32_17 c0_i32_18
  let c1_i32_19 : BitVec 32 := 1#32
  let v35 : BitVec 32 := Scalar.select v34 c1_i32_19 c3_i32_17
  let v36 : BitVec 32 := Scalar.remsi v1 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c2_i32 : BitVec 32 := 2#32
  let v44 : BitVec 1 := Scalar.cmpi .eq v43 c2_i32
  let v45 : BitVec 32 := Scalar.extui v44
  let c0_i32_23 : BitVec 32 := 0#32
  let v46 : BitVec 1 := Scalar.cmpi .ne v45 c0_i32_23
  v46

def k0_cond8 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_25 : BitVec 32 := 2#32
  let v50 : BitVec 32 := Scalar.addi v1 c2_i32_25
  let c136_i32 : BitVec 32 := 136#32
  let v51 : BitVec 1 := Scalar.cmpi .slt v50 c136_i32
  let v52 : BitVec 32 := Scalar.extui v51
  let c0_i32_26 : BitVec 32 := 0#32
  let v53 : BitVec 1 := Scalar.cmpi .ne v52 c0_i32_26
  v53

def k0_mult7 (i : grid0.Coords) : BitVec 32 :=
  let arg1 : BitVec 32 := BitVec.ofNat 32 (i 1).val
  let c2_i32_53 : BitVec 32 := 2#32
  let v84 : BitVec 32 := Scalar.addi arg1 c2_i32_53
  let c8_i32_54 : BitVec 32 := 8#32
  let c0_i32_55 : BitVec 32 := 0#32
  let v85 : BitVec 1 := Scalar.cmpi .eq c8_i32_54 c0_i32_55
  let c1_i32_56 : BitVec 32 := 1#32
  let v86 : BitVec 32 := Scalar.select v85 c1_i32_56 c8_i32_54
  let v87 : BitVec 32 := Scalar.remsi v84 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let c1024_i32_60 : BitVec 32 := 1024#32
  let v95 : BitVec 32 := Scalar.muli v94 c1024_i32_60
  v95
def k0_off9 (i : grid0.Coords) : Fin 3 → Nat :=
  let c0_i32_61 : BitVec 32 := 0#32
  let c0_i32_67 : BitVec 32 := 0#32
  let arg1 : BitVec 32 := BitVec.ofNat 32 (i 1).val
  let c2_i32_53 : BitVec 32 := 2#32
  let v84 : BitVec 32 := Scalar.addi arg1 c2_i32_53
  let c8_i32_54 : BitVec 32 := 8#32
  let c0_i32_55 : BitVec 32 := 0#32
  let v85 : BitVec 1 := Scalar.cmpi .eq c8_i32_54 c0_i32_55
  let c1_i32_56 : BitVec 32 := 1#32
  let v86 : BitVec 32 := Scalar.select v85 c1_i32_56 c8_i32_54
  let v87 : BitVec 32 := Scalar.remsi v84 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let c1024_i32_60 : BitVec 32 := 1024#32
  let v95 : BitVec 32 := Scalar.muli v94 c1024_i32_60
  let v96 : BitVec 32 := v95
  ![0, 0, v96.toNat]
def k0_off10 (i : grid0.Coords) : Fin 3 → Nat :=
  let c0_i32_68 : BitVec 32 := 0#32
  let arg1 : BitVec 32 := BitVec.ofNat 32 (i 1).val
  let c2_i32_53 : BitVec 32 := 2#32
  let v84 : BitVec 32 := Scalar.addi arg1 c2_i32_53
  let c8_i32_54 : BitVec 32 := 8#32
  let c0_i32_55 : BitVec 32 := 0#32
  let v85 : BitVec 1 := Scalar.cmpi .eq c8_i32_54 c0_i32_55
  let c1_i32_56 : BitVec 32 := 1#32
  let v86 : BitVec 32 := Scalar.select v85 c1_i32_56 c8_i32_54
  let v87 : BitVec 32 := Scalar.remsi v84 v86
  let c0_i32_58 : BitVec 32 := 0#32
  let v89 : BitVec 1 := Scalar.cmpi .slt v87 c0_i32_58
  let c0_i32_59 : BitVec 32 := 0#32
  let v90 : BitVec 1 := Scalar.cmpi .slt v86 c0_i32_59
  let v91 : BitVec 1 := Scalar.xori v89 v90
  let c0_i32_57 : BitVec 32 := 0#32
  let v88 : BitVec 1 := Scalar.cmpi .ne v87 c0_i32_57
  let v92 : BitVec 1 := Scalar.andi v91 v88
  let v93 : BitVec 32 := Scalar.addi v87 v86
  let v94 : BitVec 32 := Scalar.select v92 v93 v87
  let c1024_i32_60 : BitVec 32 := 1024#32
  let v95 : BitVec 32 := Scalar.muli v94 c1024_i32_60
  let v96 : BitVec 32 := v95
  let c0_i32_74 : BitVec 32 := 0#32
  ![0, v96.toNat, 0]
def k0_mult8 (i : grid0.Coords) : BitVec 32 :=
  let arg1 : BitVec 32 := BitVec.ofNat 32 (i 1).val
  let c1024_i32 : BitVec 32 := 1024#32
  let v54 : BitVec 32 := Scalar.muli arg1 c1024_i32
  v54
def k0_off11 (i : grid0.Coords) : Fin 3 → Nat :=
  let c0_i32_27 : BitVec 32 := 0#32
  let c0_i32_33 : BitVec 32 := 0#32
  let arg1 : BitVec 32 := BitVec.ofNat 32 (i 1).val
  let c1024_i32 : BitVec 32 := 1024#32
  let v54 : BitVec 32 := Scalar.muli arg1 c1024_i32
  let v55 : BitVec 32 := v54
  ![0, 0, v55.toNat]
def k0_off12 (i : grid0.Coords) : Fin 3 → Nat :=
  let c0_i32_34 : BitVec 32 := 0#32
  let arg1 : BitVec 32 := BitVec.ofNat 32 (i 1).val
  let c1024_i32 : BitVec 32 := 1024#32
  let v54 : BitVec 32 := Scalar.muli arg1 c1024_i32
  let v55 : BitVec 32 := v54
  let c0_i32_40 : BitVec 32 := 0#32
  ![0, v55.toNat, 0]
def k0_cond9 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_24 : BitVec 32 := 0#32
  let v49 : BitVec 1 := Scalar.cmpi .ne v48 c0_i32_24
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference10Ideal.lean ====
abbrev S8704x2048 : Shape := ⟨2, ![8704, 2048]⟩
abbrev S2x2048x8192 : Shape := ⟨3, ![2, 2048, 8192]⟩
abbrev S2x8192x2048 : Shape := ⟨3, ![2, 8192, 2048]⟩
abbrev S2x2048 : Shape := ⟨2, ![2, 2048]⟩
abbrev S1x2048x8192 : Shape := ⟨3, ![1, 2048, 8192]⟩
abbrev S2048x8192 : Shape := ⟨2, ![2048, 8192]⟩
abbrev S8704x8192 : Shape := ⟨2, ![8704, 8192]⟩
abbrev S_ : Shape := ⟨0, ![]⟩
abbrev S1x8192x2048 : Shape := ⟨3, ![1, 8192, 2048]⟩
abbrev S8192x2048 : Shape := ⟨2, ![8192, 2048]⟩
abbrev S1x2048 : Shape := ⟨2, ![1, 2048]⟩
abbrev S2048 : Shape := ⟨1, ![2048]⟩
abbrev S8704 : Shape := ⟨1, ![8704]⟩
abbrev S8704x1 : Shape := ⟨2, ![8704, 1]⟩

abbrev nBuf : Space → Nat
  | .hbm => 36
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2x2048x8192, .f32⟩
  | .hbm, ⟨2, _⟩ => ⟨S2x8192x2048, .f32⟩
  | .hbm, ⟨3, _⟩ => ⟨S8704x2048, .f32⟩
  | .hbm, ⟨4, _⟩ => ⟨S2x2048, .f32⟩
  | .hbm, ⟨5, _⟩ => ⟨S8704x2048, .f32⟩
  | .hbm, ⟨6, _⟩ => ⟨S1x2048x8192, .f32⟩
  | .hbm, ⟨7, _⟩ => ⟨S2048x8192, .f32⟩
  | .hbm, ⟨8, _⟩ => ⟨S8704x8192, .f32⟩
  | .hbm, ⟨9, _⟩ => ⟨S_, .f32⟩
  | .hbm, ⟨10, _⟩ => ⟨S8704x8192, .f32⟩
  | .hbm, ⟨11, _⟩ => ⟨S8704x8192, .f32⟩
  | .hbm, ⟨12, _⟩ => ⟨S8704x8192, .f32⟩
  | .hbm, ⟨13, _⟩ => ⟨S1x8192x2048, .f32⟩
  | .hbm, ⟨14, _⟩ => ⟨S8192x2048, .f32⟩
  | .hbm, ⟨15, _⟩ => ⟨S8704x2048, .f32⟩
  | .hbm, ⟨16, _⟩ => ⟨S8704x2048, .f32⟩
  | .hbm, ⟨17, _⟩ => ⟨S1x2048, .f32⟩
  | .hbm, ⟨18, _⟩ => ⟨S2048, .f32⟩
  | .hbm, ⟨19, _⟩ => ⟨S8704x2048, .f32⟩
  | .hbm, ⟨20, _⟩ => ⟨S_, .f32⟩
  | .hbm, ⟨21, _⟩ => ⟨S8704, .f32⟩
  | .hbm, ⟨22, _⟩ => ⟨S8704x1, .f32⟩
  | .hbm, ⟨23, _⟩ => ⟨S_, .f32⟩
  | .hbm, ⟨24, _⟩ => ⟨S8704x1, .f32⟩
  | .hbm, ⟨25, _⟩ => ⟨S8704x1, .f32⟩
  | .hbm, ⟨26, _⟩ => ⟨S_, .f32⟩
  | .hbm, ⟨27, _⟩ => ⟨S8704x1, .f32⟩
  | .hbm, ⟨28, _⟩ => ⟨S8704x1, .f32⟩
  | .hbm, ⟨29, _⟩ => ⟨S8704x1, .f32⟩
  | .hbm, ⟨30, _⟩ => ⟨S8704x2048, .f32⟩
  | .hbm, ⟨31, _⟩ => ⟨S8704x2048, .f32⟩
  | .hbm, ⟨32, _⟩ => ⟨S1x2048, .f32⟩
  | .hbm, ⟨33, _⟩ => ⟨S8704x2048, .f32⟩
  | .hbm, ⟨34, _⟩ => ⟨S8704x2048, .f32⟩
  | .hbm, ⟨35, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel11.lean ====
abbrev S4x256x2048 : Shape := ⟨3, ![4, 256, 2048]⟩
abbrev S2x2048 : Shape := ⟨2, ![2, 2048]⟩
abbrev S2x2048x2048 : Shape := ⟨3, ![2, 2048, 2048]⟩
abbrev S1024x2048 : Shape := ⟨2, ![1024, 2048]⟩
abbrev S2x1x2048 : Shape := ⟨3, ![2, 1, 2048]⟩
abbrev S2x4x4096x128 : Shape := ⟨4, ![2, 4, 4096, 128]⟩
abbrev S2x1024x2048 : Shape := ⟨3, ![2, 1024, 2048]⟩
abbrev S256x2048 : Shape := ⟨2, ![256, 2048]⟩
abbrev S1x1x2048 : Shape := ⟨3, ![1, 1, 2048]⟩
abbrev S1x2048x2048 : Shape := ⟨3, ![1, 2048, 2048]⟩
abbrev S1x1x4096x128 : Shape := ⟨4, ![1, 1, 4096, 128]⟩
abbrev S1x256x2048 : Shape := ⟨3, ![1, 256, 2048]⟩
abbrev S1x2048 : Shape := ⟨2, ![1, 2048]⟩
abbrev S256 : Shape := ⟨1, ![256]⟩
abbrev S256x1 : Shape := ⟨2, ![256, 1]⟩
abbrev S2048x2048 : Shape := ⟨2, ![2048, 2048]⟩
abbrev S256x128 : Shape := ⟨2, ![256, 128]⟩
abbrev S1x1x256x128 : Shape := ⟨4, ![1, 1, 256, 128]⟩

abbrev nBuf : Space → Nat
  | .hbm => 12
  | .vmem => 16
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x2048, .f32⟩
  | .hbm, ⟨3, _⟩ => ⟨S2x2048x2048, .f32⟩
  | .hbm, ⟨4, _⟩ => ⟨S1024x2048, .f32⟩
  | .hbm, ⟨5, _⟩ => ⟨S2x1x2048, .f32⟩
  | .hbm, ⟨6, _⟩ => ⟨S2x2048x2048, .bf16⟩
  | .hbm, ⟨7, _⟩ => ⟨S2x2048x2048, .bf16⟩
  | .hbm, ⟨8, _⟩ => ⟨S2x4x4096x128, .f32⟩
  | .hbm, ⟨9, _⟩ => ⟨S2x4x4096x128, .f32⟩
  | .hbm, ⟨10, _⟩ => ⟨S2x1024x2048, .bf16⟩
  | .hbm, ⟨11, _⟩ => ⟨S2x1024x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S1x2048x2048, .bf16⟩
  | .local _ .vmem, ⟨8, _⟩ => ⟨S1x1x4096x128, .f32⟩
  | .local _ .vmem, ⟨9, _⟩ => ⟨S1x1x4096x128, .f32⟩
  | .local _ .vmem, ⟨10, _⟩ => ⟨S1x1x4096x128, .f32⟩
  | .local _ .vmem, ⟨11, _⟩ => ⟨S1x1x4096x128, .f32⟩
  | .local _ .vmem, ⟨12, _⟩ => ⟨S1x256x2048, .bf16⟩
  | .local _ .vmem, ⟨13, _⟩ => ⟨S1x256x2048, .bf16⟩
  | .local _ .vmem, ⟨14, _⟩ => ⟨S1x256x2048, .bf16⟩
  | .local _ .vmem, ⟨15, _⟩ => ⟨S1x256x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S4x256x2048 : Shape := ⟨3, ![4, 256, 2048]⟩
abbrev S2x2048 : Shape := ⟨2, ![2, 2048]⟩
abbrev S2x2048x2048 : Shape := ⟨3, ![2, 2048, 2048]⟩
abbrev S1024x2048 : Shape := ⟨2, ![1024, 2048]⟩
abbrev S2x1x2048 : Shape := ⟨3, ![2, 1, 2048]⟩
abbrev S_ : Shape := ⟨0, ![]⟩
abbrev S1024 : Shape := ⟨1, ![1024]⟩
abbrev S1024x1 : Shape := ⟨2, ![1024, 1]⟩
abbrev S1x1024x2048 : Shape := ⟨3, ![1, 1024, 2048]⟩
abbrev S2x1024x2048 : Shape := ⟨3, ![2, 1024, 2048]⟩
abbrev S2x4x256x4x4x128 : Shape := ⟨6, ![2, 4, 256, 4, 4, 128]⟩
abbrev S2x4x4096x128 : Shape := ⟨4, ![2, 4, 4096, 128]⟩

abbrev nBuf : Space → Nat
  | .hbm => 33
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S2x2048, .f32⟩
  | .hbm, ⟨2, _⟩ => ⟨S2x2048x2048, .f32⟩
  | .hbm, ⟨3, _⟩ => ⟨S2x2048x2048, .f32⟩
  | .hbm, ⟨4, _⟩ => ⟨S1024x2048, .f32⟩
  | .hbm, ⟨5, _⟩ => ⟨S2x1x2048, .f32⟩
  | .hbm, ⟨6, _⟩ => ⟨S1024x2048, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x2048, .f32⟩
  | .hbm, ⟨18, _⟩ => ⟨S1024x2048, .f32⟩
  | .hbm, ⟨19, _⟩ => ⟨S1x1024x2048, .f32⟩
  | .hbm, ⟨20, _⟩ => ⟨S2x1024x2048, .f32⟩
  | .hbm, ⟨21, _⟩ => ⟨S2x1024x2048, .f32⟩
  | .hbm, ⟨22, _⟩ => ⟨S2x1024x2048, .f32⟩
  | .hbm, ⟨23, _⟩ => ⟨S2x1024x2048, .f32⟩
  | .hbm, ⟨24, _⟩ => ⟨S2x1024x2048, .f32⟩
  | .hbm, ⟨25, _⟩ => ⟨S2x4x256x4x4x128, .f32⟩
  | .hbm, ⟨26, _⟩ => ⟨S2x4x256x4x4x128, .f32⟩
  | .hbm, ⟨27, _⟩ => ⟨S2x4x4096x128, .f32⟩
  | .hbm, ⟨28, _⟩ => ⟨S2x4x256x4x4x128, .f32⟩
  | .hbm, ⟨29, _⟩ => ⟨S2x4x256x4x4x128, .f32⟩
  | .hbm, ⟨30, _⟩ => ⟨S2x4x4096x128, .f32⟩
  | .hbm, ⟨31, _⟩ => ⟨S2x1024x2048, .bf16⟩
  | .hbm, ⟨32, _⟩ => ⟨S2x1024x2048, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel13.lean ====
abbrev S4x2048x2048 : Shape := ⟨3, ![4, 2048, 2048]⟩
abbrev S512x2048 : Shape := ⟨2, ![512, 2048]⟩
abbrev S2x2048 : Shape := ⟨2, ![2, 2048]⟩
abbrev S8192x2048 : Shape := ⟨2, ![8192, 2048]⟩
abbrev S2x1x2048 : Shape := ⟨3, ![2, 1, 2048]⟩
abbrev S8704x2048 : Shape := ⟨2, ![8704, 2048]⟩
abbrev S1x1x2048 : Shape := ⟨3, ![1, 1, 2048]⟩
abbrev S1x2048 : Shape := ⟨2, ![1, 2048]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S512x2048, .f32⟩
  | .hbm, ⟨2, _⟩ => ⟨S2x2048, .f32⟩
  | .hbm, ⟨3, _⟩ => ⟨S8192x2048, .f32⟩
  | .hbm, ⟨4, _⟩ => ⟨S2x1x2048, .f32⟩
  | .hbm, ⟨5, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S512x2048, .bf16⟩
  | .local _ .vmem, ⟨6, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S4x2048x2048 : Shape := ⟨3, ![4, 2048, 2048]⟩
abbrev S512x2048 : Shape := ⟨2, ![512, 2048]⟩
abbrev S2x2048 : Shape := ⟨2, ![2, 2048]⟩
abbrev S8192x2048 : Shape := ⟨2, ![8192, 2048]⟩
abbrev S8704x2048 : Shape := ⟨2, ![8704, 2048]⟩
abbrev S1x2048 : Shape := ⟨2, ![1, 2048]⟩
abbrev S2048 : Shape := ⟨1, ![2048]⟩
abbrev S_ : Shape := ⟨0, ![]⟩
abbrev S8704 : Shape := ⟨1, ![8704]⟩
abbrev S8704x1 : Shape := ⟨2, ![8704, 1]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S512x2048, .f32⟩
  | .hbm, ⟨2, _⟩ => ⟨S2x2048, .f32⟩
  | .hbm, ⟨3, _⟩ => ⟨S8192x2048, .f32⟩
  | .hbm, ⟨4, _⟩ => ⟨S8704x2048, .f32⟩
  | .hbm, ⟨5, _⟩ => ⟨S1x2048, .f32⟩
  | .hbm, ⟨6, _⟩ => ⟨S2048, .f32⟩
  | .hbm, ⟨7, _⟩ => ⟨S8704x2048, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S8704x2048, .f32⟩
  | .hbm, ⟨19, _⟩ => ⟨S8704x2048, .f32⟩
  | .hbm, ⟨20, _⟩ => ⟨S1x2048, .f32⟩
  | .hbm, ⟨21, _⟩ => ⟨S8704x2048, .f32⟩
  | .hbm, ⟨22, _⟩ => ⟨S8704x2048, .f32⟩
  | .hbm, ⟨23, _⟩ => ⟨S8704x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Scalars.lean ====
/-
  Laws of single extended reals that the layer's kernels and its mathematics spell in two ways: the logistic function as a
  rescaled hyperbolic tangent, and the constants both sides print as bit patterns.
-/
module

public import Idealize.ShloMosaic.Lib.IdealHost
public import Mathlib.Analysis.SpecialFunctions.Trigonometric.DerivHyp

@[expose] public section

namespace Cert.Scalars

open Idealize.ShloMosaic

/-- The f32 pattern of one half. -/
theorem half : Ideal.ofBits .f32 1056964608#32 = (((1 : ℝ) / 2 : ℝ) : EReal) := by
  simp [Ideal.ofBits, Ideal.ieee, -EReal.coe_mul]; norm_num

/-- On the reals the logistic function is the hyperbolic tangent at half the argument, halved and moved up by one half. -/
theorem logistic_tanh_real (r : ℝ) : 1 / 2 * Real.tanh (1 / 2 * r) + 1 / 2 = (1 + Real.exp (-r))⁻¹ := by
  obtain ⟨a, rfl⟩ : ∃ a, r = a + a := ⟨r / 2, by ring⟩
  have hn : 0 < Real.exp (-a) := Real.exp_pos _
  have hp : Real.exp a = (Real.exp (-a))⁻¹ := by rw [Real.exp_neg, inv_inv]
  rw [show 1 / 2 * (a + a) = a by ring, neg_add, Real.exp_add, Real.tanh_eq_sinh_div_cosh, Real.sinh_eq, Real.cosh_eq, hp]
  generalize Real.exp (-a) = q at hn
  have h2 : 1 + q * q ≠ 0 := by positivity
  field_simp
  ring

/-- The same on every extended real. -/
theorem logistic_tanh (x : EReal) :
    Ideal.ofBits .f32 1056964608#32 * Ideal.tanh (Ideal.ofBits .f32 1056964608#32 * x) + Ideal.ofBits .f32 1056964608#32
      = Ideal.logistic x := by
  rw [half]
  induction x with
  | bot => rw [EReal.coe_mul_bot_of_pos (by norm_num), Ideal.tanh_bot, Ideal.logistic_bot]
           rw [show (-1 : EReal) = ((-1 : ℝ) : EReal) by simp, ← EReal.coe_mul, ← EReal.coe_add]; norm_num
  | coe r => rw [← EReal.coe_mul, Ideal.tanh_coe, ← EReal.coe_mul, ← EReal.coe_add, Ideal.logistic_coe, logistic_tanh_real]
  | top => rw [EReal.coe_mul_top_of_pos (by norm_num), Ideal.tanh_top, Ideal.logistic_top, mul_one, ← EReal.coe_add]; norm_num

/-- GELU in its tanh form, its constants as the f32 patterns both sides print: one half, √(2/π) and 0.044715. -/
noncomputable def gelu (x : EReal) : EReal :=
  x * (Ideal.ofBits .f32 1056964608#32
    * (1 + Ideal.tanh (Ideal.ofBits .f32 1061962282#32 * (x + Ideal.ofBits .f32 1027024659#32 * (x * x * x)))))

/-- The same with the cube associated the other way. -/
theorem gelu_cube (x : EReal) :
    x * (Ideal.ofBits .f32 1056964608#32
      * (1 + Ideal.tanh (Ideal.ofBits .f32 1061962282#32 * (x + Ideal.ofBits .f32 1027024659#32 * (x * (x * x)))))) = gelu x := by
  rw [gelu, mul_assoc x x x]

/-- The mean of 1024 values. -/
noncomputable def mean (y : Fin 1024 → EReal) : EReal := Ideal.div (∑ k, y k) (Ideal.ofBits .f32 1149239296#32)

/-- Entry `j` of 1024 values after the layer norm with scale `g` and shift `b`. -/
noncomputable def layerNorm (y : Fin 1024 → EReal) (g b : EReal) (j : Fin 1024) : EReal :=
  (y j - mean y) * Ideal.rsqrt (mean (fun k => (y k - mean y) * (y k - mean y)) + Ideal.ofBits .f32 925353388#32) * g + b

theorem layerNorm_congr {y y' : Fin 1024 → EReal} {g g' b b' : EReal} {j j' : Fin 1024} (hy : ∀ k, y k = y' k) (hj : j = j')
    (hg : g = g') (hb : b = b') : layerNorm y g b j = layerNorm y' g' b' j' := by
  rw [show y = y' from funext hy, hj, hg, hb]

/-- Entry `j` of 2048 values after the root mean square norm with scale `g`. -/
noncomputable def rmsNorm (y : Fin 2048 → EReal) (g : EReal) (j : Fin 2048) : EReal :=
  y j * Ideal.rsqrt (Ideal.div (∑ k, y k * y k) (Ideal.ofBits .f32 1157627904#32) + Ideal.ofBits .f32 897988541#32) * g

theorem rmsNorm_congr {y y' : Fin 2048 → EReal} {g g' : EReal} {j j' : Fin 2048} (hy : ∀ k, y k = y' k) (hg : g = g') (hj : j = j') :
    rmsNorm y g j = rmsNorm y' g' j' := by
  rw [show y = y' from funext hy, hj, hg]

end Cert.Scalars
-- ==== Proof.Conv1.lean ====
/-
  What one block of 16 rows of the convolution computes: 31 shifted products added up, normalised over the channels and
  passed through the swish. The shifted rows come from one of two scratch buffers, by the shift modulo 8.
-/
module

public import proofs.«01_k».proof.Defs
public import proofs.«01_k».proof.Proof.Gen.KernelIdeal.Value
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelIdeal.Conv

open Cert.KernelIdeal Cert.KernelIdeal.Gen Cert.KernelIdeal.Value
open Idealize.ShloMosaic Idealize.ShloMosaic.TcCoe Idealize.SL.Sem

/-- Sixteen rows of a window of rows, from row `r` on. -/
def rows2 (g : ℕ → Fin 1024 → EReal) (r : ℕ) : FVec Ideal S16x1024 .f32 := fun x => g (r + (x 0).val) (x 1)

/-- The same with a leading axis of size one. -/
def rows3 (g : ℕ → Fin 1024 → EReal) (r : ℕ) : FVec Ideal S1x16x1024 .f32 := fun x => g (r + (x 1).val) (x 2)

/-- Row `k` of the filter, repeated 16 times. -/
def tap (w : ℕ → Fin 1024 → EReal) (k : ℕ) : FVec Ideal S1x16x1024 .f32 := fun x => w k (x 2)

/-- The sixteen window rows that tap `k` meets: shifts divisible by 8 come from the window, others from its shifted copies. -/
def met (g : ℕ → Fin 1024 → EReal) (r k : ℕ) : FVec Ideal S16x1024 .f32 :=
  bif Nat.beq ((2 + k) % 8) 0 then rows2 g (r + (2 + k)) else shapeCast S16x1024 (rows3 g (r + (2 + k))) shapeCasts_S1x16x1024_S16x1024

/-- The running sum after tap `k`. -/
def acc (w g : ℕ → Fin 1024 → EReal) (cb : FVec Ideal S1x1024 .f32) (r : ℕ) : ℕ → FVec Ideal S16x1024 .f32
  | 0 => addf (broadcastTo S16x1024 cb broadcasts_S1x1024_S16x1024) (mulf (shapeCast S16x1024 (tap w 0) shapeCasts_S1x16x1024_S16x1024) (met g r 0))
  | k + 1 => addf (acc w g cb r k) (mulf (shapeCast S16x1024 (tap w (k + 1)) shapeCasts_S1x16x1024_S16x1024) (met g r (k + 1)))

/-- The layer norm of sixteen rows. -/
def norm (a : FVec Ideal S16x1024 .f32) (lg lb : FVec Ideal S1x1024 .f32) : FVec Ideal S16x1024 .f32 :=
  have mu : FVec Ideal S16x1024 .f32 := broadcastTo S16x1024 (divf (shapeCast S16x1 (multiReduction .add [1] S16 a 0x00000000#32 reduces_S16x1024_S16 (.inl rfl) rfl) shapeCasts_S16_S16x1)
    (broadcast S16x1 (Scalar.ofBits .f32 0x44800000#32 : Ideal .f32))) broadcasts_S16x1_S16x1024
  have c : FVec Ideal S16x1024 .f32 := subf a mu
  have var : FVec Ideal S16x1 .f32 := divf (shapeCast S16x1 (multiReduction .add [1] S16 (mulf c c) 0x00000000#32 reduces_S16x1024_S16 (.inl rfl) rfl) shapeCasts_S16_S16x1)
    (broadcast S16x1 (Scalar.ofBits .f32 0x44800000#32 : Ideal .f32))
  have s : FVec Ideal S16x1024 .f32 := broadcastTo S16x1024 (rsqrt (addf var (broadcast S16x1 (Scalar.ofBits .f32 0x3727C5AC#32 : Ideal .f32)))) broadcasts_S16x1_S16x1024
  addf (mulf (mulf c s) (broadcastTo S16x1024 lg broadcasts_S1x1024_S16x1024)) (broadcastTo S16x1024 lb broadcasts_S1x1024_S16x1024)

/-- The swish, its logistic function spelled with a hyperbolic tangent. -/
def swish (y : FVec Ideal S16x1024 .f32) : FVec Ideal S16x1024 .bf16 :=
  truncf .bf16 (mulf y (addf (mulf (broadcast S16x1024 (Scalar.ofBits .f32 0x3F000000#32 : Ideal .f32))
    (tanh (mulf (broadcast S16x1024 (Scalar.ofBits .f32 0x3F000000#32 : Ideal .f32)) y)))
    (broadcast S16x1024 (Scalar.ofBits .f32 0x3F000000#32 : Ideal .f32)))) bitsLt_bf16_f32

theorem met_apply (g : ℕ → Fin 1024 → EReal) (r k : ℕ) (x : S16x1024.Idx) : met g r k x = g (r + (2 + k) + (x 0).val) (x 1) := by
  unfold met
  cases Nat.beq ((2 + k) % 8) 0
  · simp only [cond_false]
    pointwise [rows3]
  · rfl

theorem acc_apply (w g : ℕ → Fin 1024 → EReal) (cb : FVec Ideal S1x1024 .f32) (r : ℕ) (x : S16x1024.Idx) (n : ℕ) :
    acc w g cb r n x = cb (ix2 0 (x 1)) + ∑ k ∈ Finset.range (n + 1), w k (x 1) * g (r + (2 + k) + (x 0).val) (x 1) := by
  induction n with
  | zero => unfold acc
            rw [Finset.sum_range_one]
            pointwise [tap]
            rw [met_apply]
  | succ n ih => rw [Finset.sum_range_succ, ← add_assoc, ← ih]
                 conv_lhs => unfold acc
                 pointwise [tap]
                 rw [met_apply]

theorem norm_apply (a : FVec Ideal S16x1024 .f32) (lg lb : FVec Ideal S1x1024 .f32) (x : S16x1024.Idx) :
    norm a lg lb x = Scalars.layerNorm (fun j => a (ix2 (x 0) j)) (lg (ix2 0 (x 1))) (lb (ix2 0 (x 1))) (x 1) := by
  unfold Scalars.layerNorm Scalars.mean
  pointwise [norm]

theorem swish_apply (y : FVec Ideal S16x1024 .f32) (x : S16x1024.Idx) : swish y x = y x * Ideal.logistic (y x) := by
  rw [← Scalars.logistic_tanh]
  pointwise [swish]

end Cert.KernelIdeal.Conv
end
-- ==== Proof.Chunk.lean ====
/-
  The gating branch's block at a grid point of the prompt: in every chunk of 128 rows a causal mixing of the rows per group of
  256 channels, plus a bias, times the gate.
-/
module

public import proofs.«01_k».proof.Proof.Conv1

@[expose] public section

set_option maxRecDepth 16384

noncomputable section

namespace Cert.KernelIdeal.Chunk

open Cert.KernelIdeal Cert.KernelIdeal.Gen Cert.KernelIdeal.Value
open Idealize.ShloMosaic Idealize.ShloMosaic.TcCoe Idealize.SL.Sem

theorem pay_apply (ws : Vec Ideal S1x1x128x128 .f32) (vn ug : Vec Ideal S128x256 .f32) (bs : Vec Ideal S1x128x256 .f32) (x : S128x256.Idx) :
    k0_pay28 (F := Ideal) (k0_pay5 (F := Ideal) ws) vn bs ug x
      = ug x * ((∑ k : Fin 128, Scalar.select (IntOp.cmpi .sge (BitVec.ofNat 32 (x 0).val) (BitVec.ofNat 32 k.val)) (ws (ix4 0 0 (x 0) k)) 0 * vn (ix2 k (x 1)))
          + bs (ix3 0 (x 0) (x 1))) := by
  pointwise [k0_pay28, k0_pay5]

/-- Entry `y` of the gating block. -/
def chunkOut (ws : S1x4x128x128.Idx → EReal) (vn ug : S512x1024.Idx → EReal) (bs : S1x128x1024.Idx → EReal) (y : S512x1024.Idx) : EReal :=
  ug y * ((∑ k : Fin 128,
      Scalar.select (IntOp.cmpi .sge (BitVec.ofNat 32 ((y 0).val % 128)) (BitVec.ofNat 32 k.val))
          (ws (ix4 0 ⟨(y 1).val / 256, by have h1 : (y 1).val < 1024 := (y 1).isLt; show _ < 4; omega⟩ ⟨(y 0).val % 128, Nat.mod_lt _ (by decide)⟩ k)) 0
        * vn (ix2 ⟨128 * ((y 0).val / 128) + k.val, by have h0 : (y 0).val < 512 := (y 0).isLt; have hk : k.val < 128 := k.isLt; show _ < 512; omega⟩ (y 1)))
    + bs (ix3 0 ⟨(y 0).val % 128, Nat.mod_lt _ (by decide)⟩ (y 1)))

/-- One chunk of one group. -/
theorem tile (ws : S1x4x128x128.Idx → Elt Ideal .f32) (vn ug : S512x1024.Idx → Elt Ideal .f32) (bs : S1x128x1024.Idx → Elt Ideal .f32)
    (r q off : ℕ) (hr : r % 128 = 0) (ho : off = 256 * q) (i i' i'') (x : S128x256.Idx) (y : S512x1024.Idx)
    (h0 : (y 0).val = r + (x 0).val) (h1 : (y 1).val = off + (x 1).val) :
    k0_pay28 (F := Ideal) (k0_pay5 (F := Ideal) (View.ld ws (Rect.unit (s := S1x4x128x128) ![0, q, 0, 0] ![1, 1, 128, 128] i)))
        (View.ld vn (Rect.unit (s := S512x1024) ![r, off] ![128, 256] i')) (View.ld bs (Rect.unit (s := S1x128x1024) ![0, 0, off] ![1, 128, 256] i''))
        (View.ld ug (Rect.unit (s := S512x1024) ![r, off] ![128, 256] i')) x
      = chunkOut ws vn ug bs y := by
  have hx0 : (x 0).val < 128 := (x 0).isLt
  have hx1 : (x 1).val < 256 := (x 1).isLt
  have e0 : (y 0).val % 128 = (x 0).val := by omega
  rw [pay_apply]
  unfold chunkOut
  congr 1
  · show ug _ = _
    congr 1
    funext b
    refine Fin.ext ?_
    match b with
    | ⟨0, _⟩ => show r + 1 * (x 0).val = (y 0).val; omega
    | ⟨1, _⟩ => show off + 1 * (x 1).val = (y 1).val; omega
  · congr 1
    · refine Finset.sum_congr rfl fun k _ => ?_
      have hk : k.val < 128 := k.isLt
      congr 1
      · rw [show BitVec.ofNat 32 (x 0).val = BitVec.ofNat 32 ((y 0).val % 128) from by rw [e0]]
        congr 1
        show ws _ = _
        congr 1
        funext b
        refine Fin.ext ?_
        match b with
        | ⟨0, _⟩ => rfl
        | ⟨1, _⟩ => show q + 1 * 0 = (y 1).val / 256; omega
        | ⟨2, _⟩ => show 0 + 1 * (x 0).val = (y 0).val % 128; omega
        | ⟨3, _⟩ => show 0 + 1 * k.val = k.val; omega
      · show vn _ = _
        congr 1
        funext b
        refine Fin.ext ?_
        match b with
        | ⟨0, _⟩ => show r + 1 * k.val = 128 * ((y 0).val / 128) + k.val; omega
        | ⟨1, _⟩ => show off + 1 * (x 1).val = (y 1).val; omega
    · show bs _ = _
      congr 1
      funext b
      refine Fin.ext ?_
      match b with
      | ⟨0, _⟩ => rfl
      | ⟨1, _⟩ => show 0 + 1 * (x 0).val = (y 0).val % 128; omega
      | ⟨2, _⟩ => show off + 1 * (x 1).val = (y 1).val; omega

variable (m : (ℓ : Loc nD τ sig) → Buf (Elt Ideal) ℓ)

set_option maxHeartbeats 1000000 in
theorem stored_a (c : Dev nD) (t : Fin cfg0.N) (h0 : t.val < 16) (y : S512x1024.Idx) :
    (outsAt0 m c t.val t.isLt).1 y = chunkOut (iblk m c 6 t) (iblk m c 1 t) (iblk m c 0 t) (iblk m c 7 t) y := by
  rw [outsAt0_A m c t h0 (by omega)]
  frame_open
  dsimp only
  rw [View.read_writes_junk_eq_canon]
  simp (disch := decide) only [View.readAt_eq_ld, Memref.IsWhole.read_unread, View.ld_unit_lit']
  generalize iblk m c 6 t = ws
  generalize iblk m c 1 t = vn
  generalize iblk m c 0 t = ug
  generalize iblk m c 7 t = bs
  canon_tiles x h
  · exact tile ws vn ug bs 384 3 768 rfl rfl _ _ _ x y (by omega) (by omega)
  · exact tile ws vn ug bs 256 3 768 rfl rfl _ _ _ x y (by omega) (by omega)
  · exact tile ws vn ug bs 128 3 768 rfl rfl _ _ _ x y (by omega) (by omega)
  · exact tile ws vn ug bs 0 3 768 rfl rfl _ _ _ x y (by omega) (by omega)
  · exact tile ws vn ug bs 384 2 512 rfl rfl _ _ _ x y (by omega) (by omega)
  · exact tile ws vn ug bs 256 2 512 rfl rfl _ _ _ x y (by omega) (by omega)
  · exact tile ws vn ug bs 128 2 512 rfl rfl _ _ _ x y (by omega) (by omega)
  · exact tile ws vn ug bs 0 2 512 rfl rfl _ _ _ x y (by omega) (by omega)
  · exact tile ws vn ug bs 384 1 256 rfl rfl _ _ _ x y (by omega) (by omega)
  · exact tile ws vn ug bs 256 1 256 rfl rfl _ _ _ x y (by omega) (by omega)
  · exact tile ws vn ug bs 128 1 256 rfl rfl _ _ _ x y (by omega) (by omega)
  · exact tile ws vn ug bs 0 1 256 rfl rfl _ _ _ x y (by omega) (by omega)
  · exact tile ws vn ug bs 384 0 0 rfl rfl _ _ _ x y (by omega) (by omega)
  · exact tile ws vn ug bs 256 0 0 rfl rfl _ _ _ x y (by omega) (by omega)
  · exact tile ws vn ug bs 128 0 0 rfl rfl _ _ _ x y (by omega) (by omega)
  · exact tile ws vn ug bs 0 0 0 rfl rfl _ _ _ x y (by omega) (by omega)

end Cert.KernelIdeal.Chunk
end
-- ==== Proof.Rows.lean ====
/-
  Loads through boxes of a scratch buffer of which the rows that were written are known.
-/
module

public import proofs.«01_k».proof.Proof.Conv1

@[expose] public section

set_option maxRecDepth 16384

noncomputable section

namespace Cert.KernelIdeal.Conv

open Cert.KernelIdeal Cert.KernelIdeal.Gen Cert.KernelIdeal.Value
open Idealize.ShloMosaic Idealize.ShloMosaic.TcCoe Idealize.SL.Sem

/-- A load of some of the rows that the last store wrote. -/
theorem readCov_rows {sig : RefSig} {κ : Kind} {sp : Space} {e : EltTy} {Val : EltTy → Type} [∀ e, Nonempty (Val e)] {R C n n' o g k : ℕ} (v : View sig κ sp ⟨2, ![R, C]⟩ e)
    (i : ∀ a, (![0, g] : Fin 2 → ℕ) a + (![n, k] : Fin 2 → ℕ) a ≤ (![R, C] : Fin 2 → ℕ) a)
    (i' : ∀ a, (![o, g] : Fin 2 → ℕ) a + (![n', k] : Fin 2 → ℕ) a ≤ (![R, C] : Fin 2 → ℕ) a)
    (w : (⟨2, ![n, k]⟩ : Shape).Idx → Val e) (L : List (View.Piece Val ⟨2, ![R, C]⟩ e)) (h : o + n' ≤ n) :
    v.readCov (⟨Rect.unit (s := ⟨2, ![R, C]⟩) ![0, g] ![n, k] i, w⟩ :: L) (Rect.unit (s := ⟨2, ![R, C]⟩) ![o, g] ![n', k] i').toLoadRect
      = fun x : (⟨2, ![n', k]⟩ : Shape).Idx => w (ix2 ⟨o + (x 0).val, by have h0 : (x 0).val < n' := (x 0).isLt; omega⟩ (x 1)) := by
  rw [View.readCov_eq_canon']
  funext x
  have h0 : (x 0).val < n' := (x 0).isLt
  rw [← View.canon_cons_emb (Rect.unit (s := ⟨2, ![R, C]⟩) ![0, g] ![n, k] i) w L]
  congr 1
  funext a
  refine Fin.ext ?_
  rw [Rect.idx_unit_val]
  match a with
  | ⟨0, _⟩ => show o + (x 0).val = 0 + 1 * (o + (x 0).val); omega
  | ⟨1, _⟩ => show g + (x 1).val = g + 1 * (x 1).val; omega

/-- A buffer of which the rows below `a` and then those from `a` on were written whole. -/
theorem canon_rows {e : EltTy} {Val : EltTy → Type} [∀ e, Nonempty (Val e)] {R C a n : ℕ} (hR : R = a + n)
    (i : ∀ b, (![a, 0] : Fin 2 → ℕ) b + (![n, C] : Fin 2 → ℕ) b ≤ (![R, C] : Fin 2 → ℕ) b)
    (i' : ∀ b, (![0, 0] : Fin 2 → ℕ) b + (![a, C] : Fin 2 → ℕ) b ≤ (![R, C] : Fin 2 → ℕ) b)
    (p : (⟨2, ![n, C]⟩ : Shape).Idx → Val e) (q : (⟨2, ![a, C]⟩ : Shape).Idx → Val e) (j : (⟨2, ![R, C]⟩ : Shape).Idx) :
    View.canon [(⟨Rect.unit (s := ⟨2, ![R, C]⟩) ![a, 0] ![n, C] i, p⟩ : View.Piece Val ⟨2, ![R, C]⟩ e),
        ⟨Rect.unit (s := ⟨2, ![R, C]⟩) ![0, 0] ![a, C] i', q⟩] j
      = if h : (j 0).val < a then q (ix2 ⟨(j 0).val, h⟩ (j 1))
        else p (ix2 ⟨(j 0).val - a, by have hj : (j 0).val < R := (j 0).isLt; omega⟩ (j 1)) := by
  have hj : (j 0).val < R := (j 0).isLt
  split_ifs with h
  · rw [View.canon_cons_of_not_mem _ _ (by
      rw [Rect.mem_set_unit]; intro hm; have h1 : a ≤ (j 0).val := (hm 0).1; omega)]
    rw [← View.canon_cons_emb (Rect.unit (s := ⟨2, ![R, C]⟩) ![0, 0] ![a, C] i') q []]
    congr 1
    funext b
    refine Fin.ext ?_
    match b with
    | ⟨0, _⟩ => show (j 0).val = 0 + 1 * (j 0).val; omega
    | ⟨1, _⟩ => show (j 1).val = 0 + 1 * (j 1).val; omega
  · rw [← View.canon_cons_emb (Rect.unit (s := ⟨2, ![R, C]⟩) ![a, 0] ![n, C] i) p
      [⟨Rect.unit (s := ⟨2, ![R, C]⟩) ![0, 0] ![a, C] i', q⟩]]
    congr 1
    funext b
    refine Fin.ext ?_
    match b with
    | ⟨0, _⟩ => show (j 0).val = a + 1 * ((j 0).val - a); omega
    | ⟨1, _⟩ => show (j 1).val = 0 + 1 * (j 1).val; omega

variable {G : S544x1024.Idx → Elt Ideal .f32} {H : S7x544x1024.Idx → Elt Ideal .f32} {W : S31x16x1024.Idx → Elt Ideal .f32}
  {g w : ℕ → Fin 1024 → EReal}

theorem load_window (hG : ∀ j : S544x1024.Idx, G j = g (j 0).val (j 1)) (lo : ℕ) (i) :
    (fun j => G ((Rect.unit (s := S544x1024) ![lo, 0] ![16, 1024] i).idx j)) = rows2 g lo := by
  funext j
  rw [hG]
  unfold rows2
  congr 1
  · exact Rect.idx_unit_val (s := S544x1024) ![lo, 0] ![16, 1024] i j 0
  · exact Fin.ext ((Rect.idx_unit_val (s := S544x1024) ![lo, 0] ![16, 1024] i j 1).trans (Nat.zero_add _))

theorem cast_lead (f : Vec Ideal S536x1024 .f32) (sc) (x : S1x536x1024.Idx) : shapeCast S1x536x1024 f sc x = f (ix2 (x 1) (x 2)) := by
  pointwise

/-- The shifted copies of the window: the one at `s` holds the window from row `s + 1` on. -/
theorem canon_copy (hG : ∀ j : S544x1024.Idx, G j = g (j 0).val (j 1)) (s r : ℕ) (i i' sc) (L : List (View.Piece (Elt Ideal) S7x544x1024 .f32))
    (j : S7x544x1024.Idx) (hj : (j 1).val < 536) (h : r = s + 1) :
    View.canon ((⟨Rect.unit (s := S7x544x1024) ![s, 0, 0] ![1, 536, 1024] i,
        shapeCast S1x536x1024 (fun j => G ((Rect.unit (s := S544x1024) ![r, 0] ![536, 1024] i').idx j)) sc⟩ : View.Piece (Elt Ideal) S7x544x1024 .f32) :: L) j
      = if (j 0).val = s then g (s + 1 + (j 1).val) (j 2) else View.canon L j := by
  split_ifs with h0
  · have e : j = (Rect.unit (s := S7x544x1024) ![s, 0, 0] ![1, 536, 1024] i).emb (ix3 0 ⟨(j 1).val, hj⟩ (j 2)) := by
      funext b
      refine Fin.ext ?_
      match b with
      | ⟨0, _⟩ => show (j 0).val = s + 1 * 0; omega
      | ⟨1, _⟩ => show (j 1).val = 0 + 1 * (j 1).val; omega
      | ⟨2, _⟩ => show (j 2).val = 0 + 1 * (j 2).val; omega
    refine (congrArg _ e).trans ?_
    rw [View.canon_cons_emb]
    rw [cast_lead, hG]
    congr 1
    · refine (Rect.idx_unit_val (s := S544x1024) ![r, 0] ![536, 1024] i' _ 0).trans ?_
      show r + (j 1).val = s + 1 + (j 1).val
      omega
    · exact Fin.ext ((Rect.idx_unit_val (s := S544x1024) ![r, 0] ![536, 1024] i' _ 1).trans (Nat.zero_add _))
  · rw [View.canon_cons_of_not_mem _ _ (by
      rw [Rect.mem_set_unit]; intro hm; have h1 : s ≤ (j 0).val ∧ (j 0).val < s + 1 := hm 0; omega)]

theorem load_copy (hH : ∀ j : S7x544x1024.Idx, (j 1).val < 536 → H j = g ((j 0).val + 1 + (j 1).val) (j 2)) (s lo : ℕ) (i)
    (h : lo + 16 ≤ 536) :
    (fun j => H ((Rect.unit (s := S7x544x1024) ![s, lo, 0] ![1, 16, 1024] i).idx j)) = rows3 g (s + 1 + lo) := by
  funext j
  have e0 : ((Rect.unit (s := S7x544x1024) ![s, lo, 0] ![1, 16, 1024] i).idx j 0).val = s + (j 0).val := Rect.idx_unit_val (s := S7x544x1024) ![s, lo, 0] ![1, 16, 1024] i j 0
  have e1 : ((Rect.unit (s := S7x544x1024) ![s, lo, 0] ![1, 16, 1024] i).idx j 1).val = lo + (j 1).val := Rect.idx_unit_val (s := S7x544x1024) ![s, lo, 0] ![1, 16, 1024] i j 1
  have e2 : ((Rect.unit (s := S7x544x1024) ![s, lo, 0] ![1, 16, 1024] i).idx j 2).val = 0 + (j 2).val := Rect.idx_unit_val (s := S7x544x1024) ![s, lo, 0] ![1, 16, 1024] i j 2
  have h0 : (j 0).val < 1 := (j 0).isLt
  have h1 : (j 1).val < 16 := (j 1).isLt
  rw [hH _ (by omega)]
  unfold rows3
  congr 1
  · omega
  · exact Fin.ext (e2.trans (Nat.zero_add _))

theorem load_tap (hW : ∀ j : S31x16x1024.Idx, W j = w (j 0).val (j 2)) (k : ℕ) (i) :
    (fun j => W ((Rect.unit (s := S31x16x1024) ![k, 0, 0] ![1, 16, 1024] i).idx j)) = tap w k := by
  funext j
  have e0 : ((Rect.unit (s := S31x16x1024) ![k, 0, 0] ![1, 16, 1024] i).idx j 0).val = k + (j 0).val := Rect.idx_unit_val (s := S31x16x1024) ![k, 0, 0] ![1, 16, 1024] i j 0
  have e2 : ((Rect.unit (s := S31x16x1024) ![k, 0, 0] ![1, 16, 1024] i).idx j 2).val = 0 + (j 2).val := Rect.idx_unit_val (s := S31x16x1024) ![k, 0, 0] ![1, 16, 1024] i j 2
  have h0 : (j 0).val < 1 := (j 0).isLt
  rw [hW]
  unfold tap
  congr 1
  · omega
  · exact Fin.ext (e2.trans (Nat.zero_add _))

end Cert.KernelIdeal.Conv
end
-- ==== Proof.Conv2.lean ====
/-
  The convolution's block at a grid point of the prompt: the scratch buffers as rows of one window, and the 32 blocks of 16
  rows that are stored.
-/
module

public import proofs.«01_k».proof.Proof.Rows

@[expose] public section

set_option maxRecDepth 16384

noncomputable section

namespace Cert.KernelIdeal.Conv

open Cert.KernelIdeal Cert.KernelIdeal.Gen Cert.KernelIdeal.Value
open Idealize.ShloMosaic Idealize.ShloMosaic.TcCoe Idealize.SL.Sem

/-- Row `k` of the filter. -/
def filt (X : S1x31x1024.Idx → EReal) (k : ℕ) (c : Fin 1024) : EReal := if h : k < 31 then X (ix3 0 ⟨k, h⟩ c) else 0

/-- Row `q` of the window: 32 rows of the block before (zeros before the first of a sequence), then the block's 512. -/
def window (first : BitVec 1) (prev : S32x1024.Idx → EReal) (cur : S512x1024.Idx → EReal) (q : ℕ) (c : Fin 1024) : EReal :=
  if h : q < 32 then (if first = 1#1 then 0 else prev (ix2 ⟨q, h⟩ c))
  else if h' : q < 544 then cur (ix2 ⟨q - 32, by omega⟩ c) else 0

theorem tap_piece (X : S1x31x1024.Idx → Elt Ideal .f32) (k : ℕ) (i) (a b c d) (x : S1x16x1024.Idx) (j : S31x16x1024.Idx)
    (h0 : (j 0).val = k + (x 0).val) (h2 : (j 2).val = (x 2).val) :
    shapeCast S1x16x1024 (broadcastTo S16x1024 (shapeCast S1x1024 (shapeCast S1x1024
      (View.ld X (Rect.unit (s := S1x31x1024) ![0, k, 0] ![1, 1, 1024] i) : FVec Ideal S1x1x1024 .f32) a) b) c) d x
      = filt X (j 0).val (j 2) := by
  have hk : k < 31 := by have := i 1; simp at this; omega
  have hx : (x 0).val = 0 := by have : (x 0).val < 1 := (x 0).isLt; omega
  have e0 : (j 0).val = k := by omega
  unfold filt
  rw [dif_pos (by omega)]
  pointwise
  rw [show j 2 = x 2 from Fin.ext h2]
  congr 1
  exact congrArg (fun q => ix3 0 q (x 2)) (Fin.ext e0.symm)

variable (m : (ℓ : Loc nD τ sig) → Buf (Elt Ideal) ℓ)

/-- Whether the grid point is the first of its sequence, as the program's words say it. -/
def isFirst (t : Fin cfg0.N) : BitVec 1 :=
  Scalar.cmpi .eq (Scalar.select
      (Scalar.andi
        (Scalar.xori (Scalar.cmpi .slt (Scalar.remsi (BitVec.ofNat 32 (grid0.coords t 0)) 4#32) 0#32) 0#1)
        (Scalar.cmpi .ne (Scalar.remsi (BitVec.ofNat 32 (grid0.coords t 0)) 4#32) 0#32))
      (Scalar.addi (Scalar.remsi (BitVec.ofNat 32 (grid0.coords t 0)) 4#32) 4#32)
      (Scalar.remsi (BitVec.ofNat 32 (grid0.coords t 0)) 4#32)) 0#32

/-- What the scratch window holds. -/
theorem window_read (f : BitVec 1) (P : S32x1024.Idx → Elt Ideal .f32) (X : S512x1024.Idx → Elt Ideal .f32) (i i') (j : S544x1024.Idx) :
    View.canon [(⟨Rect.unit (s := S544x1024) ![32, 0] ![512, 1024] i, k0_pay30 (F := Ideal) X⟩ : View.Piece (Elt Ideal) S544x1024 .f32),
      ⟨Rect.unit (s := S544x1024) ![0, 0] ![32, 1024] i', k0_pay29 (F := Ideal) f P⟩] j = window f P X (j 0).val (j 1) := by
  refine (canon_rows (R := 544) (C := 1024) (a := 32) (n := 512) rfl i i' _ _ j).trans ?_
  have hj : (j 0).val < 544 := (j 0).isLt
  unfold window
  split_ifs with h hf
  · pointwise [k0_pay29]
    rw [hf]
    rfl
  · pointwise [k0_pay29]
    exact if_neg hf
  · pointwise [k0_pay30]

/-- Entry `y` of the convolution's block: the taps' sum, its layer norm over the channels, and the swish. -/
def convOut (w g : ℕ → Fin 1024 → EReal) (cb lg lb : S1x1x1024.Idx → EReal) (y : S512x1024.Idx) : EReal :=
  (fun z : EReal => z * Ideal.logistic z) (Scalars.layerNorm
    (fun j => cb (ix3 0 0 j) + ∑ k ∈ Finset.range 31, w k j * g ((y 0).val + (2 + k)) j)
    (lg (ix3 0 0 (y 1))) (lb (ix3 0 0 (y 1))) (y 1))

/-- One stored block of 16 rows. -/
theorem tile (w g : ℕ → Fin 1024 → EReal) (cb lg lb : S1x1x1024.Idx → Elt Ideal .f32) (sc) (r : ℕ) (x : S16x1024.Idx) (y : S512x1024.Idx)
    (h0 : (y 0).val = r + (x 0).val) (h1 : (y 1).val = (x 1).val) :
    swish (norm (acc w g (shapeCast S1x1024 (cb : FVec Ideal S1x1x1024 .f32) sc) r 30) (shapeCast S1x1024 (lg : FVec Ideal S1x1x1024 .f32) sc)
      (shapeCast S1x1024 (lb : FVec Ideal S1x1x1024 .f32) sc)) x = convOut w g cb lg lb y := by
  have e1 : y 1 = x 1 := Fin.ext h1
  rw [swish_apply, norm_apply]
  unfold convOut
  rw [e1]
  have e : Scalars.layerNorm (fun j => acc w g (shapeCast S1x1024 (cb : FVec Ideal S1x1x1024 .f32) sc) r 30 (ix2 (x 0) j))
      (shapeCast S1x1024 (lg : FVec Ideal S1x1x1024 .f32) sc (ix2 0 (x 1))) (shapeCast S1x1024 (lb : FVec Ideal S1x1x1024 .f32) sc (ix2 0 (x 1))) (x 1)
      = Scalars.layerNorm (fun j => cb (ix3 0 0 j) + ∑ k ∈ Finset.range 31, w k j * g ((y 0).val + (2 + k)) j)
        (lg (ix3 0 0 (x 1))) (lb (ix3 0 0 (x 1))) (x 1) := by
    refine Scalars.layerNorm_congr (fun j => ?_) rfl (by pointwise) (by pointwise)
    rw [acc_apply]
    congr 1
    · pointwise
    · refine Finset.sum_congr rfl fun k _ => ?_
      rw [show r + (2 + k) + ((ix2 (x 0) j : S16x1024.Idx) 0).val = (y 0).val + (2 + k) from by show r + (2 + k) + (x 0).val = _; omega]
      rfl
  rw [e]

set_option maxHeartbeats 2000000 in
theorem stored_b (c : Dev nD) (t : Fin cfg0.N) (h0 : t.val < 16) (y : S512x1024.Idx) :
    (outsAt0 m c t.val t.isLt).2.1 y
      = convOut (filt (iblk m c 8 t)) (window (isFirst t) (iblk m c 3 t) (iblk m c 2 t)) (iblk m c 9 t) (iblk m c 10 t) (iblk m c 11 t) y := by
  rw [outsAt0_A m c t h0 (by omega)]
  frame_open
  dsimp only
  rw [View.read_writes_junk_eq_canon]
  simp only [View.readCov_eq_canon']
  generalize hW : View.canon (Val := Elt Ideal) (s := S31x16x1024) (e := .f32) _ = W
  generalize hG : View.canon (Val := Elt Ideal) (s := S544x1024) (e := .f32) _ = G
  generalize hH : View.canon (Val := Elt Ideal) (s := S7x544x1024) (e := .f32) _ = H
  simp (disch := decide) only [View.readAt_eq_ld, Memref.IsWhole.read_unread, View.ld_unit_lit'] at hW hG ⊢
  have eW : ∀ j : S31x16x1024.Idx, W j = filt (iblk m c 8 t) (j 0).val (j 2) := by
    intro j
    rw [← hW]
    canon_tiles x h
    all_goals exact tap_piece (iblk m c 8 t) _ _ _ _ _ _ x j (by omega) (by omega)
  clear hW
  have eG : ∀ j : S544x1024.Idx, G j = window (isFirst t) (iblk m c 3 t) (iblk m c 2 t) (j 0).val (j 1) := by
    intro j
    rw [← hG]
    exact window_read _ _ _ _ _ j
  clear hG
  have eH : ∀ j : S7x544x1024.Idx, (j 1).val < 536 → H j = window (isFirst t) (iblk m c 3 t) (iblk m c 2 t) ((j 0).val + 1 + (j 1).val) (j 2) := by
    intro j hj
    rw [← hH]
    have h7 : (j 0).val < 7 := (j 0).isLt
    rw [canon_copy eG 6 7 _ _ _ _ j hj rfl, canon_copy eG 5 6 _ _ _ _ j hj rfl, canon_copy eG 4 5 _ _ _ _ j hj rfl, canon_copy eG 3 4 _ _ _ _ j hj rfl,
      canon_copy eG 2 3 _ _ _ _ j hj rfl, canon_copy eG 1 2 _ _ _ _ j hj rfl, canon_copy eG 0 1 _ _ _ _ j hj rfl]
    split_ifs with a6 a5 a4 a3 a2 a1 a0
    · rw [a6]
    · rw [a5]
    · rw [a4]
    · rw [a3]
    · rw [a2]
    · rw [a1]
    · rw [a0]
    · omega
  clear hH
  simp (disch := decide) only [load_tap eW, load_window eG, load_copy eH]
  clear eW eG eH
  generalize (window (isFirst t) (iblk m c 3 t) (iblk m c 2 t)) = g
  generalize (filt (iblk m c 8 t)) = w
  generalize iblk m c 9 t = cb
  generalize iblk m c 10 t = lg
  generalize iblk m c 11 t = lb
  canon_tiles x h
  all_goals exact tile _ _ _ _ _ _ _ x y (by omega) (by omega)
end Cert.KernelIdeal.Conv
end
-- ==== Proof.Pool.lean ====
/-
  The pooling branch's block at a grid point of the prompt: sums of 2, 4, 8 and 16 trailing rows by doubling, divided by the
  number of rows there are, less the row itself, times a map per group of 256 channels and a scale per channel.
-/
module

public import proofs.«01_k».proof.Proof.Conv2
public import proofs.«01_k».proof.Proof.Rows

@[expose] public section

set_option maxRecDepth 16384

noncomputable section

namespace Cert.KernelIdeal.Pool

open Cert.KernelIdeal Cert.KernelIdeal.Gen Cert.KernelIdeal.Value
open Idealize.ShloMosaic Idealize.ShloMosaic.TcCoe Idealize.SL.Sem

/-- The sum of `w` rows from row `o` on, at the columns from `off` on. -/
def sumAt (g : ℕ → ℕ → EReal) (off w o : ℕ) {n : ℕ} : (⟨2, ![n, 256]⟩ : Shape).Idx → EReal :=
  fun x => ∑ d ∈ Finset.range w, g (o + (x 0).val + d) (off + (x 1).val)

theorem sum_double (g : ℕ → ℕ → EReal) (c w r : ℕ) :
    ∑ d ∈ Finset.range w, g (r + d) c + ∑ d ∈ Finset.range w, g (r + w + d) c = ∑ d ∈ Finset.range (w + w), g (r + d) c := by
  rw [Finset.sum_range_add]
  simp only [Nat.add_assoc]

theorem shift (g : ℕ → ℕ → EReal) (off w o : ℕ) {n n' : ℕ} (h : ∀ x : (⟨2, ![n', 256]⟩ : Shape).Idx, o + (x 0).val < n) :
    (fun x : (⟨2, ![n', 256]⟩ : Shape).Idx => sumAt g off w 0 (n := n) (ix2 ⟨o + (x 0).val, h x⟩ (x 1))) = sumAt g off w o := by
  funext x
  unfold sumAt
  rw [Nat.zero_add]
  rfl

/-- The number of rows the mean at position `p` of a sequence is over. -/
def count (w p : ℕ) : EReal := FloatOps.sitofp (F := Ideal) .f32 (Scalar.minsi (BitVec.ofNat 32 w) (Scalar.addi (BitVec.ofNat 32 p) 1#32))

theorem count_real (p : ℕ) (hp : p < 2048) (w : ℕ) (hw : w = 2 ∨ w = 4 ∨ w = 8 ∨ w = 16) : ∃ r : ℝ, r ≠ 0 ∧ count w p = (r : EReal) := by
  have hz : Scalar.minsi (BitVec.ofNat 32 w) (Scalar.addi (BitVec.ofNat 32 p) 1#32) ≠ 0#32 := by
    rcases hw with rfl | rfl | rfl | rfl
    · exact (by decide +kernel : ∀ p : Fin 2048, Scalar.minsi (BitVec.ofNat 32 2) (Scalar.addi (BitVec.ofNat 32 p.val) 1#32) ≠ 0#32) ⟨p, hp⟩
    · exact (by decide +kernel : ∀ p : Fin 2048, Scalar.minsi (BitVec.ofNat 32 4) (Scalar.addi (BitVec.ofNat 32 p.val) 1#32) ≠ 0#32) ⟨p, hp⟩
    · exact (by decide +kernel : ∀ p : Fin 2048, Scalar.minsi (BitVec.ofNat 32 8) (Scalar.addi (BitVec.ofNat 32 p.val) 1#32) ≠ 0#32) ⟨p, hp⟩
    · exact (by decide +kernel : ∀ p : Fin 2048, Scalar.minsi (BitVec.ofNat 32 16) (Scalar.addi (BitVec.ofNat 32 p.val) 1#32) ≠ 0#32) ⟨p, hp⟩
  refine ⟨((Scalar.minsi (BitVec.ofNat 32 w) (Scalar.addi (BitVec.ofNat 32 p) 1#32)).toInt : ℝ), ?_, rfl⟩
  intro h
  exact hz (BitVec.toInt_inj.mp ((Int.cast_eq_zero.mp h).trans BitVec.toInt_zero.symm))

/-- A sum times the reciprocal of a count is the sum over the count. -/
theorem mul_recip (s : EReal) (p : ℕ) (hp : p < 2048) (w : ℕ) (hw : w = 2 ∨ w = 4 ∨ w = 8 ∨ w = 16) :
    s * Ideal.div 1 (count w p) = Ideal.div s (count w p) := by
  obtain ⟨r, hr, e⟩ := count_real p hp w hw
  rw [e, Ideal.div_coe hr, Ideal.div_coe hr, one_mul]

/-- The place of the grid point in its sequence, as the program's words say it. -/
def place (t : Fin cfg0.N) : BitVec 32 :=
  Scalar.select
      (Scalar.andi
        (Scalar.xori (Scalar.cmpi .slt (Scalar.remsi (BitVec.ofNat 32 (grid0.coords t 0)) 4#32) 0#32) 0#1)
        (Scalar.cmpi .ne (Scalar.remsi (BitVec.ofNat 32 (grid0.coords t 0)) 4#32) 0#32))
      (Scalar.addi (Scalar.remsi (BitVec.ofNat 32 (grid0.coords t 0)) 4#32) 4#32)
      (Scalar.remsi (BitVec.ofNat 32 (grid0.coords t 0)) 4#32)

theorem place_eq : ∀ t : Fin cfg0.N, place t = BitVec.ofNat 32 (t.val % 4) := (by decide +kernel : ∀ t : Fin grid0.N, _)

/-- Row `q` of the window: 16 rows of the block before (zeros before the first of a sequence), then the block's 512. -/
def window (first : BitVec 1) (prev : S16x1024.Idx → EReal) (cur : S512x1024.Idx → EReal) (q c : ℕ) : EReal :=
  if hc : c < 1024 then
    if h : q < 16 then (if first = 1#1 then 0 else prev (ix2 ⟨q, h⟩ ⟨c, hc⟩))
    else if h' : q < 528 then cur (ix2 ⟨q - 16, by omega⟩ ⟨c, hc⟩) else 0
  else 0

/-- What the scratch window holds. -/
theorem window_read (f : BitVec 1) (P : S16x1024.Idx → Elt Ideal .f32) (X : S512x1024.Idx → Elt Ideal .f32) (i i') (j : S528x1024.Idx) :
    View.canon [(⟨Rect.unit (s := S528x1024) ![16, 0] ![512, 1024] i, k0_pay466 (F := Ideal) X⟩ : View.Piece (Elt Ideal) S528x1024 .f32),
      ⟨Rect.unit (s := S528x1024) ![0, 0] ![16, 1024] i', k0_pay465 (F := Ideal) f P⟩] j = window f P X (j 0).val (j 1).val := by
  refine (Conv.canon_rows (R := 528) (C := 1024) (a := 16) (n := 512) rfl i i' _ _ j).trans ?_
  have hj : (j 0).val < 528 := (j 0).isLt
  have hc : (j 1).val < 1024 := (j 1).isLt
  unfold window
  rw [dif_pos hc]
  split_ifs with h hf
  · pointwise [k0_pay465]
    rw [hf]
    rfl
  · pointwise [k0_pay465]
    exact if_neg hf
  · pointwise [k0_pay466]

theorem load {G : S528x1024.Idx → Elt Ideal .f32} {g : ℕ → ℕ → EReal} (hG : ∀ j : S528x1024.Idx, G j = g (j 0).val (j 1).val) (lo off : ℕ) (i) :
    (fun j => G ((Rect.unit (s := S528x1024) ![lo, off] ![527, 256] i).idx j)) = sumAt g off 1 lo := by
  funext j
  rw [hG]
  unfold sumAt
  rw [Finset.sum_range_one, Nat.add_zero]
  congr 1
  · exact Rect.idx_unit_val (s := S528x1024) ![lo, off] ![527, 256] i j 0
  · exact Rect.idx_unit_val (s := S528x1024) ![lo, off] ![527, 256] i j 1

/-- A sum over the rows from `o` on plus the one over those from `o + w` on is the sum over twice as many. -/
theorem sumAt_add (g : ℕ → ℕ → EReal) (off w o : ℕ) {n : ℕ} (x : (⟨2, ![n, 256]⟩ : Shape).Idx) :
    sumAt g off w o x + sumAt g off w (o + w) x = sumAt g off (w + w) o x := by
  unfold sumAt
  rw [show o + w + (x 0).val = o + (x 0).val + w from by omega]
  exact sum_double g _ w _

theorem add_468 (g : ℕ → ℕ → EReal) (off : ℕ) : k0_pay468 (F := Ideal) (sumAt g off 1 0) (sumAt g off 1 1) = sumAt g off 2 0 := by
  funext x
  pointwise [k0_pay468]
  exact sumAt_add g off 1 0 x

theorem add_471 (g : ℕ → ℕ → EReal) (off : ℕ) : k0_pay471 (F := Ideal) (sumAt g off 1 0) (sumAt g off 1 1) = sumAt g off 2 0 := by
  funext x
  pointwise [k0_pay471]
  exact sumAt_add g off 1 0 x

theorem add_472 (g : ℕ → ℕ → EReal) (off : ℕ) : k0_pay472 (F := Ideal) (sumAt g off 2 0) (sumAt g off 2 2) = sumAt g off 4 0 := by
  funext x
  pointwise [k0_pay472]
  exact sumAt_add g off 2 0 x

theorem add_474 (g : ℕ → ℕ → EReal) (off : ℕ) : k0_pay474 (F := Ideal) (sumAt g off 1 0) (sumAt g off 1 1) = sumAt g off 2 0 := by
  funext x
  pointwise [k0_pay474]
  exact sumAt_add g off 1 0 x

theorem add_477 (g : ℕ → ℕ → EReal) (off : ℕ) : k0_pay477 (F := Ideal) (sumAt g off 4 0) (sumAt g off 4 4) = sumAt g off 8 0 := by
  funext x
  pointwise [k0_pay477]
  exact sumAt_add g off 4 0 x

theorem add_479 (g : ℕ → ℕ → EReal) (off : ℕ) : k0_pay479 (F := Ideal) (sumAt g off 1 0) (sumAt g off 1 1) = sumAt g off 2 0 := by
  funext x
  pointwise [k0_pay479]
  exact sumAt_add g off 1 0 x

theorem add_480 (g : ℕ → ℕ → EReal) (off : ℕ) : k0_pay480 (F := Ideal) (sumAt g off 2 0) (sumAt g off 2 2) = sumAt g off 4 0 := by
  funext x
  pointwise [k0_pay480]
  exact sumAt_add g off 2 0 x

theorem add_481 (g : ℕ → ℕ → EReal) (off : ℕ) : k0_pay481 (F := Ideal) (sumAt g off 4 0) (sumAt g off 4 4) = sumAt g off 8 0 := by
  funext x
  pointwise [k0_pay481]
  exact sumAt_add g off 4 0 x

theorem add_482 (g : ℕ → ℕ → EReal) (off : ℕ) : k0_pay482 (F := Ideal) (sumAt g off 8 0) (sumAt g off 8 8) = sumAt g off 16 0 := by
  funext x
  pointwise [k0_pay482]
  exact sumAt_add g off 8 0 x

theorem add_475 (g : ℕ → ℕ → EReal) (off : ℕ) : k0_pay476 (F := Ideal) (k0_pay475 (F := Ideal) (sumAt g off 2 0) (sumAt g off 2 2)) = sumAt g off 4 0 := by
  funext x
  pointwise [k0_pay476, k0_pay475]
  exact sumAt_add g off 2 0 x

section
variable (S P : Vec Ideal S512x256 .f32) (n : IVec S512x1 32) (PW : Vec Ideal S1x1x256x256 .bf16) (PS : Vec Ideal S1x1x256 .f32)

theorem form2 (s : BitVec 32) : k0_pay469 s = minsi (broadcast S512x1 (BitVec.ofNat 32 2)) (addi (k0_pay467 s) (broadcast S512x1 1#32)) := rfl

theorem form4 : k0_pay473 (F := Ideal) n S P PW PS = k0_pay470 S (minsi (broadcast S512x1 (BitVec.ofNat 32 4)) (addi n (broadcast S512x1 1#32))) P PW PS := rfl

theorem form8 : k0_pay478 (F := Ideal) n S P PW PS = k0_pay470 S (minsi (broadcast S512x1 (BitVec.ofNat 32 8)) (addi n (broadcast S512x1 1#32))) P PW PS := rfl

theorem form16 : k0_pay1 (F := Ideal) (k0_pay485 (F := Ideal) S (k0_pay483 (F := Ideal) n) (k0_pay484 (F := Ideal))) P PW PS
    = k0_pay470 S (minsi (broadcast S512x1 (BitVec.ofNat 32 16)) (addi n (broadcast S512x1 1#32))) P PW PS := rfl

end

theorem pay470_apply (S P : Vec Ideal S512x256 .f32) (n : IVec S512x1 32) (PW : Vec Ideal S1x1x256x256 .bf16) (PS : Vec Ideal S1x1x256 .f32) (x : S512x256.Idx) :
    k0_pay470 (F := Ideal) S n P PW PS x
      = (∑ k : Fin 256, (S (ix2 (x 0) k) * Ideal.div 1 (FloatOps.sitofp (F := Ideal) .f32 (n (ix2 (x 0) 0))) - P (ix2 (x 0) k)) * PW (ix4 0 0 k (x 1)))
        * PS (ix3 0 0 (x 1)) := by
  pointwise [k0_pay470]

/-- The word that the count of rows is of. -/
theorem count_word (w : ℕ) (s : ℕ) (x : S512x1.Idx) :
    FloatOps.sitofp (F := Ideal) .f32 (minsi (broadcast S512x1 (BitVec.ofNat 32 w)) (addi (k0_pay467 (BitVec.ofNat 32 s)) (broadcast S512x1 1#32)) x)
      = count w (512 * s + (x 0).val) := by
  pointwise [k0_pay467]
  unfold count
  have e : Scalar.addi (Scalar.muli (BitVec.ofNat 32 s) 512#32) (BitVec.ofNat 32 (x 0).val) = BitVec.ofNat 32 (512 * s + (x 0).val) := by
    show BitVec.ofNat 32 s * BitVec.ofNat 32 512 + BitVec.ofNat 32 (x 0).val = _
    rw [← BitVec.ofNat_mul, ← BitVec.ofNat_add, Nat.mul_comm]
  exact congrArg (fun q => FloatOps.sitofp (F := Ideal) .f32 (Scalar.minsi (BitVec.ofNat 32 w) (Scalar.addi q 1#32))) e

/-- Entry `y` of the pooling block. -/
def poolOut (g : ℕ → ℕ → EReal) (s : ℕ) (P : S512x1024.Idx → EReal) (PW : S1x4x256x256.Idx → EReal) (PS : S1x1x1024.Idx → EReal) (y : S512x1024.Idx) : EReal :=
  (∑ k : Fin 256,
      (Ideal.div (∑ d ∈ Finset.range (2 ^ ((y 1).val / 256 + 1)), g (17 - 2 ^ ((y 1).val / 256 + 1) + (y 0).val + d) (256 * ((y 1).val / 256) + k.val))
          (count (2 ^ ((y 1).val / 256 + 1)) (512 * s + (y 0).val))
        - P (ix2 (y 0) ⟨256 * ((y 1).val / 256) + k.val, by have h1 : (y 1).val < 1024 := (y 1).isLt; have hk : k.val < 256 := k.isLt; omega⟩))
      * PW (ix4 0 ⟨(y 1).val / 256, by have h1 : (y 1).val < 1024 := (y 1).isLt; show _ < 4; omega⟩ k ⟨(y 1).val % 256, Nat.mod_lt _ (by decide)⟩))
    * PS (ix3 0 0 (y 1))

/-- One group of 256 channels. -/
theorem group (g : ℕ → ℕ → EReal) (t : Fin cfg0.N) (P : S512x1024.Idx → Elt Ideal .f32) (PW : S1x4x256x256.Idx → Elt Ideal .bf16) (PS : S1x1x1024.Idx → Elt Ideal .f32)
    (w q off : ℕ) (i i' i'') (hq : w = 2 ^ (q + 1)) (hw : w = 2 ∨ w = 4 ∨ w = 8 ∨ w = 16) (ho : off = 256 * q) (o : ℕ) (hoo : o = 17 - w) (s : BitVec 32) (hs : s = place t)
    (x : S512x256.Idx) (y : S512x1024.Idx) (h0 : (y 0).val = (x 0).val) (h1 : (y 1).val = off + (x 1).val) :
    k0_pay470 (F := Ideal) (sumAt g off w o)
        (minsi (broadcast S512x1 (BitVec.ofNat 32 w)) (addi (k0_pay467 s) (broadcast S512x1 1#32)))
        (View.ld P (Rect.unit (s := S512x1024) ![0, off] ![512, 256] i))
        (View.ld PW (Rect.unit (s := S1x4x256x256) ![0, q, 0, 0] ![1, 1, 256, 256] i'))
        (View.ld PS (Rect.unit (s := S1x1x1024) ![0, 0, off] ![1, 1, 256] i'')) x
      = poolOut g (t.val % 4) P PW PS y := by
  have hx0 : (x 0).val < 512 := (x 0).isLt
  have hx1 : (x 1).val < 256 := (x 1).isLt
  have hy1 : (y 1).val < 1024 := (y 1).isLt
  have ht : t.val % 4 < 4 := Nat.mod_lt _ (by decide)
  have eq : (y 1).val / 256 = q := by omega
  have em : (y 1).val % 256 = (x 1).val := by omega
  have e0 : x 0 = y 0 := Fin.ext h0.symm
  rw [pay470_apply, hs, place_eq]
  unfold poolOut
  congr 1
  · refine Finset.sum_congr rfl fun k _ => ?_
    have hk : k.val < 256 := k.isLt
    congr 1
    · congr 1
      · rw [count_word, mul_recip _ _ (by show 512 * (t.val % 4) + (x 0).val < 2048; omega) w hw]
        unfold sumAt
        simp only [eq, ← hq, ← ho, ← hoo, h0]
        rfl
      · show P _ = _
        congr 1
        funext b
        refine Fin.ext ?_
        match b with
        | ⟨0, _⟩ => show 0 + 1 * (x 0).val = (y 0).val; omega
        | ⟨1, _⟩ => show off + 1 * k.val = 256 * ((y 1).val / 256) + k.val; omega
    · show PW _ = _
      congr 1
      funext b
      refine Fin.ext ?_
      match b with
      | ⟨0, _⟩ => rfl
      | ⟨1, _⟩ => show q + 1 * 0 = (y 1).val / 256; omega
      | ⟨2, _⟩ => show 0 + 1 * k.val = k.val; omega
      | ⟨3, _⟩ => show 0 + 1 * (x 1).val = (y 1).val % 256; omega
  · show PS _ = _
    congr 1
    funext b
    refine Fin.ext ?_
    match b with
    | ⟨0, _⟩ => rfl
    | ⟨1, _⟩ => rfl
    | ⟨2, _⟩ => show off + 1 * (x 1).val = (y 1).val; omega

variable (m : (ℓ : Loc nD τ sig) → Buf (Elt Ideal) ℓ)

set_option maxHeartbeats 1000000 in
theorem stored_c (c : Dev nD) (t : Fin cfg0.N) (h0 : t.val < 16) (y : S512x1024.Idx) :
    (outsAt0 m c t.val t.isLt).2.2 y
      = poolOut (window (Conv.isFirst t) (iblk m c 5 t) (iblk m c 4 t)) (t.val % 4) (iblk m c 4 t) (iblk m c 12 t) (iblk m c 13 t) y := by
  rw [outsAt0_A m c t h0 (by omega)]
  frame_open
  dsimp only
  rw [View.read_writes_junk_eq_canon]
  simp only [View.readCov_eq_canon' scM0_2.view]
  generalize hG : View.canon (Val := Elt Ideal) (s := S528x1024) (e := .f32) _ = G
  simp (disch := decide) only [↓ View.readCov_skip, ↓ Conv.readCov_rows]
  simp (disch := decide) only [View.readAt_eq_ld, Memref.IsWhole.read_unread, View.ld_unit_lit'] at hG ⊢
  have eG : ∀ j : S528x1024.Idx, G j = window (Conv.isFirst t) (iblk m c 5 t) (iblk m c 4 t) (j 0).val (j 1).val := by
    intro j
    rw [← hG]
    exact window_read _ _ _ _ _ j
  clear hG
  simp only [load eG, add_468, add_471, add_472, add_474, add_475, add_477, add_479, add_480, add_481, add_482, shift, form2, form4, form8, form16]
  clear eG
  generalize (window (Conv.isFirst t) (iblk m c 5 t) (iblk m c 4 t)) = g
  generalize iblk m c 4 t = P
  generalize iblk m c 12 t = PW
  generalize iblk m c 13 t = PS
  canon_tiles x h
  · exact group g t P PW PS 16 3 768 _ _ _ rfl (by decide) rfl 1 rfl _ rfl x y (by omega) (by omega)
  · exact group g t P PW PS 8 2 512 _ _ _ rfl (by decide) rfl 9 rfl _ rfl x y (by omega) (by omega)
  · exact group g t P PW PS 4 1 256 _ _ _ rfl (by decide) rfl 13 rfl _ rfl x y (by omega) (by omega)
  · exact group g t P PW PS 2 0 0 _ _ _ rfl (by decide) rfl 15 rfl _ rfl x y (by omega) (by omega)

end Cert.KernelIdeal.Pool
end
-- ==== Proof.RefRows.lean ====
/-
  The reference of the prompt's mixers at an index: its padded sequences, its convolution as a sum over the taps, and its
  means over the trailing rows.
-/
module

public import proofs.«01_k».proof.Proof.Pool
public import proofs.«01_k».proof.Defs
public import proofs.«01_k».proof.Proof.Gen.ReferenceIdeal.Run

@[expose] public section

set_option maxRecDepth 16384

noncomputable section

namespace Cert.ReferenceIdeal.Rows

open Cert.ReferenceIdeal Cert.ReferenceIdeal.Gen Cert.ReferenceIdeal.Value
open Idealize.ShloMosaic Idealize.ShloMosaic.TcCoe Idealize.SL.Sem

/-- Row `q` of sequence `b` with `n` rows of zeros before it. -/
def padded (n : ℕ) (f : S8704x1024.Idx → EReal) (b q c : ℕ) : EReal :=
  if h : n ≤ q ∧ b * 2048 + (q - n) < 8704 ∧ c < 1024 then f (ix2 ⟨b * 2048 + (q - n), h.2.1⟩ ⟨c, h.2.2⟩) else 0

/-- Row `k` of the filter. -/
def filt (w : S2x31x1024.Idx → EReal) (k : ℕ) (c : Fin 1024) : EReal := w (ix3 0 (Fin.ofNat 31 k) c)

theorem v23_at (V : Valuation τ sig (Elt Ideal)) (j : S4x2078x1024.Idx) :
    res_main_v23 V j = padded 30 (V (Proc.devRef .tc main_arg2)) (j 0).val (j 1).val (j 2).val := by
  have h0 : (j 0).val < 4 := (j 0).isLt
  have h1 : (j 1).val < 2078 := (j 1).isLt
  have h2 : (j 2).val < 1024 := (j 2).isLt
  unfold padded
  pointwise [res_main_v23]
  by_cases h : (j 1).val < 30
  · rw [dif_pos h, dif_neg (by omega)]
  · rw [dif_neg h, dif_pos ⟨by omega, by omega⟩]

theorem v273_at (V : Valuation τ sig (Elt Ideal)) (j : S4x2063x1024.Idx) :
    res_main_v273 V j = padded 15 (V (Proc.devRef .tc main_arg3)) (j 0).val (j 1).val (j 2).val := by
  have h0 : (j 0).val < 4 := (j 0).isLt
  have h1 : (j 1).val < 2063 := (j 1).isLt
  have h2 : (j 2).val < 1024 := (j 2).isLt
  unfold padded
  pointwise [res_main_v273, res_main_v7]
  by_cases h : (j 1).val < 15
  · rw [dif_pos h, dif_neg (by omega)]
  · rw [dif_neg h, dif_pos ⟨by omega, by omega⟩]

theorem v244_at (V : Valuation τ sig (Elt Ideal)) (j : S4x2048x1024.Idx) :
    res_main_v244 V j = (∑ k ∈ Finset.range 31, padded 30 (V (Proc.devRef .tc main_arg2)) (j 0).val (k + (j 1).val) (j 2).val * filt (V (Proc.devRef .tc main_arg6)) k (j 2))
      + V (Proc.devRef .tc main_arg7) (ix2 0 (j 2)) := by
  simp only [Finset.sum_range_succ, Finset.sum_range_zero, zero_add]
  pointwise [res_main_v244, res_main_v239, res_main_v169, res_main_v99]
  simp only [v23_at]
  rfl

theorem v270_at (V : Valuation τ sig (Elt Ideal)) (j : S4x2048x1024.Idx) :
    res_main_v270 V j = Scalars.layerNorm (fun c => res_main_v244 V (ix3 (j 0) (j 1) c)) (V (Proc.devRef .tc main_arg8) (ix2 0 (j 2)))
      (V (Proc.devRef .tc main_arg9) (ix2 0 (j 2))) (j 2) := by
  unfold Scalars.layerNorm Scalars.mean
  pointwise [res_main_v270, res_main_v254]

theorem v367_at (V : Valuation τ sig (Elt Ideal)) (j : S4x2048x4x256.Idx) :
    res_main_v367 V j = Ideal.div (∑ d ∈ Finset.range (2 ^ ((j 2).val + 1)),
        padded 15 (V (Proc.devRef .tc main_arg3)) (j 0).val (15 - d + (j 1).val) (256 * (j 2).val + (j 3).val))
      (KernelIdeal.Pool.count (2 ^ ((j 2).val + 1)) (j 1).val) := by
  have h2 : (j 2).val < 4 := (j 2).isLt
  pointwise [res_main_v367, res_main_v274]
  simp only [v273_at]
  split_ifs with a b c
  · rw [show (j 2).val = 0 by omega]
    simp only [Nat.reduceAdd, Nat.reducePow, Nat.reduceMul, zero_add, Finset.sum_range_succ, Finset.sum_range_zero, Nat.reduceSub]
    rfl
  · rw [show (j 2).val = 1 by omega]
    simp only [Nat.reduceAdd, Nat.reducePow, Nat.reduceMul, zero_add, Finset.sum_range_succ, Finset.sum_range_zero, Nat.reduceSub]
    rfl
  · rw [show (j 2).val = 2 by omega]
    simp only [Nat.reduceAdd, Nat.reducePow, Nat.reduceMul, zero_add, Finset.sum_range_succ, Finset.sum_range_zero, Nat.reduceSub]
    rfl
  · rw [show (j 2).val = 3 by omega]
    simp only [Nat.reduceAdd, Nat.reducePow, Nat.reduceMul, zero_add, Finset.sum_range_succ, Finset.sum_range_zero, Nat.reduceSub]
    rfl

end Cert.ReferenceIdeal.Rows
end
-- ==== Proof.Mixers.lean ====
/-
  The prompt's three mixers: what the kernel's 16 grid points of the prompt and the last one, of the sample rows, store, and
  the reference, are the same three arrays.
-/
module

public import proofs.«01_k».proof.Proof.Chunk
public import proofs.«01_k».proof.Proof.Pool
public import proofs.«01_k».proof.Proof.RefRows
public import proofs.«01_k».proof.Defs
public import proofs.«01_k».proof.Proof.Gen.ReferenceIdeal.Run

@[expose] public section

set_option maxRecDepth 16384

noncomputable section

namespace Cert.KernelIdeal.Tied

open Cert.KernelIdeal Cert.KernelIdeal.Gen Cert.KernelIdeal.Value
open Idealize.ShloMosaic Idealize.ShloMosaic.TcCoe Idealize.SL.Sem
open Cert.ReferenceIdeal.Rows (padded)

/-- The gated mixing of the rows of a chunk of 128. -/
def gating (u v : S8704x1024.Idx → EReal) (ws : S2x4x128x128.Idx → EReal) (bs : S2x4x128.Idx → EReal) (i : S8704x1024.Idx) : EReal :=
  have h0 : (i 0).val < 8704 := (i 0).isLt
  have h1 : (i 1).val < 1024 := (i 1).isLt
  if (i 0).val < 8192 then
    u (ix2 ⟨(i 0).val / 2048 * 2048 + (i 0).val % 2048, by show _ < 8704; omega⟩ (i 1)) *
      ((∑ k : Fin 128, Scalar.select (IntOp.cmpi .sge (BitVec.ofNat 32 ((i 0).val % 2048 % 128)) (BitVec.ofNat 32 k.val))
        (v (ix2 ⟨(i 0).val / 2048 * 2048 + (i 0).val % 2048 / 128 * 128 + k.val, by have hk : k.val < 128 := k.isLt; show _ < 8704; omega⟩ (i 1))
          * ws (ix4 0 ⟨(i 1).val / 256, by show _ < 4; omega⟩ ⟨(i 0).val % 2048 % 128, by show _ < 128; omega⟩ k)) 0)
        + bs (ix3 0 ⟨(i 1).val / 256, by show _ < 4; omega⟩ ⟨(i 0).val % 2048 % 128, by show _ < 128; omega⟩))
  else 0

/-- The swish of the layer norm of the convolution over the trailing rows. -/
def convolved (x : S8704x1024.Idx → EReal) (w : S2x31x1024.Idx → EReal) (cb lg lb : S2x1024.Idx → EReal) (i : S8704x1024.Idx) : EReal :=
  if (i 0).val < 8192 then
    (fun z : EReal => z * Ideal.logistic z) (Scalars.layerNorm
      (fun j => (∑ k ∈ Finset.range 31, padded 30 x ((i 0).val / 2048) (k + (i 0).val % 2048) j.val * ReferenceIdeal.Rows.filt w k j) + cb (ix2 0 j))
      (lg (ix2 0 (i 1))) (lb (ix2 0 (i 1))) (i 1))
  else 0

/-- The means over the trailing rows less the row, times the map of the group, times the scale. -/
def pooled (p : S8704x1024.Idx → EReal) (w : S2x4x256x256.Idx → EReal) (ps : S2x1024.Idx → EReal) (i : S8704x1024.Idx) : EReal :=
  have h0 : (i 0).val < 8704 := (i 0).isLt
  have h1 : (i 1).val < 1024 := (i 1).isLt
  if (i 0).val < 8192 then
    (∑ k : Fin 256, w (ix4 0 ⟨(i 1).val / 256, by show _ < 4; omega⟩ k ⟨(i 1).val % 256, by show _ < 256; omega⟩)
      * (Ideal.div (∑ d ∈ Finset.range (2 ^ ((i 1).val / 256 + 1)),
            padded 15 p ((i 0).val / 2048) (15 - d + (i 0).val % 2048) (256 * ((i 1).val / 256) + k.val))
          (Pool.count (2 ^ ((i 1).val / 256 + 1)) ((i 0).val % 2048))
        - p (ix2 ⟨(i 0).val / 2048 * 2048 + (i 0).val % 2048, by show _ < 8704; omega⟩
            ⟨(i 1).val / 256 * 256 + k.val, by have hk : k.val < 256 := k.isLt; show _ < 1024; omega⟩)))
      * ps (ix2 0 (i 1))
  else 0

variable (m : (ℓ : Loc nD τ sig) → Buf (Elt Ideal) ℓ)

/-- The place in the array of an entry of a grid point's block. -/
def row (t : Fin cfg0.N) (z : S512x1024.Idx) : S8704x1024.Idx :=
  ix2 ⟨t.val * 512 + (z 0).val, by have ht : t.val < 17 := t.isLt; have h0 : (z 0).val < 512 := (z 0).isLt; show _ < 8704; omega⟩ (z 1)

/-- The blocks of the windows at a grid point of the prompt. -/
theorem index : ∀ t : Fin cfg0.N, t.val < 16 → win0_0.index t = ![t.val, 0] ∧ win0_1.index t = ![t.val, 0] ∧ win0_2.index t = ![t.val, 0] ∧ win0_4.index t = ![t.val, 0]
    ∧ win0_6.index t = ![0, 0, 0, 0] ∧ win0_7.index t = ![0, 0, 0] ∧ win0_8.index t = ![0, 0, 0] ∧ win0_9.index t = ![0, 0, 0]
    ∧ win0_10.index t = ![0, 0, 0] ∧ win0_11.index t = ![0, 0, 0] ∧ win0_12.index t = ![0, 0, 0, 0] ∧ win0_13.index t = ![0, 0, 0] :=
  (by decide +kernel : ∀ t : Fin grid0.N, _)

/-- The blocks of rows before, where there are any. -/
theorem index_halo : ∀ t : Fin cfg0.N, t.val < 16 → t.val % 4 ≠ 0 → win0_3.index t = ![16 * t.val - 1, 0] ∧ win0_5.index t = ![32 * t.val - 1, 0] :=
  (by decide +kernel : ∀ t : Fin grid0.N, _)

theorem isFirst_iff : ∀ t : Fin cfg0.N, Conv.isFirst t = 1#1 ↔ t.val % 4 = 0 :=
  (by decide +kernel : ∀ t : Fin grid0.N, _)

theorem index_out : ∀ t : Fin cfg0.N, win0_14.index t = ![t.val, 0] ∧ win0_15.index t = ![t.val, 0] ∧ win0_16.index t = ![t.val, 0] :=
  (by decide +kernel : ∀ t : Fin grid0.N, _)

section
variable (c : Dev nD) (t : Fin cfg0.N) (ht : t.val < 16)
include ht

theorem blk0 (z : S512x1024.Idx) : iblk m c 0 t z = m ((c : Thread nD τ).loc main_arg0) (row t z) := by
  unfold row
  blk_point [iblk, V, index t ht]

theorem blk1 (z : S512x1024.Idx) : iblk m c 1 t z = m ((c : Thread nD τ).loc main_arg1) (row t z) := by
  unfold row
  blk_point [iblk, V, index t ht]

theorem blk2 (z : S512x1024.Idx) : iblk m c 2 t z = m ((c : Thread nD τ).loc main_arg2) (row t z) := by
  unfold row
  blk_point [iblk, V, index t ht]

theorem blk4 (z : S512x1024.Idx) : iblk m c 4 t z = m ((c : Thread nD τ).loc main_arg3) (row t z) := by
  unfold row
  blk_point [iblk, V, index t ht]

theorem blk3 (h : t.val % 4 ≠ 0) (z : S32x1024.Idx) :
    iblk m c 3 t z = m ((c : Thread nD τ).loc main_arg2) (ix2 ⟨t.val * 512 - 32 + (z 0).val, by have h0 : (z 0).val < 32 := (z 0).isLt; show _ < 8704; omega⟩ (z 1)) := by
  blk_point [iblk, V, index_halo t ht h]

theorem blk5 (h : t.val % 4 ≠ 0) (z : S16x1024.Idx) :
    iblk m c 5 t z = m ((c : Thread nD τ).loc main_arg3) (ix2 ⟨t.val * 512 - 16 + (z 0).val, by have h0 : (z 0).val < 16 := (z 0).isLt; show _ < 8704; omega⟩ (z 1)) := by
  blk_point [iblk, V, index_halo t ht h]

theorem blk6 (z : S1x4x128x128.Idx) : iblk m c 6 t z = m ((c : Thread nD τ).loc main_arg4) (ix4 0 (z 1) (z 2) (z 3)) := by
  blk_point [iblk, V, index t ht]

theorem blk7 (z : S1x128x1024.Idx) : iblk m c 7 t z
    = m ((c : Thread nD τ).loc main_arg5) (ix3 0 ⟨(z 2).val / 256, by have h0 : (z 2).val < 1024 := (z 2).isLt; show _ < 4; omega⟩ (z 1)) := by
  blk_point [iblk, V, index t ht]

theorem blk8 (z : S1x31x1024.Idx) : iblk m c 8 t z = m ((c : Thread nD τ).loc main_arg6) (ix3 0 (z 1) (z 2)) := by
  blk_point [iblk, V, index t ht]

theorem blk9 (z : S1x1x1024.Idx) : iblk m c 9 t z = m ((c : Thread nD τ).loc main_arg7) (ix2 0 (z 2)) := by
  blk_point [iblk, V, index t ht]

theorem blk10 (z : S1x1x1024.Idx) : iblk m c 10 t z = m ((c : Thread nD τ).loc main_arg8) (ix2 0 (z 2)) := by
  blk_point [iblk, V, index t ht]

theorem blk11 (z : S1x1x1024.Idx) : iblk m c 11 t z = m ((c : Thread nD τ).loc main_arg9) (ix2 0 (z 2)) := by
  blk_point [iblk, V, index t ht]

theorem blk12 (z : S1x4x256x256.Idx) : iblk m c 12 t z = m ((c : Thread nD τ).loc main_arg10) (ix4 0 (z 1) (z 2) (z 3)) := by
  blk_point [iblk, V, index t ht]

theorem blk13 (z : S1x1x1024.Idx) : iblk m c 13 t z = m ((c : Thread nD τ).loc main_arg11) (ix2 0 (z 2)) := by
  blk_point [iblk, V, index t ht]
end

theorem zeros (c : Dev nD) (t : Fin cfg0.N) (h0 : ¬ t.val < 16) (y : S512x1024.Idx) :
    (outsAt0 m c t.val t.isLt).1 y = (0 : EReal) ∧ (outsAt0 m c t.val t.isLt).2.1 y = (0 : EReal) ∧ (outsAt0 m c t.val t.isLt).2.2 y = (0 : EReal) := by
  rw [outsAt0_B m c t h0 (by have ht : t.val < 17 := t.isLt; omega)]
  refine ⟨?_, ?_, ?_⟩
  · frame_out
    pointwise [k0_pay2]
  · frame_out
    pointwise [k0_pay3]
  · frame_out
    pointwise [k0_pay4]

theorem select_mul (b : BitVec 1) (v w : EReal) : Scalar.select b (v * w) 0 = Scalar.select b w 0 * v := by
  unfold Scalar.select
  split_ifs
  · exact mul_comm _ _
  · exact (zero_mul _).symm

theorem chunk_eq (c : Dev nD) (t : Fin cfg0.N) (ht : t.val < 16) (y : S512x1024.Idx) :
    Chunk.chunkOut (iblk m c 6 t) (iblk m c 1 t) (iblk m c 0 t) (iblk m c 7 t) y
      = gating (m ((c : Thread nD τ).loc main_arg0)) (m ((c : Thread nD τ).loc main_arg1)) (m ((c : Thread nD τ).loc main_arg4))
          (m ((c : Thread nD τ).loc main_arg5)) (row t y) := by
  have h0 : (y 0).val < 512 := (y 0).isLt
  have e0 : (row t y 0).val = t.val * 512 + (y 0).val := rfl
  have e1 : row t y 1 = y 1 := rfl
  have em : (y 0).val % 128 = (row t y 0).val % 2048 % 128 := by omega
  unfold Chunk.chunkOut gating
  rw [if_pos (by omega)]
  rw [blk0 m c t ht, blk7 m c t ht]
  simp only [blk1 m c t ht, blk6 m c t ht, select_mul]
  congr 1
  · congr 1
    funext b
    refine Fin.ext ?_
    match b with
    | ⟨0, _⟩ => show (row t y 0).val = (row t y 0).val / 2048 * 2048 + (row t y 0).val % 2048; omega
    | ⟨1, _⟩ => rfl
  · congr 1
    · refine Finset.sum_congr rfl fun k _ => ?_
      have hk : k.val < 128 := k.isLt
      congr 1
      · rw [show BitVec.ofNat 32 ((y 0).val % 128) = BitVec.ofNat 32 ((row t y 0).val % 2048 % 128) from by rw [em]]
        congr 2
        funext b
        refine Fin.ext ?_
        match b with
        | ⟨0, _⟩ => rfl
        | ⟨1, _⟩ => rfl
        | ⟨2, _⟩ => exact em
        | ⟨3, _⟩ => rfl
      · congr 1
        funext b
        refine Fin.ext ?_
        match b with
        | ⟨0, _⟩ => show t.val * 512 + (128 * ((y 0).val / 128) + k.val) = (row t y 0).val / 2048 * 2048 + (row t y 0).val % 2048 / 128 * 128 + k.val; omega
        | ⟨1, _⟩ => rfl
    · congr 1
      funext b
      refine Fin.ext ?_
      match b with
      | ⟨0, _⟩ => rfl
      | ⟨1, _⟩ => rfl
      | ⟨2, _⟩ => exact em

theorem window_eq (c : Dev nD) (t : Fin cfg0.N) (ht : t.val < 16) (x k : ℕ) (hx : x < 512) (hk : k < 31) (j : Fin 1024) :
    Conv.window (Conv.isFirst t) (iblk m c 3 t) (iblk m c 2 t) (x + (2 + k)) j
      = padded 30 (m ((c : Thread nD τ).loc main_arg2)) ((t.val * 512 + x) / 2048) (k + (t.val * 512 + x) % 2048) j.val := by
  have hj : j.val < 1024 := j.isLt
  unfold Conv.window padded
  by_cases hq : x + (2 + k) < 32
  · rw [dif_pos hq]
    by_cases hf : t.val % 4 = 0
    · rw [if_pos ((isFirst_iff t).mpr hf), dif_neg (by omega)]
    · rw [if_neg (fun h => hf ((isFirst_iff t).mp h)), blk3 m c t ht hf, dif_pos ⟨by omega, by omega, hj⟩]
      congr 1
      funext b
      refine Fin.ext ?_
      match b with
      | ⟨0, _⟩ => show t.val * 512 - 32 + (x + (2 + k)) = (t.val * 512 + x) / 2048 * 2048 + (k + (t.val * 512 + x) % 2048 - 30); omega
      | ⟨1, _⟩ => rfl
  · rw [dif_neg hq, dif_pos (by omega), blk2 m c t ht, dif_pos ⟨by omega, by omega, hj⟩]
    congr 1
    funext b
    refine Fin.ext ?_
    match b with
    | ⟨0, _⟩ => show t.val * 512 + (x + (2 + k) - 32) = (t.val * 512 + x) / 2048 * 2048 + (k + (t.val * 512 + x) % 2048 - 30); omega
    | ⟨1, _⟩ => rfl

theorem filt_eq (c : Dev nD) (t : Fin cfg0.N) (ht : t.val < 16) (k : ℕ) (hk : k < 31) (j : Fin 1024) :
    Conv.filt (iblk m c 8 t) k j = ReferenceIdeal.Rows.filt (m ((c : Thread nD τ).loc main_arg6)) k j := by
  unfold Conv.filt ReferenceIdeal.Rows.filt
  rw [dif_pos hk, blk8 m c t ht]
  congr 1
  funext b
  refine Fin.ext ?_
  match b with
  | ⟨0, _⟩ => rfl
  | ⟨1, _⟩ => exact (Nat.mod_eq_of_lt hk).symm
  | ⟨2, _⟩ => rfl

theorem conv_eq (c : Dev nD) (t : Fin cfg0.N) (ht : t.val < 16) (y : S512x1024.Idx) :
    Conv.convOut (Conv.filt (iblk m c 8 t)) (Conv.window (Conv.isFirst t) (iblk m c 3 t) (iblk m c 2 t)) (iblk m c 9 t) (iblk m c 10 t) (iblk m c 11 t) y
      = convolved (m ((c : Thread nD τ).loc main_arg2)) (m ((c : Thread nD τ).loc main_arg6)) (m ((c : Thread nD τ).loc main_arg7))
          (m ((c : Thread nD τ).loc main_arg8)) (m ((c : Thread nD τ).loc main_arg9)) (row t y) := by
  have h0 : (y 0).val < 512 := (y 0).isLt
  have e0 : (row t y 0).val = t.val * 512 + (y 0).val := rfl
  unfold Conv.convOut convolved
  rw [if_pos (by omega)]
  refine congrArg (fun z : EReal => z * Ideal.logistic z) (Scalars.layerNorm_congr (fun j => ?_) rfl (blk10 m c t ht _) (blk11 m c t ht _))
  rw [add_comm, blk9 m c t ht]
  congr 1
  refine Finset.sum_congr rfl fun k hk => ?_
  have hk' : k < 31 := Finset.mem_range.mp hk
  rw [window_eq m c t ht _ _ h0 hk', filt_eq m c t ht k hk', mul_comm]
  rfl

theorem pool_window_eq (c : Dev nD) (t : Fin cfg0.N) (ht : t.val < 16) (x q e : ℕ) (hx : x < 512) (he : e ≤ 15) (hq : q = 16 - e + x) (j : ℕ) (hj : j < 1024) :
    Pool.window (Conv.isFirst t) (iblk m c 5 t) (iblk m c 4 t) q j
      = padded 15 (m ((c : Thread nD τ).loc main_arg3)) ((t.val * 512 + x) / 2048) (15 - e + (t.val * 512 + x) % 2048) j := by
  unfold Pool.window padded
  rw [dif_pos hj]
  by_cases h : q < 16
  · rw [dif_pos h]
    by_cases hf : t.val % 4 = 0
    · rw [if_pos ((isFirst_iff t).mpr hf), dif_neg (by omega)]
    · rw [if_neg (fun h => hf ((isFirst_iff t).mp h)), blk5 m c t ht hf, dif_pos ⟨by omega, by omega, hj⟩]
      congr 1
      funext b
      refine Fin.ext ?_
      match b with
      | ⟨0, _⟩ => show t.val * 512 - 16 + q = (t.val * 512 + x) / 2048 * 2048 + (15 - e + (t.val * 512 + x) % 2048 - 15); omega
      | ⟨1, _⟩ => rfl
  · rw [dif_neg h, dif_pos (by omega), blk4 m c t ht, dif_pos ⟨by omega, by omega, hj⟩]
    congr 1
    funext b
    refine Fin.ext ?_
    match b with
    | ⟨0, _⟩ => show t.val * 512 + (q - 16) = (t.val * 512 + x) / 2048 * 2048 + (15 - e + (t.val * 512 + x) % 2048 - 15); omega
    | ⟨1, _⟩ => rfl

theorem pool_eq (c : Dev nD) (t : Fin cfg0.N) (ht : t.val < 16) (y : S512x1024.Idx) :
    Pool.poolOut (Pool.window (Conv.isFirst t) (iblk m c 5 t) (iblk m c 4 t)) (t.val % 4) (iblk m c 4 t) (iblk m c 12 t) (iblk m c 13 t) y
      = pooled (m ((c : Thread nD τ).loc main_arg3)) (m ((c : Thread nD τ).loc main_arg10)) (m ((c : Thread nD τ).loc main_arg11)) (row t y) := by
  have h0 : (y 0).val < 512 := (y 0).isLt
  have h1 : (y 1).val < 1024 := (y 1).isLt
  have e0 : (row t y 0).val = t.val * 512 + (y 0).val := rfl
  have e1 : (row t y 1).val = (y 1).val := rfl
  have hw : 2 ^ ((y 1).val / 256 + 1) ≤ 16 := by
    refine (Nat.pow_le_pow_right (n := 2) (by decide) (show (y 1).val / 256 + 1 ≤ 4 by omega)).trans (by decide)
  unfold Pool.poolOut pooled
  rw [if_pos (by omega), blk13 m c t ht]
  refine congr (congrArg HMul.hMul ?_) rfl
  refine Finset.sum_congr rfl fun k _ => ?_
  have hk : k.val < 256 := k.isLt
  rw [mul_comm, blk12 m c t ht, blk4 m c t ht]
  refine congr (congrArg HMul.hMul rfl) ?_
  refine congr (congrArg HSub.hSub ?_) ?_
  · refine congr (congrArg Ideal.div ?_) ?_
    · refine Eq.trans ?_ (Finset.sum_range_reflect (fun d => padded 15 (m ((c : Thread nD τ).loc main_arg3)) ((row t y 0).val / 2048)
        (15 - d + (row t y 0).val % 2048) (256 * ((row t y 1).val / 256) + k.val)) (2 ^ ((y 1).val / 256 + 1)))
      refine Finset.sum_congr rfl fun d hd => ?_
      have hd' : d < 2 ^ ((y 1).val / 256 + 1) := Finset.mem_range.mp hd
      exact pool_window_eq m c t ht (y 0).val _ _ h0 (by omega) (by omega) _ (by omega)
    · exact congrArg _ (by omega)
  · congr 1
    funext b
    refine Fin.ext ?_
    match b with
    | ⟨0, _⟩ => show t.val * 512 + (y 0).val = (row t y 0).val / 2048 * 2048 + (row t y 0).val % 2048; omega
    | ⟨1, _⟩ => show 256 * ((y 1).val / 256) + k.val = (y 1).val / 256 * 256 + k.val; omega

theorem array_a (c : Dev nD) : (dats m 0 c).arrAt 14 cfg0.N = gating (m ((c : Thread nD τ).loc main_arg0))
    (m ((c : Thread nD τ).loc main_arg1)) (m ((c : Thread nD τ).loc main_arg4)) (m ((c : Thread nD τ).loc main_arg5)) := by
  refine (dats m 0 c).arrAt_eq_of_covers 14 _ (by decide +kernel) fun t hf y => ?_
  blk_simp
  have e : (win0_14.blk t).view.emb y = row t y := by
    unfold row
    blk_ext [index_out t]
  rw [after0_14, e]
  by_cases ht : t.val < 16
  · exact (Chunk.stored_a m c t ht y).trans (chunk_eq m c t ht y)
  · refine (zeros m c t ht y).1.trans (if_neg ?_).symm
    show ¬ t.val * 512 + (y 0).val < 8192
    omega

theorem array_b (c : Dev nD) : (dats m 0 c).arrAt 15 cfg0.N = convolved (m ((c : Thread nD τ).loc main_arg2))
    (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t hf y => ?_
  blk_simp
  have e : (win0_15.blk t).view.emb y = row t y := by
    unfold row
    blk_ext [index_out t]
  rw [after0_15, e]
  by_cases ht : t.val < 16
  · exact (Conv.stored_b m c t ht y).trans (conv_eq m c t ht y)
  · refine (zeros m c t ht y).2.1.trans (if_neg ?_).symm
    show ¬ t.val * 512 + (y 0).val < 8192
    omega

theorem array_c (c : Dev nD) : (dats m 0 c).arrAt 16 cfg0.N = pooled (m ((c : Thread nD τ).loc main_arg3))
    (m ((c : Thread nD τ).loc main_arg10)) (m ((c : Thread nD τ).loc main_arg11)) := by
  refine (dats m 0 c).arrAt_eq_of_covers 16 _ (by decide +kernel) fun t hf y => ?_
  blk_simp
  have e : (win0_16.blk t).view.emb y = row t y := by
    unfold row
    blk_ext [index_out t]
  rw [after0_16, e]
  by_cases ht : t.val < 16
  · exact (Pool.stored_c m c t ht y).trans (pool_eq m c t ht y)
  · refine (zeros m c t ht y).2.2.trans (if_neg ?_).symm
    show ¬ t.val * 512 + (y 0).val < 8192
    omega

theorem algebraic : Cert.algebraic_KernelIdeal_ReferenceIdeal := by
  intro m ρ m' ρ' _ hagree
  refine ⟨_, _, _, run_blocks (F := Ideal) m ρ, ?_⟩
  refine (θ_run Cert.ReferenceIdeal.defs _ _).mono (fun _ h c => ⟨?_, ?_, ?_, (h c).2.2.2⟩) (Cert.ReferenceIdeal.Value.run (F := Ideal) m' ρ')
  · rw [(h c).1, array_a]
    clear h
    funext i
    unfold gating
    simp only [← hagree c]
    pointwise
    by_cases hi : (i 0).val < 8192
    · simp only [hi, ↓reduceDIte, ↓reduceIte]
      simp only [show ∀ b : BitVec 32, IntOp.addi b 0#32 = b from BitVec.add_zero]
    · simp only [hi, ↓reduceDIte, ↓reduceIte]
  · rw [(h c).2.1, array_b]
    clear h
    funext i
    unfold convolved
    simp only [← hagree c]
    pointwise
    by_cases hi : (i 0).val < 8192
    · simp only [hi, ↓reduceDIte, ↓reduceIte]
      simp only [ReferenceIdeal.Rows.v270_at, ReferenceIdeal.Rows.v244_at]
      rfl
    · simp only [hi, ↓reduceDIte, ↓reduceIte]
  · rw [(h c).2.2.1, array_c]
    clear h
    unfold ReferenceIdeal.Value.res_main_v7
    funext i
    unfold pooled
    simp only [← hagree c]
    pointwise
    by_cases hi : (i 0).val < 8192
    · simp only [hi, ↓reduceDIte, ↓reduceIte]
      simp only [ReferenceIdeal.Rows.v367_at]
      rfl
    · simp only [hi, ↓reduceDIte, ↓reduceIte]

end Cert.KernelIdeal.Tied
end
-- ==== Proof.Gate.lean ====
/-
  The projection onto the branches' gates. Each grid point takes 1088 rows of the normalised input and 1024 columns of the
  weights; the weights of a column block are narrowed once, at the block's first point, and held for its other points.
-/
module

public import proofs.«01_k».proof.Defs
public import proofs.«01_k».proof.Proof.Gen.Kernel2Ideal.Value
public import proofs.«01_k».proof.Proof.Gen.Reference2Ideal.Run
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel2Ideal.Tied

open Cert.Kernel2Ideal Cert.Kernel2Ideal.Gen Cert.Kernel2Ideal.Value
open Idealize.ShloMosaic Idealize.ShloMosaic.TcCoe Idealize.SL.Sem

variable (m : (ℓ : Loc nD τ sig) → Buf (Elt Ideal) ℓ)

theorem block_step : ∀ t : Fin cfg0.N, t.val % 8 ≠ 0 → ∀ (h : t.val - 1 < cfg0.N),
    win0_1.index ⟨t.val - 1, h⟩ = win0_1.index t :=
  (by decide +kernel : ∀ t : Fin grid0.N, t.val % 8 ≠ 0 → ∀ (h : t.val - 1 < grid0.N),
    win0_1.index ⟨t.val - 1, h⟩ = win0_1.index t)

theorem held (c : Dev nD) (n : ℕ) : ∀ h : n < cfg0.N, (outsAt0 m c n h).2 = k0_pay1 (iblk m c 1 ⟨n, h⟩) := by
  induction n with
  | zero => intro h
            rw [outsAt0_A m c ⟨0, h⟩ rfl]
            frame_out
  | succ n ih => intro h
                 by_cases h0 : (n + 1) % 8 = 0
                 · rw [outsAt0_A m c ⟨n + 1, h⟩ h0]
                   frame_out
                 · rw [outsAt0_B m c ⟨n + 1, h⟩ h0]
                   dsimp only
                   refine (ih _).trans ?_
                   congr 1
                   funext y
                   blk_ext [iblk, V, show win0_1.index ⟨n, Nat.lt_of_succ_lt h⟩ = _ from block_step ⟨n + 1, h⟩ h0 (Nat.lt_of_succ_lt h)]

theorem stored (c : Dev nD) (t : Fin cfg0.N) :
    (outsAt0 m c t.val t.isLt).1 = k0_pay2 (iblk m c 0 t) (k0_pay1 (iblk m c 1 t)) := by
  rw [← held m c t.val t.isLt]
  by_cases h0 : t.val % 8 = 0
  · rw [outsAt0_A m c t h0]
    frame_out
  · rw [outsAt0_B m c t h0]
    frame_out
    simp only [read_unread_whole]
    rfl

theorem index : ∀ t : Fin cfg0.N, win0_0.index t = ![t.val % 8, 0] ∧ win0_1.index t = ![0, 0, 5 + t.val / 8] ∧ win0_2.index t = ![t.val % 8, t.val / 8] :=
  (by decide +kernel : ∀ t : Fin grid0.N, _)

def gate (h : S8704x2048.Idx → EReal) (w : S2x2048x11264.Idx → EReal) (i : S8704x6144.Idx) : EReal :=
  Ideal.logistic (∑ k : Fin 2048, h (ix2 (i 0) k) * w (ix3 0 k ⟨5120 + (i 1).val, by have := (i 1).isLt; show _ < 11264; have : (i 1).val < 6144 := this; omega⟩))

theorem array (c : Dev nD) : (dats m 0 c).arrAt 2 cfg0.N = gate (m ((c : Thread nD τ).loc main_arg0)) (m ((c : Thread nD τ).loc main_arg1)) := by
  refine (dats m 0 c).arrAt_eq_of_covers 2 _ (by decide +kernel) fun t hf y => ?_
  blk_simp
  rw [after0_2, stored]
  pointwise [k0_pay2, k0_pay1]
  rw [Scalars.logistic_tanh]
  unfold gate
  blk_point [iblk, V, index t]

theorem algebraic : Cert.algebraic_Kernel2Ideal_Reference2Ideal := by
  intro m ρ m' ρ' _ hagree
  refine ⟨_, run_blocks (F := Ideal) m ρ, ?_⟩
  refine (θ_run Cert.Reference2Ideal.defs _ _).mono (fun _ h c => ⟨?_, (h c).2⟩) (Cert.Reference2Ideal.Value.run (F := Ideal) m' ρ')
  rw [(h c).1, array]
  simp only [hagree c]
  funext i
  unfold gate
  pointwise
  rfl

end Cert.Kernel2Ideal.Tied
end
-- ==== Proof.Gated.lean ====
/-
  The projection onto the gating half that multiplies, through the tanh form of GELU. Each grid point takes 1088 rows of the normalised input and 1024 columns of the
  weights; the weights of a column block are narrowed once, at the block's first point, and held for its other points.
-/
module

public import proofs.«01_k».proof.Defs
public import proofs.«01_k».proof.Proof.Gen.Kernel3Ideal.Value
public import proofs.«01_k».proof.Proof.Gen.Reference3Ideal.Run
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel3Ideal.Tied

open Cert.Kernel3Ideal Cert.Kernel3Ideal.Gen Cert.Kernel3Ideal.Value
open Idealize.ShloMosaic Idealize.ShloMosaic.TcCoe Idealize.SL.Sem

variable (m : (ℓ : Loc nD τ sig) → Buf (Elt Ideal) ℓ)

theorem block_step : ∀ t : Fin cfg0.N, t.val % 8 ≠ 0 → ∀ (h : t.val - 1 < cfg0.N),
    win0_1.index ⟨t.val - 1, h⟩ = win0_1.index t :=
  (by decide +kernel : ∀ t : Fin grid0.N, t.val % 8 ≠ 0 → ∀ (h : t.val - 1 < grid0.N),
    win0_1.index ⟨t.val - 1, h⟩ = win0_1.index t)

theorem held (c : Dev nD) (n : ℕ) : ∀ h : n < cfg0.N, (outsAt0 m c n h).2 = k0_pay1 (iblk m c 1 ⟨n, h⟩) := by
  induction n with
  | zero => intro h
            rw [outsAt0_A m c ⟨0, h⟩ rfl]
            frame_out
  | succ n ih => intro h
                 by_cases h0 : (n + 1) % 8 = 0
                 · rw [outsAt0_A m c ⟨n + 1, h⟩ h0]
                   frame_out
                 · rw [outsAt0_B m c ⟨n + 1, h⟩ h0]
                   dsimp only
                   refine (ih _).trans ?_
                   congr 1
                   funext y
                   blk_ext [iblk, V, show win0_1.index ⟨n, Nat.lt_of_succ_lt h⟩ = _ from block_step ⟨n + 1, h⟩ h0 (Nat.lt_of_succ_lt h)]

theorem stored (c : Dev nD) (t : Fin cfg0.N) :
    (outsAt0 m c t.val t.isLt).1 = k0_pay2 (iblk m c 0 t) (k0_pay1 (iblk m c 1 t)) := by
  rw [← held m c t.val t.isLt]
  by_cases h0 : t.val % 8 = 0
  · rw [outsAt0_A m c t h0]
    frame_out
  · rw [outsAt0_B m c t h0]
    frame_out
    simp only [read_unread_whole]
    rfl

theorem index : ∀ t : Fin cfg0.N, win0_0.index t = ![t.val % 8, 0] ∧ win0_1.index t = ![0, 0, t.val / 8] ∧ win0_2.index t = ![t.val % 8, t.val / 8] :=
  (by decide +kernel : ∀ t : Fin grid0.N, _)

/-- GELU of the row times the first 1024 weight columns. -/
def gated (h : S8704x2048.Idx → EReal) (w : S2x2048x11264.Idx → EReal) (i : S8704x1024.Idx) : EReal :=
  Scalars.gelu (∑ k : Fin 2048, h (ix2 (i 0) k) * w (ix3 0 k ⟨(i 1).val, by have h1 : (i 1).val < 1024 := (i 1).isLt; show _ < 11264; omega⟩))

theorem array (c : Dev nD) : (dats m 0 c).arrAt 2 cfg0.N = gated (m ((c : Thread nD τ).loc main_arg0)) (m ((c : Thread nD τ).loc main_arg1)) := by
  refine (dats m 0 c).arrAt_eq_of_covers 2 _ (by decide +kernel) fun t hf y => ?_
  blk_simp
  rw [after0_2, stored]
  pointwise [k0_pay2, k0_pay1]
  refine (Scalars.gelu_cube _).trans ?_
  unfold gated
  blk_point [iblk, V, index t]

theorem algebraic : Cert.algebraic_Kernel3Ideal_Reference3Ideal := by
  intro m ρ m' ρ' _ hagree
  refine ⟨_, run_blocks (F := Ideal) m ρ, ?_⟩
  refine (θ_run Cert.Reference3Ideal.defs _ _).mono (fun _ h c => ⟨?_, (h c).2⟩) (Cert.Reference3Ideal.Value.run (F := Ideal) m' ρ')
  rw [(h c).1, array]
  simp only [hagree c]
  funext i
  unfold gated
  pointwise
  rfl

end Cert.Kernel3Ideal.Tied
end
-- ==== Proof.Normed.lean ====
/-
  The projection whose GELU is normalised over its 1024 columns. Each grid point takes 1088 rows; the block of weights is
  narrowed once, at the first point, and held for the others.
-/
module

public import proofs.«01_k».proof.Defs
public import proofs.«01_k».proof.Proof.Gen.Kernel4Ideal.Value
public import proofs.«01_k».proof.Proof.Gen.Reference4Ideal.Run
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel4Ideal.Tied

open Cert.Kernel4Ideal Cert.Kernel4Ideal.Gen Cert.Kernel4Ideal.Value
open Idealize.ShloMosaic Idealize.ShloMosaic.TcCoe Idealize.SL.Sem

variable (m : (ℓ : Loc nD τ sig) → Buf (Elt Ideal) ℓ)

theorem block_step : ∀ t : Fin cfg0.N, t.val % 8 ≠ 0 → ∀ (h : t.val - 1 < cfg0.N),
    win0_1.index ⟨t.val - 1, h⟩ = win0_1.index t :=
  (by decide +kernel : ∀ t : Fin grid0.N, t.val % 8 ≠ 0 → ∀ (h : t.val - 1 < grid0.N),
    win0_1.index ⟨t.val - 1, h⟩ = win0_1.index t)

theorem held (c : Dev nD) (n : ℕ) : ∀ h : n < cfg0.N, (outsAt0 m c n h).2 = k0_pay2 (iblk m c 1 ⟨n, h⟩) := by
  induction n with
  | zero => intro h
            rw [outsAt0_A m c ⟨0, h⟩ rfl]
            frame_out
  | succ n ih => intro h
                 by_cases h0 : (n + 1) % 8 = 0
                 · rw [outsAt0_A m c ⟨n + 1, h⟩ h0]
                   frame_out
                 · rw [outsAt0_B m c ⟨n + 1, h⟩ h0]
                   dsimp only
                   refine (ih _).trans ?_
                   congr 1
                   funext y
                   blk_ext [iblk, V, show win0_1.index ⟨n, Nat.lt_of_succ_lt h⟩ = _ from block_step ⟨n + 1, h⟩ h0 (Nat.lt_of_succ_lt h)]

theorem stored (c : Dev nD) (t : Fin cfg0.N) :
    (outsAt0 m c t.val t.isLt).1
      = k0_pay1 (k0_pay3 (iblk m c 2 t)) (k0_pay4 (iblk m c 3 t)) (k0_pay5 (iblk m c 0 t) (k0_pay2 (iblk m c 1 t)))
          (k0_pay6 (iblk m c 0 t) (k0_pay2 (iblk m c 1 t))) k0_pay7 := by
  rw [← held m c t.val t.isLt]
  by_cases h0 : t.val % 8 = 0
  · rw [outsAt0_A m c t h0]
    frame_out
  · rw [outsAt0_B m c t h0]
    frame_out
    simp only [read_unread_whole]
    rfl

theorem index : ∀ t : Fin cfg0.N, win0_0.index t = ![t.val, 0] ∧ win0_1.index t = ![0, 0, 1] ∧ win0_2.index t = ![0, 0, 0]
    ∧ win0_3.index t = ![0, 0, 0] ∧ win0_4.index t = ![t.val, 0] :=
  (by decide +kernel : ∀ t : Fin grid0.N, _)

/-- Column `j` of the normalised projection: the layer norm of the GELU of the row times weight columns 1024 to 2047. -/
def normed (h : S8704x2048.Idx → EReal) (w : S2x2048x11264.Idx → EReal) (g b : S2x1024.Idx → EReal) (i : S8704x1024.Idx) : EReal :=
  Scalars.layerNorm (fun j => Scalars.gelu (∑ k : Fin 2048, h (ix2 (i 0) k) * w (ix3 0 k ⟨1024 + j.val, by have h1 := j.isLt; show _ < 11264; omega⟩)))
    (g (ix2 0 (i 1))) (b (ix2 0 (i 1))) (i 1)

/-- The stored block, an entry at a time. -/
theorem pay_apply (a : S1088x2048.Idx → EReal) (w : S1x2048x1024.Idx → EReal) (g b : S1x1x1024.Idx → EReal) (y : S1088x1024.Idx) :
    k0_pay1 (F := Ideal) (k0_pay3 g) (k0_pay4 b) (k0_pay5 (F := Ideal) a (k0_pay2 (F := Ideal) w)) (k0_pay6 (F := Ideal) a (k0_pay2 (F := Ideal) w)) k0_pay7 y
      = Scalars.layerNorm (fun j => Scalars.gelu (∑ k : Fin 2048, a (ix2 (y 0) k) * w (ix3 0 k j)))
          (g (ix3 0 0 (y 1))) (b (ix3 0 0 (y 1))) (y 1) := by
  unfold Scalars.layerNorm Scalars.mean
  pointwise [k0_pay1, k0_pay2, k0_pay3, k0_pay4, k0_pay5, k0_pay6, k0_pay7]
  simp only [Scalars.gelu_cube]

theorem array (c : Dev nD) : (dats m 0 c).arrAt 4 cfg0.N = normed (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, stored]
  rw [pay_apply]
  refine Scalars.layerNorm_congr (fun k => ?_) ?_ ?_ ?_
  · blk_point [iblk, V, index t]
  · exact Fin.ext (Pipeline.Window.rect_emb_val_of_index_zero win0_4 t 1 (by simp [index t]) y).symm
  · blk_point [iblk, V, index t]
  · blk_point [iblk, V, index t]

theorem algebraic : Cert.algebraic_Kernel4Ideal_Reference4Ideal := by
  intro m ρ m' ρ' _ hagree
  refine ⟨_, run_blocks (F := Ideal) m ρ, ?_⟩
  refine (θ_run Cert.Reference4Ideal.defs _ _).mono (fun _ h c => ⟨?_, (h c).2⟩) (Cert.Reference4Ideal.Value.run (F := Ideal) m' ρ')
  rw [(h c).1, array]
  unfold Reference4Ideal.Value.res_main_v43
  simp only [hagree c]
  funext i
  unfold normed Scalars.layerNorm Scalars.mean
  pointwise
  rfl

end Cert.Kernel4Ideal.Tied
end
-- ==== Proof.Glu.lean ====
/-
  The gated linear unit before the convolution: one projection times the logistic function of another. Each grid point takes
  1088 rows of the normalised input and 512 columns of either half of the weights; both blocks of weights are narrowed once,
  at a column block's first point, and held for its other points.
-/
module

public import proofs.«01_k».proof.Defs
public import proofs.«01_k».proof.Proof.Gen.Kernel5Ideal.Value
public import proofs.«01_k».proof.Proof.Gen.Reference5Ideal.Run
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel5Ideal.Tied

open Cert.Kernel5Ideal Cert.Kernel5Ideal.Gen Cert.Kernel5Ideal.Value
open Idealize.ShloMosaic Idealize.ShloMosaic.TcCoe Idealize.SL.Sem

variable (m : (ℓ : Loc nD τ sig) → Buf (Elt Ideal) ℓ)

theorem block_step : ∀ t : Fin cfg0.N, t.val % 8 ≠ 0 → ∀ (h : t.val - 1 < cfg0.N),
    win0_1.index ⟨t.val - 1, h⟩ = win0_1.index t ∧ win0_2.index ⟨t.val - 1, h⟩ = win0_2.index t :=
  (by decide +kernel : ∀ t : Fin grid0.N, t.val % 8 ≠ 0 → ∀ (h : t.val - 1 < grid0.N),
    win0_1.index ⟨t.val - 1, h⟩ = win0_1.index t ∧ win0_2.index ⟨t.val - 1, h⟩ = win0_2.index t)

/-- After every point the two scratches hold the narrowed weight blocks of its columns. -/
theorem held (c : Dev nD) (n : ℕ) : ∀ h : n < cfg0.N,
    (outsAt0 m c n h).2 = (k0_pay1 (iblk m c 1 ⟨n, h⟩), k0_pay2 (iblk m c 2 ⟨n, h⟩)) := by
  induction n with
  | zero => intro h
            rw [outsAt0_A m c ⟨0, h⟩ rfl]
            frame_out
  | succ n ih => intro h
                 by_cases h0 : (n + 1) % 8 = 0
                 · rw [outsAt0_A m c ⟨n + 1, h⟩ h0]
                   frame_out
                 · rw [outsAt0_B m c ⟨n + 1, h⟩ h0]
                   have hb := block_step ⟨n + 1, h⟩ h0 (Nat.lt_of_succ_lt h)
                   have e1 : win0_1.index ⟨n, Nat.lt_of_succ_lt h⟩ = _ := hb.1
                   have e2 : win0_2.index ⟨n, Nat.lt_of_succ_lt h⟩ = _ := hb.2
                   dsimp only
                   refine (ih _).trans ?_
                   congr 2
                   · funext y
                     blk_ext [iblk, V, e1]
                   · funext y
                     blk_ext [iblk, V, e2]

/-- What a point stores in the output's block. -/
theorem stored (c : Dev nD) (t : Fin cfg0.N) :
    (outsAt0 m c t.val t.isLt).1 = k0_pay3 (iblk m c 0 t) (k0_pay1 (iblk m c 1 t)) (k0_pay2 (iblk m c 2 t)) := by
  rw [show k0_pay1 (iblk m c 1 t) = (outsAt0 m c t.val t.isLt).2.1 from (congrArg Prod.fst (held m c t.val t.isLt)).symm,
    show k0_pay2 (iblk m c 2 t) = (outsAt0 m c t.val t.isLt).2.2 from (congrArg Prod.snd (held m c t.val t.isLt)).symm]
  by_cases h0 : t.val % 8 = 0
  · rw [outsAt0_A m c t h0]
    frame_out
  · rw [outsAt0_B m c t h0]
    frame_out
    simp only [read_unread_whole]
    rfl

theorem index : ∀ t : Fin cfg0.N, win0_0.index t = ![t.val % 8, 0] ∧ win0_1.index t = ![0, 0, 4 + t.val / 8]
    ∧ win0_2.index t = ![0, 0, 6 + t.val / 8] ∧ win0_3.index t = ![t.val % 8, t.val / 8] :=
  (by decide +kernel : ∀ t : Fin grid0.N, _)

/-- Column `j` of the gated linear unit: the row times weight column `2048 + j`, times the logistic function of the row times
weight column `3072 + j`. -/
def glu (h : S8704x2048.Idx → EReal) (w : S2x2048x11264.Idx → EReal) (i : S8704x1024.Idx) : EReal :=
  (∑ k : Fin 2048, h (ix2 (i 0) k) * w (ix3 0 k ⟨2048 + (i 1).val, by have h1 : (i 1).val < 1024 := (i 1).isLt; show _ < 11264; omega⟩))
    * Ideal.logistic (∑ k : Fin 2048, h (ix2 (i 0) k) * w (ix3 0 k ⟨2048 + (1024 + (i 1).val), by have h1 : (i 1).val < 1024 := (i 1).isLt; show _ < 11264; omega⟩))

theorem array (c : Dev nD) : (dats m 0 c).arrAt 3 cfg0.N = glu (m ((c : Thread nD τ).loc main_arg0)) (m ((c : Thread nD τ).loc main_arg1)) := by
  refine (dats m 0 c).arrAt_eq_of_covers 3 _ (by decide +kernel) fun t hf y => ?_
  blk_simp
  rw [after0_3, stored]
  pointwise [k0_pay3, k0_pay2, k0_pay1]
  rw [Scalars.logistic_tanh]
  unfold glu
  blk_point [iblk, V, index t]

theorem algebraic : Cert.algebraic_Kernel5Ideal_Reference5Ideal := by
  intro m ρ m' ρ' _ hagree
  refine ⟨_, run_blocks (F := Ideal) m ρ, ?_⟩
  refine (θ_run Cert.Reference5Ideal.defs _ _).mono (fun _ h c => ⟨?_, (h c).2⟩) (Cert.Reference5Ideal.Value.run (F := Ideal) m' ρ')
  rw [(h c).1, array]
  simp only [hagree c]
  funext i
  unfold glu
  pointwise
  rfl

end Cert.Kernel5Ideal.Tied
end
-- ==== Proof.PoolIn.lean ====
/-
  The projection onto the pooling branch's input. Each grid point takes 1088 rows of the normalised input and 1024 columns of the
  weights; the weights of a column block are narrowed once, at the block's first point, and held for its other points.
-/
module

public import proofs.«01_k».proof.Defs
public import proofs.«01_k».proof.Proof.Gen.Kernel6Ideal.Value
public import proofs.«01_k».proof.Proof.Gen.Reference6Ideal.Run
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel6Ideal.Tied

open Cert.Kernel6Ideal Cert.Kernel6Ideal.Gen Cert.Kernel6Ideal.Value
open Idealize.ShloMosaic Idealize.ShloMosaic.TcCoe Idealize.SL.Sem

variable (m : (ℓ : Loc nD τ sig) → Buf (Elt Ideal) ℓ)

theorem block_step : ∀ t : Fin cfg0.N, t.val % 8 ≠ 0 → ∀ (h : t.val - 1 < cfg0.N),
    win0_1.index ⟨t.val - 1, h⟩ = win0_1.index t :=
  (by decide +kernel : ∀ t : Fin grid0.N, t.val % 8 ≠ 0 → ∀ (h : t.val - 1 < grid0.N),
    win0_1.index ⟨t.val - 1, h⟩ = win0_1.index t)

theorem held (c : Dev nD) (n : ℕ) : ∀ h : n < cfg0.N, (outsAt0 m c n h).2 = k0_pay1 (iblk m c 1 ⟨n, h⟩) := by
  induction n with
  | zero => intro h
            rw [outsAt0_A m c ⟨0, h⟩ rfl]
            frame_out
  | succ n ih => intro h
                 by_cases h0 : (n + 1) % 8 = 0
                 · rw [outsAt0_A m c ⟨n + 1, h⟩ h0]
                   frame_out
                 · rw [outsAt0_B m c ⟨n + 1, h⟩ h0]
                   dsimp only
                   refine (ih _).trans ?_
                   congr 1
                   funext y
                   blk_ext [iblk, V, show win0_1.index ⟨n, Nat.lt_of_succ_lt h⟩ = _ from block_step ⟨n + 1, h⟩ h0 (Nat.lt_of_succ_lt h)]

theorem stored (c : Dev nD) (t : Fin cfg0.N) :
    (outsAt0 m c t.val t.isLt).1 = k0_pay2 (iblk m c 0 t) (k0_pay1 (iblk m c 1 t)) := by
  rw [← held m c t.val t.isLt]
  by_cases h0 : t.val % 8 = 0
  · rw [outsAt0_A m c t h0]
    frame_out
  · rw [outsAt0_B m c t h0]
    frame_out
    simp only [read_unread_whole]
    rfl

theorem index : ∀ t : Fin cfg0.N, win0_0.index t = ![t.val % 8, 0] ∧ win0_1.index t = ![0, 0, 4 + t.val / 8] ∧ win0_2.index t = ![t.val % 8, t.val / 8] :=
  (by decide +kernel : ∀ t : Fin grid0.N, _)

/-- The row times weight columns 4096 to 5119. -/
def poolIn (h : S8704x2048.Idx → EReal) (w : S2x2048x11264.Idx → EReal) (i : S8704x1024.Idx) : EReal :=
  ∑ k : Fin 2048, h (ix2 (i 0) k) * w (ix3 0 k ⟨4096 + (i 1).val, by have h1 : (i 1).val < 1024 := (i 1).isLt; show _ < 11264; omega⟩)

theorem array (c : Dev nD) : (dats m 0 c).arrAt 2 cfg0.N = poolIn (m ((c : Thread nD τ).loc main_arg0)) (m ((c : Thread nD τ).loc main_arg1)) := by
  refine (dats m 0 c).arrAt_eq_of_covers 2 _ (by decide +kernel) fun t hf y => ?_
  blk_simp
  rw [after0_2, stored]
  pointwise [k0_pay2, k0_pay1]
  unfold poolIn
  blk_point [iblk, V, index t]

theorem algebraic : Cert.algebraic_Kernel6Ideal_Reference6Ideal := by
  intro m ρ m' ρ' _ hagree
  refine ⟨_, run_blocks (F := Ideal) m ρ, ?_⟩
  refine (θ_run Cert.Reference6Ideal.defs _ _).mono (fun _ h c => ⟨?_, (h c).2⟩) (Cert.Reference6Ideal.Value.run (F := Ideal) m' ρ')
  rw [(h c).1, array]
  simp only [hagree c]
  funext i
  unfold poolIn
  pointwise

end Cert.Kernel6Ideal.Tied
end
-- ==== Proof.Query.lean ====
/-
  The projection onto the cross attention's queries. Each grid point takes 1088 rows of the normalised input and 1024 columns of the
  weights; the weights of a column block are narrowed once, at the block's first point, and held for its other points.
-/
module

public import proofs.«01_k».proof.Defs
public import proofs.«01_k».proof.Proof.Gen.Kernel7Ideal.Value
public import proofs.«01_k».proof.Proof.Gen.Reference7Ideal.Run
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel7Ideal.Tied

open Cert.Kernel7Ideal Cert.Kernel7Ideal.Gen Cert.Kernel7Ideal.Value
open Idealize.ShloMosaic Idealize.ShloMosaic.TcCoe Idealize.SL.Sem

variable (m : (ℓ : Loc nD τ sig) → Buf (Elt Ideal) ℓ)

theorem block_step : ∀ t : Fin cfg0.N, t.val % 8 ≠ 0 → ∀ (h : t.val - 1 < cfg0.N),
    win0_1.index ⟨t.val - 1, h⟩ = win0_1.index t :=
  (by decide +kernel : ∀ t : Fin grid0.N, t.val % 8 ≠ 0 → ∀ (h : t.val - 1 < grid0.N),
    win0_1.index ⟨t.val - 1, h⟩ = win0_1.index t)

theorem held (c : Dev nD) (n : ℕ) : ∀ h : n < cfg0.N, (outsAt0 m c n h).2 = k0_pay1 (iblk m c 1 ⟨n, h⟩) := by
  induction n with
  | zero => intro h
            rw [outsAt0_A m c ⟨0, h⟩ rfl]
            frame_out
  | succ n ih => intro h
                 by_cases h0 : (n + 1) % 8 = 0
                 · rw [outsAt0_A m c ⟨n + 1, h⟩ h0]
                   frame_out
                 · rw [outsAt0_B m c ⟨n + 1, h⟩ h0]
                   dsimp only
                   refine (ih _).trans ?_
                   congr 1
                   funext y
                   blk_ext [iblk, V, show win0_1.index ⟨n, Nat.lt_of_succ_lt h⟩ = _ from block_step ⟨n + 1, h⟩ h0 (Nat.lt_of_succ_lt h)]

theorem stored (c : Dev nD) (t : Fin cfg0.N) :
    (outsAt0 m c t.val t.isLt).1 = k0_pay2 (iblk m c 0 t) (k0_pay1 (iblk m c 1 t)) := by
  rw [← held m c t.val t.isLt]
  by_cases h0 : t.val % 8 = 0
  · rw [outsAt0_A m c t h0]
    frame_out
  · rw [outsAt0_B m c t h0]
    frame_out
    simp only [read_unread_whole]
    rfl

theorem index : ∀ t : Fin cfg0.N, win0_0.index t = ![t.val % 8, 0] ∧ win0_1.index t = ![0, 0, t.val / 8] ∧ win0_2.index t = ![t.val % 8, t.val / 8] :=
  (by decide +kernel : ∀ t : Fin grid0.N, _)

/-- The row times the query weights. -/
def query (h : S8704x2048.Idx → EReal) (w : S2x2048x2048.Idx → EReal) (i : S8704x2048.Idx) : EReal :=
  ∑ k : Fin 2048, h (ix2 (i 0) k) * w (ix3 0 k ⟨(i 1).val, by have h1 : (i 1).val < 2048 := (i 1).isLt; show _ < 2048; omega⟩)

theorem array (c : Dev nD) : (dats m 0 c).arrAt 2 cfg0.N = query (m ((c : Thread nD τ).loc main_arg0)) (m ((c : Thread nD τ).loc main_arg1)) := by
  refine (dats m 0 c).arrAt_eq_of_covers 2 _ (by decide +kernel) fun t hf y => ?_
  blk_simp
  rw [after0_2, stored]
  pointwise [k0_pay2, k0_pay1]
  unfold query
  blk_point [iblk, V, index t]

theorem algebraic : Cert.algebraic_Kernel7Ideal_Reference7Ideal := by
  intro m ρ m' ρ' _ hagree
  refine ⟨_, run_blocks (F := Ideal) m ρ, ?_⟩
  refine (θ_run Cert.Reference7Ideal.defs _ _).mono (fun _ h c => ⟨?_, (h c).2⟩) (Cert.Reference7Ideal.Value.run (F := Ideal) m' ρ')
  rw [(h c).1, array]
  simp only [hagree c]
  funext i
  unfold query
  pointwise

end Cert.Kernel7Ideal.Tied
end
-- ==== Proof.Merge.lean ====
/-
  The gated merge of the three branches with its residual, and the root mean square norm of the sum.  Each grid point takes
  256 rows and all weights; nothing is held between points.
-/
module

public import proofs.«01_k».proof.Defs
public import proofs.«01_k».proof.Proof.Gen.Kernel8Ideal.Value
public import proofs.«01_k».proof.Proof.Gen.Reference8Ideal.Run
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel8Ideal.Tied

open Cert.Kernel8Ideal Cert.Kernel8Ideal.Gen Cert.Kernel8Ideal.Value
open Idealize.ShloMosaic Idealize.ShloMosaic.TcCoe Idealize.SL.Sem

variable (m : (ℓ : Loc nD τ sig) → Buf (Elt Ideal) ℓ)

theorem index : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 2] ∧ win0_6.index t = ![t.val, 0]
    ∧ win0_7.index t = ![1, 0, 0, 0] ∧ win0_8.index t = ![1, 0, 0] ∧ win0_9.index t = ![1, 0, 0]
    ∧ win0_10.index t = ![t.val, 0] ∧ win0_11.index t = ![t.val, 0] :=
  (by decide +kernel : ∀ t : Fin grid0.N, _)

/-- Column `k` of row `i` of the branches' maps, each times its gate, added up. -/
def merged (ya yb yc : S8704x1024.Idx → EReal) (g : S8704x6144.Idx → EReal) (wb : S2x3x1024x2048.Idx → EReal)
    (i : Fin 8704) (k : Fin 2048) : EReal :=
  g (ix2 i ⟨k.val, by omega⟩) * (∑ c : Fin 1024, ya (ix2 i c) * wb (ix4 1 0 c k))
    + g (ix2 i ⟨2048 + k.val, by omega⟩) * (∑ c : Fin 1024, yb (ix2 i c) * wb (ix4 1 1 c k))
    + g (ix2 i ⟨4096 + k.val, by omega⟩) * (∑ c : Fin 1024, yc (ix2 i c) * wb (ix4 1 2 c k))

/-- The residual row plus the merged row times the output map. -/
def residual (ya yb yc : S8704x1024.Idx → EReal) (g : S8704x6144.Idx → EReal) (x : S8704x2048.Idx → EReal)
    (wb : S2x3x1024x2048.Idx → EReal) (w : S2x2048x2048.Idx → EReal) (i : S8704x2048.Idx) : EReal :=
  x i + ∑ k : Fin 2048, merged ya yb yc g wb (i 0) k * w (ix3 1 k (i 1))

/-- The sum after the norm. -/
def normed (ya yb yc : S8704x1024.Idx → EReal) (g : S8704x6144.Idx → EReal) (x : S8704x2048.Idx → EReal)
    (wb : S2x3x1024x2048.Idx → EReal) (w : S2x2048x2048.Idx → EReal) (s : S2x2048.Idx → EReal) (i : S8704x2048.Idx) : EReal :=
  Scalars.rmsNorm (fun j => residual ya yb yc g x wb w (ix2 (i 0) j)) (s (ix2 1 (i 1))) (i 1)

/-- The merged row of one point's blocks. -/
def merged_block (ya yb yc : S256x1024.Idx → EReal) (g0 g1 g2 : S256x2048.Idx → EReal) (wb : S1x3x1024x2048.Idx → EReal)
    (i : Fin 256) (k : Fin 2048) : EReal :=
  g0 (ix2 i k) * (∑ c : Fin 1024, ya (ix2 i c) * wb (ix4 0 0 c k))
    + g1 (ix2 i k) * (∑ c : Fin 1024, yb (ix2 i c) * wb (ix4 0 1 c k))
    + g2 (ix2 i k) * (∑ c : Fin 1024, yc (ix2 i c) * wb (ix4 0 2 c k))

/-- The first stored block, an entry at a time. -/
theorem sum_apply (ya yb yc : S256x1024.Idx → EReal) (g0 g1 g2 x : S256x2048.Idx → EReal) (wb : S1x3x1024x2048.Idx → EReal)
    (w : S1x2048x2048.Idx → EReal) (s : S1x1x2048.Idx → EReal) (y : S256x2048.Idx) :
    out0_10 (F := Ideal) ya yb yc g0 g1 g2 x wb w s y
      = x y + ∑ k : Fin 2048, merged_block ya yb yc g0 g1 g2 wb (y 0) k * w (ix3 0 k (y 1)) := by
  unfold merged_block
  frame_out
  pointwise [k0_pay1, k0_pay3, k0_pay4, k0_pay5, k0_pay6]

/-- The second stored block, an entry at a time. -/
theorem norm_apply (ya yb yc : S256x1024.Idx → EReal) (g0 g1 g2 x : S256x2048.Idx → EReal) (wb : S1x3x1024x2048.Idx → EReal)
    (w : S1x2048x2048.Idx → EReal) (s : S1x1x2048.Idx → EReal) (y : S256x2048.Idx) :
    out0_11 (F := Ideal) ya yb yc g0 g1 g2 x wb w s y
      = Scalars.rmsNorm (fun j => x (ix2 (y 0) j)
          + ∑ k : Fin 2048, merged_block ya yb yc g0 g1 g2 wb (y 0) k * w (ix3 0 k j)) (s (ix3 0 0 (y 1))) (y 1) := by
  unfold Scalars.rmsNorm merged_block
  frame_out
  pointwise [k0_pay2, k0_pay1, k0_pay3, k0_pay4, k0_pay5, k0_pay6]

theorem array_sum (c : Dev nD) : (dats m 0 c).arrAt 10 cfg0.N = residual (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10, sum_apply]
  unfold residual merged merged_block
  blk_point [iblk, V, index t]

theorem array_norm (c : Dev nD) : (dats m 0 c).arrAt 11 cfg0.N = normed (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) := by
  refine (dats m 0 c).arrAt_eq_of_covers 11 _ (by decide +kernel) fun t hf y => ?_
  blk_simp
  rw [after0_11, norm_apply]
  refine Scalars.rmsNorm_congr (fun k => ?_) ?_ ?_
  · unfold residual merged merged_block
    blk_point [iblk, V, index t]
  · blk_point [iblk, V, index t]
  · exact Fin.ext (Pipeline.Window.rect_emb_val_of_index_zero win0_11 t 1 (by simp [index t]) y).symm

/-- The reference's spelling of a merged entry: a sum over the branches, each row read from the three stacked ones. -/
theorem merged_eq (ya yb yc : S8704x1024.Idx → EReal) (g : S8704x6144.Idx → EReal) (wb : S2x3x1024x2048.Idx → EReal)
    (i : Fin 8704) (k : Fin 2048) :
    (∑ n : Fin 3, g (ix2 i ⟨n.val * 2048 + k.val, by omega⟩) * ∑ c : Fin 1024, wb (ix4 1 n c k)
        * (if n.val < 1 then ya (ix2 i c) else if n.val - 1 < 1 then yb (ix2 i c) else yc (ix2 i c)))
      = merged ya yb yc g wb i k := by
  rw [Fin.sum_univ_three]
  refine congr (congrArg _ (congr (congrArg _ ?_) ?_)) ?_
  all_goals
    refine congr (congrArg _ (congrArg g (congrArg (ix2 i) (Fin.ext ?_)))) (Finset.sum_congr rfl fun c _ => mul_comm _ _)
    simp

theorem algebraic : Cert.algebraic_Kernel8Ideal_Reference8Ideal := by
  intro m ρ m' ρ' _ hagree
  refine ⟨_, _, run_blocks (F := Ideal) m ρ, ?_⟩
  refine (θ_run Cert.Reference8Ideal.defs _ _).mono (fun r h c => ?_) (Cert.Reference8Ideal.Value.run (F := Ideal) m' ρ')
  obtain ⟨h1, h2, h3⟩ := h c
  have first : r.2.mem ((c.tc : Thread Reference8Ideal.nD Reference8Ideal.τ).loc Reference8Ideal.main_v16)
      = residual (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
    rw [h1]
    funext i
    unfold residual
    pointwise
    simp only [hagree c]
    congr 1
    refine Finset.sum_congr rfl fun k _ => ?_
    congr 1
    exact merged_eq ..
  refine ⟨first.trans (array_sum m c).symm, ?_, h3⟩
  rw [h2, array_norm]
  unfold Reference8Ideal.Value.res_main_v32
  rw [← h1, first]
  simp only [hagree c]
  funext i
  unfold normed Scalars.rmsNorm
  pointwise

end Cert.Kernel8Ideal.Tied
end
-- ==== Proof.Residual.lean ====
/-
  The output map of the cross attention with its residual, and the root mean square norm of the sum.  Each grid point takes
  512 rows and all weights; nothing is held between points.
-/
module

public import proofs.«01_k».proof.Defs
public import proofs.«01_k».proof.Proof.Gen.Kernel9Ideal.Value
public import proofs.«01_k».proof.Proof.Gen.Reference9Ideal.Run
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel9Ideal.Tied

open Cert.Kernel9Ideal Cert.Kernel9Ideal.Gen Cert.Kernel9Ideal.Value
open Idealize.ShloMosaic Idealize.ShloMosaic.TcCoe Idealize.SL.Sem

variable (m : (ℓ : Loc nD τ sig) → Buf (Elt Ideal) ℓ)

theorem index : ∀ t : Fin cfg0.N, win0_0.index t = ![t.val, 0] ∧ win0_1.index t = ![0, 0, 0] ∧ win0_2.index t = ![t.val, 0]
    ∧ win0_3.index t = ![0, 0, 0] ∧ win0_4.index t = ![t.val, 0] ∧ win0_5.index t = ![t.val, 0] :=
  (by decide +kernel : ∀ t : Fin grid0.N, _)

/-- A row of the sum: the residual row plus the attention row times the output map. -/
def residual (o : S8704x2048.Idx → EReal) (w : S2x2048x2048.Idx → EReal) (x : S8704x2048.Idx → EReal) (i : S8704x2048.Idx) : EReal :=
  x i + ∑ k : Fin 2048, o (ix2 (i 0) k) * w (ix3 0 k (i 1))

/-- The sum after the norm. -/
def normed (o : S8704x2048.Idx → EReal) (w : S2x2048x2048.Idx → EReal) (x : S8704x2048.Idx → EReal) (g : S2x2048.Idx → EReal)
    (i : S8704x2048.Idx) : EReal :=
  Scalars.rmsNorm (fun j => residual o w x (ix2 (i 0) j)) (g (ix2 0 (i 1))) (i 1)

/-- The first stored block, an entry at a time. -/
theorem sum_apply (x : S512x2048.Idx → EReal) (o : S512x2048.Idx → EReal) (w : S1x2048x2048.Idx → EReal) (y : S512x2048.Idx) :
    k0_pay1 (F := Ideal) x o w y = x y + ∑ k : Fin 2048, o (ix2 (y 0) k) * w (ix3 0 k (y 1)) := by
  pointwise [k0_pay1]

/-- The second stored block, an entry at a time. -/
theorem norm_apply (x : S512x2048.Idx → EReal) (o : S512x2048.Idx → EReal) (w : S1x2048x2048.Idx → EReal) (g : S1x1x2048.Idx → EReal)
    (y : S512x2048.Idx) :
    k0_pay2 (F := Ideal) x o w g y
      = Scalars.rmsNorm (fun j => x (ix2 (y 0) j) + ∑ k : Fin 2048, o (ix2 (y 0) k) * w (ix3 0 k j)) (g (ix3 0 0 (y 1))) (y 1) := by
  unfold Scalars.rmsNorm
  pointwise [k0_pay2, k0_pay1]

theorem array_sum (c : Dev nD) : (dats m 0 c).arrAt 4 cfg0.N = residual (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  frame_out
  rw [sum_apply]
  unfold residual
  blk_point [iblk, V, index t]

theorem array_norm (c : Dev nD) : (dats m 0 c).arrAt 5 cfg0.N = normed (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [norm_apply]
  refine Scalars.rmsNorm_congr (fun k => ?_) ?_ ?_
  · unfold residual
    blk_point [iblk, V, index t]
  · blk_point [iblk, V, index t]
  · exact Fin.ext (Pipeline.Window.rect_emb_val_of_index_zero win0_5 t 1 (by simp [index t]) y).symm

theorem algebraic : Cert.algebraic_Kernel9Ideal_Reference9Ideal := by
  intro m ρ m' ρ' _ hagree
  refine ⟨_, _, run_blocks (F := Ideal) m ρ, ?_⟩
  refine (θ_run Cert.Reference9Ideal.defs _ _).mono (fun _ h c => ⟨?_, ?_, (h c).2.2⟩) (Cert.Reference9Ideal.Value.run (F := Ideal) m' ρ')
  · rw [(h c).1, array_sum]
    simp only [hagree c]
    funext i
    unfold residual
    pointwise
  · rw [(h c).2.1, array_norm]
    simp only [hagree c]
    funext i
    unfold normed residual Scalars.rmsNorm
    pointwise

end Cert.Kernel9Ideal.Tied
end
-- ==== Proof.Rings.lean ====
/-
  The feed-forward part's pieces: what its run is stated over. Two weight arrays stay in main memory and pass, block by block,
  through three-slot buffers, two blocks ahead of the point that uses them; a slot is free, or a block is on its way into it.
  The names below are the generated ones of the call before idealization, read at the idealized program.
-/
module

public import proofs.«01_k».proof.Proof.Gen.Kernel10Ideal.Launch
public import proofs.«01_k».proof.Proof.Gen.Kernel10Ideal.Skeleton
public import proofs.«01_k».proof.Proof.Gen.Kernel10Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel10Ideal.Tied

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 1 rfl).trans ((hA c 1).trans (V_main_arg3 m c)),
      ((h c).2 main_arg4 (Pipeline.mem_restRefs_of main_arg4 (by decide) (by decide))).trans (V_main_arg4 m c)⟩) h

abbrev cond0_0 (i : grid0.Coords) : Prop := k0_cond1 i = 1#1
theorem hcond0_0 : ∀ t : Fin cfg0.N, cond0_0 (grid0.coords t) ↔ t.val % 136 = 0 :=
  (by decide +kernel : ∀ t : Fin grid0.N, cond0_0 (grid0.coords t) ↔ t.val % 136 = 0)

abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 8 = 0 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

abbrev cond0_2 (i : grid0.Coords) : Prop := k0_cond3 i = 1#1
theorem hcond0_2 : ∀ t : Fin cfg0.N, cond0_2 (grid0.coords t) ↔ t.val % 3 = 0 :=
  (by decide +kernel : ∀ t : Fin grid0.N, cond0_2 (grid0.coords t) ↔ t.val % 3 = 0)

abbrev cond0_3 (i : grid0.Coords) : Prop := k0_cond4 i = 1#1
theorem hcond0_3 : ∀ t : Fin cfg0.N, cond0_3 (grid0.coords t) ↔ t.val < 134 :=
  (by decide +kernel : ∀ t : Fin grid0.N, cond0_3 (grid0.coords t) ↔ t.val < 134)

abbrev cond0_4 (i : grid0.Coords) : Prop := k0_cond5 i = 1#1
theorem hcond0_4 : ∀ t : Fin cfg0.N, cond0_4 (grid0.coords t) ↔ t.val % 3 = 1 :=
  (by decide +kernel : ∀ t : Fin grid0.N, cond0_4 (grid0.coords t) ↔ t.val % 3 = 1)

abbrev cond0_5 (i : grid0.Coords) : Prop := k0_cond7 i = 1#1
theorem hcond0_5 : ∀ t : Fin cfg0.N, cond0_5 (grid0.coords t) ↔ t.val % 3 = 2 :=
  (by decide +kernel : ∀ t : Fin grid0.N, cond0_5 (grid0.coords t) ↔ t.val % 3 = 2)

abbrev cond0_6 (i : grid0.Coords) : Prop := k0_cond9 i = 1#1
theorem hcond0_6 : ∀ t : Fin cfg0.N, cond0_6 (grid0.coords t) ↔ t.val % 8 = 7 :=
  (fun t => by
    have ht : t.val < 136 := Nat.lt_of_lt_of_eq t.isLt N_0
    have e0 : (grid0.coords t 0).val = t.val / 8 % 17 := Pipeline.Grid.coords_val t 0 (by decide) rfl
    have e1 : (grid0.coords t 1).val = t.val / 1 % 8 := Pipeline.Grid.coords_val t 1 (by decide) rfl
    simp only [cond0_6, k0_cond9, e0, e1]
    word_cmp
   : ∀ t : Fin grid0.N, cond0_6 (grid0.coords t) ↔ t.val % 8 = 7)

abbrev cond0_7 (i : grid0.Coords) : Prop := k0_cond6 i = 1#1
theorem hcond0_7 : ∀ t : Fin cfg0.N, cond0_7 (grid0.coords t) ↔ t.val < 134 :=
  (by decide +kernel : ∀ t : Fin grid0.N, cond0_7 (grid0.coords t) ↔ t.val < 134)

abbrev cond0_8 (i : grid0.Coords) : Prop := k0_cond8 i = 1#1
theorem hcond0_8 : ∀ t : Fin cfg0.N, cond0_8 (grid0.coords t) ↔ t.val < 134 :=
  (by decide +kernel : ∀ t : Fin grid0.N, cond0_8 (grid0.coords t) ↔ t.val < 134)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .bf16 := win0_4.stage (cfg0.slots t 4)
abbrev hs0_4 (t : Fin cfg0.N) : (ms0_4 t).IsWhole := hstage0_4 ((cfg0.slots t 4).cast nbuf0_4)
abbrev scM0_0 : Memref sig .tc .vmem S512x2048 .f32 := Memref.whole cc0_scratch0
abbrev scM0_1 : Memref sig .tc .vmem S3x2048x1024 .bf16 := Memref.whole cc0_scratch1
abbrev scM0_2 : Memref sig .tc .vmem S3x1024x2048 .bf16 := Memref.whole cc0_scratch2
abbrev hbM0_0 : Memref sig .tc .hbm S2x2048x8192 .bf16 := Memref.whole main_v0
abbrev hbM0_1 : Memref sig .tc .hbm S2x8192x2048 .bf16 := Memref.whole main_v1
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 6 → SemLoc sig := fun j => (![SemLoc.dma 9, SemLoc.dma 10, SemLoc.dma 11, SemLoc.dma 12, SemLoc.dma 13, SemLoc.dma 14] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
  rw [Pipeline.ownSems0_eq_of_list c osem0 [0, 1, 2, 3, 4, 5] (by decide) (by decide)]; rfl
def H0 : Finset (Ref sig .tc) := {main_v0, main_v1}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_v1)) := by
  rw [BI.bigSep_eq_bigSepL_of_eq [main_v0, main_v1] (by decide) (by decide)]; rfl

theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ iprop(hbPt0 c hbM0_0 (V m c main_v0) ∗ hbPt0 c hbM0_1 (V m c main_v1))) := by
  rw [Pipeline.ΦD_eq, scopedRest0_eq, ownSems00_eq, hbmPts0_eq]; simp only [scM0_0, scM0_1, scM0_2, owns_whole]; try rfl

instance : NeZero grid0.N := ⟨by rw [N_0]; decide⟩
theorem inb_slot0_0 (s : Fin 3) : ∀ a, (![s.val, 0, 0] : Fin 3 → Nat) a + S1x2048x1024.size a ≤ S3x2048x1024.size a := by
  have := s.isLt; intro a; fin_cases a <;> simp <;> omega
theorem inb_src0_0 (b : Fin 136) : ∀ a, (![0, 0, 1024 * (b.val % 8)] : Fin 3 → Nat) a + S1x2048x1024.size a ≤ S2x2048x8192.size a := by
  have := b.isLt; intro a; fin_cases a <;> simp <;> omega
theorem inb_cell0_0 (s : Fin 3) : ∀ a, (![0, s.val] : Fin 2 → Nat) a + S1x1.size a ≤ S2x3.size a := by
  have := s.isLt; intro a; fin_cases a <;> simp <;> omega
def rslot0_0 (s : Fin 3) : Memref sig .tc .vmem S2048x1024 .bf16 :=
  (scM0_1.slice (Rect.unit (s := S3x2048x1024) ![s.val, 0, 0] S1x2048x1024.size (inb_slot0_0 s)) (fun _ => rfl)).squeeze S2048x1024 squeezes_S1x2048x1024_S2048x1024
def srcB0_0 (b : Fin 136) : Memref sig .tc .hbm S2048x1024 .bf16 :=
  (hbM0_0.slice (Rect.unit (s := S2x2048x8192) ![0, 0, 1024 * (b.val % 8)] S1x2048x1024.size (inb_src0_0 b)) (fun _ => rfl)).squeeze S2048x1024 squeezes_S1x2048x1024_S2048x1024
def cellA0_0 (s : Fin 3) : DmaSems sig S_ := (cc0_scratch3.slice (Rect.unit (s := S2x3) ![0, s.val] S1x1.size (inb_cell0_0 s))).squeeze S_ squeezes_S1x1_S_
abbrev cellR0_0 (s : Fin 3) : SemLoc sig := SemLoc.dma (cellA0_0 s).sem
theorem cellR0_0_0 : cellR0_0 0 = SemLoc.dma 9 := by decide
theorem cellR0_0_1 : cellR0_0 1 = SemLoc.dma 10 := by decide
theorem cellR0_0_2 : cellR0_0 2 = SemLoc.dma 11 := by decide

section Ring0_0
variable (c : Dev nD) (W : HbBuf0 (F := F) c hbM0_0)
abbrev qs0_0 (s : Fin 3) : PosShare TreeShare := if s.val = 0 then fullShare.left else if s.val = 1 then fullShare.right.left else fullShare.right.right
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 136) : sProp 𝕄 := (srcB0_0 b).view.loc (c : Thread nD τ) ↦[(srcB0_0 b).view.set]{qs0_0 s} W
def restP0_0 (s : Fin 3) (b : Fin 136) : sProp 𝕄 := ((c : Thread nD τ).loc main_v0) ↦[Finset.univ \ (srcB0_0 b).view.set]{qs0_0 s} W
abbrev wholeP0_0 (s : Fin 3) : sProp 𝕄 := ((c : Thread nD τ).loc main_v0) ↦[Finset.univ]{qs0_0 s} W
abbrev landed0_0 (s : Fin 3) (b : Fin 136) (f : HbBuf0 (F := F) c (rslot0_0 s)) : HbBuf0 (F := F) c (rslot0_0 s) :=
  (rslot0_0 s).view.writes (Elt F) f [⟨Rect.whole S2048x1024, ReadAs.same.apply ((srcB0_0 b).view.read (Elt F) W)⟩]
abbrev flightP0_0 (s : Fin 3) (b : Fin 136) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
abbrev slotW0_0 (s : Fin 3) (f : HbBuf0 (F := F) c (rslot0_0 s)) : sProp 𝕄 := iprop(slotP0_0 c s f ∗ wholeP0_0 c W s)
abbrev flightW0_0 (s : Fin 3) (b : Fin 136) (f : HbBuf0 (F := F) c (rslot0_0 s)) : sProp 𝕄 := iprop(flightP0_0 c W s b f ∗ restP0_0 c W s b)
abbrev noHome0_0 (b : Fin 136) : sProp 𝕄 := iprop(emp)
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 9) 0 := congrArg (fun x => (semVal ((c : Thread nD τ), x) 0 : sProp 𝕄)) cellR0_0_0
omit [FloatOps F] in
theorem cellP0_0_1 : cellP0_0 (F := F) c 1 = semVal ((c : Thread nD τ), SemLoc.dma 10) 0 := congrArg (fun x => (semVal ((c : Thread nD τ), x) 0 : sProp 𝕄)) cellR0_0_1
omit [FloatOps F] in
theorem cellP0_0_2 : cellP0_0 (F := F) c 2 = semVal ((c : Thread nD τ), SemLoc.dma 11) 0 := congrArg (fun x => (semVal ((c : Thread nD τ), x) 0 : sProp 𝕄)) cellR0_0_2
end Ring0_0

abbrev slotSet0_0 (s : Fin 3) : Finset S3x2048x1024.Idx := (Rect.unit (s := S3x2048x1024) ![s.val, 0, 0] S1x2048x1024.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x2048x1024) (0 : Fin 3) 1 (fun s : Fin 3 => (![s.val, 0, 0] : Fin 3 → Nat)) S1x2048x1024.size inb_slot0_0 (fun s => by simp) rfl s s' h
theorem slots0_0_cover : Finset.univ.biUnion slotSet0_0 = Finset.univ :=
  Ring.lead_cover (s := S3x2048x1024) (0 : Fin 3) 1 (fun s : Fin 3 => (![s.val, 0, 0] : Fin 3 → Nat)) S1x2048x1024.size inb_slot0_0 (fun s => by simp)
    (fun s a ha => by fin_cases a <;> first | exact absurd rfl ha | rfl) rfl (fun a ha => by fin_cases a <;> first | exact absurd rfl ha | rfl) rfl

section InOut0_0
variable (c : Dev nD) (W : HbBuf0 (F := F) c hbM0_0)
theorem slotP0_0_eq (s : Fin 3) (f) : slotP0_0 (F := F) c s f = (((c : Thread nD τ).loc cc0_scratch1) ↦[slotSet0_0 s]{fullShare} f : sProp 𝕄) := by
  unfold slotP0_0; rw [slotSet0_0_eq]; rfl
theorem src0_0_split (s : Fin 3) (b : Fin 136) : wholeP0_0 (F := F) c W s ⊣⊢ iprop(srcP0_0 c W s b ∗ restP0_0 c W s b) := by
  unfold restP0_0; exact pointsTo_split_subset (Finset.subset_univ _)
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
theorem slots0_0_in : iprop(∃ d, owns (c : Thread nD τ) scM0_1 fullShare d) ⊢ (iprop((∃ f, slotP0_0 (F := F) c 0 f) ∗ (∃ f, slotP0_0 (F := F) c 1 f) ∗ ∃ f, slotP0_0 (F := F) c 2 f) : sProp 𝕄) := by
  simp only [scM0_1, owns_whole]
  exact Ring.slots3_split (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_1 fullShare d) := by
  simp only [scM0_1, owns_whole]
  exact Ring.slots3_join (U := Pipeline.UD sig nD τ) (ℓ := (c : Thread nD τ).loc cc0_scratch1) (q := fullShare) slotSet0_0 slots0_0_disjoint slots0_0_cover
    (slotP0_0 c 0) (slotP0_0 c 1) (slotP0_0 c 2) (slotP0_0_eq c 0) (slotP0_0_eq c 1) (slotP0_0_eq c 2)
end InOut0_0

theorem ring0_0_in (c : Dev nD) :
    iprop((∃ d, owns (c : Thread nD τ) scM0_1 fullShare d) ∗ (semVal ((c : Thread nD τ), SemLoc.dma 9) 0 ∗ semVal ((c : Thread nD τ), SemLoc.dma 10) 0 ∗ semVal ((c : Thread nD τ), SemLoc.dma 11) 0) ∗ hbPt0 c hbM0_0 (V m c main_v0))
      ⊢ ringAt0_0 c (V m c main_v0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_v0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ring0_0_out (c : Dev nD) :
    ringAt0_0 c (V m c main_v0) 136
      ⊢ iprop((∃ d, owns (c : Thread nD τ) scM0_1 fullShare d) ∗ (semVal ((c : Thread nD τ), SemLoc.dma 9) 0 ∗ semVal ((c : Thread nD τ), SemLoc.dma 10) 0 ∗ semVal ((c : Thread nD τ), SemLoc.dma 11) 0) ∗ hbPt0 c hbM0_0 (V m c main_v0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_v0)).2; isplitl [HW0]; · iexact HW0
    isplitl [HW1]; · iexact HW1
    iexact HW2

theorem inb_slot0_1 (s : Fin 3) : ∀ a, (![s.val, 0, 0] : Fin 3 → Nat) a + S1x1024x2048.size a ≤ S3x1024x2048.size a := by
  have := s.isLt; intro a; fin_cases a <;> simp <;> omega
theorem inb_src0_1 (b : Fin 136) : ∀ a, (![0, 1024 * (b.val % 8), 0] : Fin 3 → Nat) a + S1x1024x2048.size a ≤ S2x8192x2048.size a := by
  have := b.isLt; intro a; fin_cases a <;> simp <;> omega
theorem inb_cell0_1 (s : Fin 3) : ∀ a, (![1, s.val] : Fin 2 → Nat) a + S1x1.size a ≤ S2x3.size a := by
  have := s.isLt; intro a; fin_cases a <;> simp <;> omega
def rslot0_1 (s : Fin 3) : Memref sig .tc .vmem S1024x2048 .bf16 :=
  (scM0_2.slice (Rect.unit (s := S3x1024x2048) ![s.val, 0, 0] S1x1024x2048.size (inb_slot0_1 s)) (fun _ => rfl)).squeeze S1024x2048 squeezes_S1x1024x2048_S1024x2048
def srcB0_1 (b : Fin 136) : Memref sig .tc .hbm S1024x2048 .bf16 :=
  (hbM0_1.slice (Rect.unit (s := S2x8192x2048) ![0, 1024 * (b.val % 8), 0] S1x1024x2048.size (inb_src0_1 b)) (fun _ => rfl)).squeeze S1024x2048 squeezes_S1x1024x2048_S1024x2048
def cellA0_1 (s : Fin 3) : DmaSems sig S_ := (cc0_scratch3.slice (Rect.unit (s := S2x3) ![1, s.val] S1x1.size (inb_cell0_1 s))).squeeze S_ squeezes_S1x1_S_
abbrev cellR0_1 (s : Fin 3) : SemLoc sig := SemLoc.dma (cellA0_1 s).sem
theorem cellR0_1_0 : cellR0_1 0 = SemLoc.dma 12 := by decide
theorem cellR0_1_1 : cellR0_1 1 = SemLoc.dma 13 := by decide
theorem cellR0_1_2 : cellR0_1 2 = SemLoc.dma 14 := by decide

section Ring0_1
variable (c : Dev nD) (W : HbBuf0 (F := F) c hbM0_1)
abbrev qs0_1 (s : Fin 3) : PosShare TreeShare := if s.val = 0 then fullShare.left else if s.val = 1 then fullShare.right.left else fullShare.right.right
abbrev slotP0_1 (s : Fin 3) (f : HbBuf0 (F := F) c (rslot0_1 s)) : sProp 𝕄 := (rslot0_1 s).view.loc (c : Thread nD τ) ↦[(rslot0_1 s).view.set]{fullShare} f
abbrev cellP0_1 (s : Fin 3) : sProp 𝕄 := semVal ((c : Thread nD τ), cellR0_1 s) 0
abbrev srcP0_1 (s : Fin 3) (b : Fin 136) : sProp 𝕄 := (srcB0_1 b).view.loc (c : Thread nD τ) ↦[(srcB0_1 b).view.set]{qs0_1 s} W
def restP0_1 (s : Fin 3) (b : Fin 136) : sProp 𝕄 := ((c : Thread nD τ).loc main_v1) ↦[Finset.univ \ (srcB0_1 b).view.set]{qs0_1 s} W
abbrev wholeP0_1 (s : Fin 3) : sProp 𝕄 := ((c : Thread nD τ).loc main_v1) ↦[Finset.univ]{qs0_1 s} W
abbrev landed0_1 (s : Fin 3) (b : Fin 136) (f : HbBuf0 (F := F) c (rslot0_1 s)) : HbBuf0 (F := F) c (rslot0_1 s) :=
  (rslot0_1 s).view.writes (Elt F) f [⟨Rect.whole S1024x2048, ReadAs.same.apply ((srcB0_1 b).view.read (Elt F) W)⟩]
abbrev flightP0_1 (s : Fin 3) (b : Fin 136) (f : HbBuf0 (F := F) c (rslot0_1 s)) : sProp 𝕄 :=
  Transfers.Flight countersEmb (c : Thread nD τ) (cellR0_1 s) default ((rslot0_1 s).view.amount (cellR0_1 s))
    iprop(slotP0_1 c s (landed0_1 c W s b f) ∗ srcP0_1 c W s b)
abbrev slotW0_1 (s : Fin 3) (f : HbBuf0 (F := F) c (rslot0_1 s)) : sProp 𝕄 := iprop(slotP0_1 c s f ∗ wholeP0_1 c W s)
abbrev flightW0_1 (s : Fin 3) (b : Fin 136) (f : HbBuf0 (F := F) c (rslot0_1 s)) : sProp 𝕄 := iprop(flightP0_1 c W s b f ∗ restP0_1 c W s b)
abbrev noHome0_1 (b : Fin 136) : sProp 𝕄 := iprop(emp)
def ringAt0_1 (k : ℕ) : sProp 𝕄 :=
  if k = 0 then Ring.At₀ (cellP0_1 c) (slotW0_1 c W) noHome0_1
  else Ring.At 2 (cellP0_1 c) (slotW0_1 c W) noHome0_1 (flightW0_1 c W) k
omit [FloatOps F] in
theorem cellP0_1_0 : cellP0_1 (F := F) c 0 = semVal ((c : Thread nD τ), SemLoc.dma 12) 0 := congrArg (fun x => (semVal ((c : Thread nD τ), x) 0 : sProp 𝕄)) cellR0_1_0
omit [FloatOps F] in
theorem cellP0_1_1 : cellP0_1 (F := F) c 1 = semVal ((c : Thread nD τ), SemLoc.dma 13) 0 := congrArg (fun x => (semVal ((c : Thread nD τ), x) 0 : sProp 𝕄)) cellR0_1_1
omit [FloatOps F] in
theorem cellP0_1_2 : cellP0_1 (F := F) c 2 = semVal ((c : Thread nD τ), SemLoc.dma 14) 0 := congrArg (fun x => (semVal ((c : Thread nD τ), x) 0 : sProp 𝕄)) cellR0_1_2
end Ring0_1

abbrev slotSet0_1 (s : Fin 3) : Finset S3x1024x2048.Idx := (Rect.unit (s := S3x1024x2048) ![s.val, 0, 0] S1x1024x2048.size (inb_slot0_1 s)).set
theorem slotSet0_1_eq (s : Fin 3) : (rslot0_1 s).view.set = slotSet0_1 s := by
  simp only [rslot0_1, Memref.view_squeeze, View.set_reshape]; exact View.set_slice_whole _ _
theorem slots0_1_disjoint (s s' : Fin 3) (h : s ≠ s') : Disjoint (slotSet0_1 s) (slotSet0_1 s') :=
  Ring.lead_disjoint (s := S3x1024x2048) (0 : Fin 3) 1 (fun s : Fin 3 => (![s.val, 0, 0] : Fin 3 → Nat)) S1x1024x2048.size inb_slot0_1 (fun s => by simp) rfl s s' h
theorem slots0_1_cover : Finset.univ.biUnion slotSet0_1 = Finset.univ :=
  Ring.lead_cover (s := S3x1024x2048) (0 : Fin 3) 1 (fun s : Fin 3 => (![s.val, 0, 0] : Fin 3 → Nat)) S1x1024x2048.size inb_slot0_1 (fun s => by simp)
    (fun s a ha => by fin_cases a <;> first | exact absurd rfl ha | rfl) rfl (fun a ha => by fin_cases a <;> first | exact absurd rfl ha | rfl) rfl

section InOut0_1
variable (c : Dev nD) (W : HbBuf0 (F := F) c hbM0_1)
theorem slotP0_1_eq (s : Fin 3) (f) : slotP0_1 (F := F) c s f = (((c : Thread nD τ).loc cc0_scratch2) ↦[slotSet0_1 s]{fullShare} f : sProp 𝕄) := by
  unfold slotP0_1; rw [slotSet0_1_eq]; rfl
theorem src0_1_split (s : Fin 3) (b : Fin 136) : wholeP0_1 (F := F) c W s ⊣⊢ iprop(srcP0_1 c W s b ∗ restP0_1 c W s b) := by
  unfold restP0_1; exact pointsTo_split_subset (Finset.subset_univ _)
theorem whole0_1_split : (hbPt0 c hbM0_1 W : sProp 𝕄) ⊣⊢ iprop(wholeP0_1 c W 0 ∗ wholeP0_1 c W 1 ∗ wholeP0_1 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
theorem slots0_1_in : iprop(∃ d, owns (c : Thread nD τ) scM0_2 fullShare d) ⊢ (iprop((∃ f, slotP0_1 (F := F) c 0 f) ∗ (∃ f, slotP0_1 (F := F) c 1 f) ∗ ∃ f, slotP0_1 (F := F) c 2 f) : sProp 𝕄) := by
  simp only [scM0_2, owns_whole]
  exact Ring.slots3_split (U := Pipeline.UD sig nD τ) (ℓ := (c : Thread nD τ).loc cc0_scratch2) (q := fullShare) slotSet0_1 slots0_1_disjoint slots0_1_cover
    (slotP0_1 c 0) (slotP0_1 c 1) (slotP0_1 c 2) (slotP0_1_eq c 0) (slotP0_1_eq c 1) (slotP0_1_eq c 2)
set_option maxHeartbeats 1000000 in
theorem slots0_1_out : (iprop((∃ f, slotP0_1 (F := F) c 0 f) ∗ (∃ f, slotP0_1 (F := F) c 1 f) ∗ ∃ f, slotP0_1 (F := F) c 2 f) : sProp 𝕄) ⊢ iprop(∃ d, owns (c : Thread nD τ) scM0_2 fullShare d) := by
  simp only [scM0_2, owns_whole]
  exact Ring.slots3_join (U := Pipeline.UD sig nD τ) (ℓ := (c : Thread nD τ).loc cc0_scratch2) (q := fullShare) slotSet0_1 slots0_1_disjoint slots0_1_cover
    (slotP0_1 c 0) (slotP0_1 c 1) (slotP0_1 c 2) (slotP0_1_eq c 0) (slotP0_1_eq c 1) (slotP0_1_eq c 2)
end InOut0_1

theorem ring0_1_in (c : Dev nD) :
    iprop((∃ d, owns (c : Thread nD τ) scM0_2 fullShare d) ∗ (semVal ((c : Thread nD τ), SemLoc.dma 12) 0 ∗ semVal ((c : Thread nD τ), SemLoc.dma 13) 0 ∗ semVal ((c : Thread nD τ), SemLoc.dma 14) 0) ∗ hbPt0 c hbM0_1 (V m c main_v1))
      ⊢ ringAt0_1 c (V m c main_v1) 0 := by
  unfold ringAt0_1; rw [if_pos rfl]; unfold Ring.At₀
  rw [Ring.bigSep_fin3]
  simp only [Ring.free, cellP0_1_0, cellP0_1_1, cellP0_1_2]
  iintro ⟨HS, Hc, HW⟩
  iapply Ring.with_homes₀
  icases Hc with ⟨H0, H1, H2⟩
  ihave HS' := (slots0_1_in (F := F) c) $$ HS
  icases HS' with ⟨⟨%d0, HS0⟩, ⟨%d1, HS1⟩, ⟨%d2, HS2⟩⟩
  ihave HW' := (whole0_1_split (F := F) c (V m c main_v1)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
theorem ring0_1_out (c : Dev nD) :
    ringAt0_1 c (V m c main_v1) 136
      ⊢ iprop((∃ d, owns (c : Thread nD τ) scM0_2 fullShare d) ∗ (semVal ((c : Thread nD τ), SemLoc.dma 12) 0 ∗ semVal ((c : Thread nD τ), SemLoc.dma 13) 0 ∗ semVal ((c : Thread nD τ), SemLoc.dma 14) 0) ∗ hbPt0 c hbM0_1 (V m c main_v1)) := by
  unfold ringAt0_1; rw [if_neg (by decide)]
  iintro H
  ihave H' := (Ring.free3_of_At_last _ _ _ _) $$ H
  simp only [Ring.free, cellP0_1_0, cellP0_1_1, cellP0_1_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_1_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_1_split (F := F) c (V m c main_v1)).2; isplitl [HW0]; · iexact HW0
    isplitl [HW1]; · iexact HW1
    iexact HW2

/-! ## The slots, cells and blocks of the body's transfers are the ones above -/

section Names
omit [FloatOps F]

theorem canonSlot0 (n : ℕ) (k : ℕ) (h : n = (Ring.sl 3 k).val) (hin) :
    (scM0_1.slice (Rect.unit (s := S3x2048x1024) ![n, 0, 0] S1x2048x1024.size hin) (fun _ => rfl)).squeeze S2048x1024 squeezes_S1x2048x1024_S2048x1024 = rslot0_0 (Ring.sl 3 k) := by
  subst h; rfl
theorem canonSlot1 (n : ℕ) (k : ℕ) (h : n = (Ring.sl 3 k).val) (hin) :
    (scM0_2.slice (Rect.unit (s := S3x1024x2048) ![n, 0, 0] S1x1024x2048.size hin) (fun _ => rfl)).squeeze S1024x2048 squeezes_S1x1024x2048_S1024x2048 = rslot0_1 (Ring.sl 3 k) := by
  subst h; rfl
theorem canonCell0 (n : ℕ) (k : ℕ) (h : n = (Ring.sl 3 k).val) (hin) :
    (cc0_scratch3.slice (Rect.unit (s := S2x3) ![0, n] S1x1.size hin)).squeeze S_ squeezes_S1x1_S_ = cellA0_0 (Ring.sl 3 k) := by
  subst h; rfl
theorem canonCell1 (n : ℕ) (k : ℕ) (h : n = (Ring.sl 3 k).val) (hin) :
    (cc0_scratch3.slice (Rect.unit (s := S2x3) ![1, n] S1x1.size hin)).squeeze S_ squeezes_S1x1_S_ = cellA0_1 (Ring.sl 3 k) := by
  subst h; rfl
theorem canonSrc0 (o : Fin 3 → ℕ) (k : ℕ) (h : o = ![0, 0, 1024 * ((Ring.bk 136 k).val % 8)]) (hin) :
    (hbM0_0.slice (Rect.unit (s := S2x2048x8192) o S1x2048x1024.size hin) (fun _ => rfl)).squeeze S2048x1024 squeezes_S1x2048x1024_S2048x1024 = srcB0_0 (Ring.bk 136 k) := by
  subst h; rfl
theorem canonSrc1 (o : Fin 3 → ℕ) (k : ℕ) (h : o = ![0, 1024 * ((Ring.bk 136 k).val % 8), 0]) (hin) :
    (hbM0_1.slice (Rect.unit (s := S2x8192x2048) o S1x1024x2048.size hin) (fun _ => rfl)).squeeze S1024x2048 squeezes_S1x1024x2048_S1024x2048 = srcB0_1 (Ring.bk 136 k) := by
  subst h; rfl
theorem off1_eq : ∀ t : Fin grid0.N, k0_off1 (grid0.coords t) = ![0, 0, 1024 * ((Ring.bk 136 (t.val + 2)).val % 8)] := by decide +kernel
theorem off2_eq : ∀ t : Fin grid0.N, k0_off2 (grid0.coords t) = ![0, 1024 * ((Ring.bk 136 (t.val + 2)).val % 8), 0] := by decide +kernel
theorem off5_eq : ∀ t : Fin grid0.N, k0_off5 (grid0.coords t) = ![0, 0, 1024 * ((Ring.bk 136 (t.val + 2)).val % 8)] := by decide +kernel
theorem off6_eq : ∀ t : Fin grid0.N, k0_off6 (grid0.coords t) = ![0, 1024 * ((Ring.bk 136 (t.val + 2)).val % 8), 0] := by decide +kernel
theorem off9_eq : ∀ t : Fin grid0.N, k0_off9 (grid0.coords t) = ![0, 0, 1024 * ((Ring.bk 136 (t.val + 2)).val % 8)] := by decide +kernel
theorem off10_eq : ∀ t : Fin grid0.N, k0_off10 (grid0.coords t) = ![0, 1024 * ((Ring.bk 136 (t.val + 2)).val % 8), 0] := by decide +kernel
@[sl_canon] theorem canonOff1 (t : Fin grid0.N) (hin) :
    (hbM0_0.slice (Rect.unit (s := S2x2048x8192) (k0_off1 (grid0.coords t)) S1x2048x1024.size hin) (fun _ => rfl)).squeeze S2048x1024 squeezes_S1x2048x1024_S2048x1024 = srcB0_0 (Ring.bk 136 (t.val + 2)) :=
  canonSrc0 _ _ (off1_eq t) hin
@[sl_canon] theorem canonOff2 (t : Fin grid0.N) (hin) :
    (hbM0_1.slice (Rect.unit (s := S2x8192x2048) (k0_off2 (grid0.coords t)) S1x1024x2048.size hin) (fun _ => rfl)).squeeze S1024x2048 squeezes_S1x1024x2048_S1024x2048 = srcB0_1 (Ring.bk 136 (t.val + 2)) :=
  canonSrc1 _ _ (off2_eq t) hin
@[sl_canon] theorem canonOff5 (t : Fin grid0.N) (hin) :
    (hbM0_0.slice (Rect.unit (s := S2x2048x8192) (k0_off5 (grid0.coords t)) S1x2048x1024.size hin) (fun _ => rfl)).squeeze S2048x1024 squeezes_S1x2048x1024_S2048x1024 = srcB0_0 (Ring.bk 136 (t.val + 2)) :=
  canonSrc0 _ _ (off5_eq t) hin
@[sl_canon] theorem canonOff6 (t : Fin grid0.N) (hin) :
    (hbM0_1.slice (Rect.unit (s := S2x8192x2048) (k0_off6 (grid0.coords t)) S1x1024x2048.size hin) (fun _ => rfl)).squeeze S1024x2048 squeezes_S1x1024x2048_S1024x2048 = srcB0_1 (Ring.bk 136 (t.val + 2)) :=
  canonSrc1 _ _ (off6_eq t) hin
@[sl_canon] theorem canonOff9 (t : Fin grid0.N) (hin) :
    (hbM0_0.slice (Rect.unit (s := S2x2048x8192) (k0_off9 (grid0.coords t)) S1x2048x1024.size hin) (fun _ => rfl)).squeeze S2048x1024 squeezes_S1x2048x1024_S2048x1024 = srcB0_0 (Ring.bk 136 (t.val + 2)) :=
  canonSrc0 _ _ (off9_eq t) hin
@[sl_canon] theorem canonOff10 (t : Fin grid0.N) (hin) :
    (hbM0_1.slice (Rect.unit (s := S2x8192x2048) (k0_off10 (grid0.coords t)) S1x1024x2048.size hin) (fun _ => rfl)).squeeze S1024x2048 squeezes_S1x1024x2048_S1024x2048 = srcB0_1 (Ring.bk 136 (t.val + 2)) :=
  canonSrc1 _ _ (off10_eq t) hin

/-- A load of the slot numbered `n` reads within the slot of that number. -/
theorem slotSub0 (n : ℕ) (k : ℕ) (h : n = (Ring.sl 3 k).val) (hin) :
    scM0_1.view.setOn (Rect.unit (s := S3x2048x1024) ![n, 0, 0] S1x2048x1024.size hin).toLoadRect.set ⊆ (rslot0_0 (Ring.sl 3 k)).view.set := by
  subst h; unfold rslot0_0
  refine Memref.subset_of_set_eq (Memref.setOn_subset_slice_of_within _ _ _ _ ?_) (Memref.set_view_squeeze _ _)
  revert hin; generalize Ring.sl 3 k = s; intro hin; fin_cases s <;> rfl

/-- A load of the slot numbered `n` reads within the slot of that number. -/
theorem slotSub1 (n : ℕ) (k : ℕ) (h : n = (Ring.sl 3 k).val) (hin) :
    scM0_2.view.setOn (Rect.unit (s := S3x1024x2048) ![n, 0, 0] S1x1024x2048.size hin).toLoadRect.set ⊆ (rslot0_1 (Ring.sl 3 k)).view.set := by
  subst h; unfold rslot0_1
  refine Memref.subset_of_set_eq (Memref.setOn_subset_slice_of_within _ _ _ _ ?_) (Memref.set_view_squeeze _ _)
  revert hin; generalize Ring.sl 3 k = s; intro hin; fin_cases s <;> rfl
end Names

end Cert.Kernel10Ideal.Tied

end
-- ==== Proof.Land.lean ====
/-
  What a grid point of the feed-forward part loads and what it leaves.
-/
module

public import proofs.«01_k».proof.Proof.Rings
public import Idealize.ShloMosaic.Lib.VecWindow

@[expose] public section

set_option maxRecDepth 16384

noncomputable section

namespace Cert.Kernel10Ideal.Tied

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-- The columns of the first weight matrix that belong to chunk `b % 8`. -/
def wu (W : HbBuf0 (F := F) c hbM0_0) (b : Fin 136) : Vec F S1x2048x1024 .bf16 :=
  (hbM0_0.slice (Rect.unit (s := S2x2048x8192) ![0, 0, 1024 * (b.val % 8)] S1x2048x1024.size (inb_src0_0 b)) (fun _ => rfl)).view.read (Elt F) W

/-- The rows of the second weight matrix that belong to chunk `b % 8`. -/
def wd (W : HbBuf0 (F := F) c hbM0_1) (b : Fin 136) : Vec F S1x1024x2048 .bf16 :=
  (hbM0_1.slice (Rect.unit (s := S2x8192x2048) ![0, 1024 * (b.val % 8), 0] S1x1024x2048.size (inb_src0_1 b)) (fun _ => rfl)).view.read (Elt F) W

/-- Two vectors with the same reshaping are the same. -/
theorem shapeCast_inj {s t : Shape} {α : Type} (x y : s.Idx → α) (h : s.ShapeCasts t) (e : shapeCast t x h = shapeCast t y h) : x = y := by
  funext i
  have := congrFun e ((Shape.reshapeEquiv h).symm i)
  unfold shapeCast at this
  rwa [Equiv.apply_symm_apply] at this

/-- A whole write under a view is read back. -/
theorem read_landed {sp : Space} {s : Shape} {e : EltTy} (v : View sig .tc sp s e) (f : v.ty.Contents (Elt F)) (w : s.Idx → Elt F e) :
    v.read (Elt F) (v.writes (Elt F) f [⟨Rect.whole s, w⟩]) = w :=
  View.read_writes_full v f (off := fun _ => 0) (fun a => by simp) w []

/-- What has landed in the squeeze of a block is read from the block as the squeeze's source has it. -/
theorem load_of {sp sp' : Space} {s s' : Shape} {e : EltTy} (A : Memref sig .tc sp s e) (B : Memref sig .tc sp' s e) (hq : s.Squeezes s')
    (f : (A.squeeze s' hq).view.ty.Contents (Elt F)) (W : (B.squeeze s' hq).view.ty.Contents (Elt F)) :
    A.view.read (Elt F) ((A.squeeze s' hq).view.writes (Elt F) f [⟨Rect.whole s', ReadAs.same.apply ((B.squeeze s' hq).view.read (Elt F) W)⟩]) = B.view.read (Elt F) W :=
  shapeCast_inj _ _ hq.numel_eq (read_landed (A.squeeze s' hq).view f _)

/-- A load of the slot the first weight matrix's chunk has landed in, by the slot. -/
theorem loadSlot0 (W : HbBuf0 (F := F) c hbM0_0) (s : Fin 3) (hin) (b : Fin 136) (f : HbBuf0 (F := F) c (rslot0_0 s)) :
    View.readAt (Elt F) scM0_1.view (Rect.unit (s := S3x2048x1024) ![s.val, 0, 0] S1x2048x1024.size hin).toLoadRect (landed0_0 c W s b f) = wu c W b := by
  unfold landed0_0 wu
  unfold rslot0_0 at f
  unfold rslot0_0 srcB0_0
  refine Eq.trans ?_ (load_of (scM0_1.slice (Rect.unit (s := S3x2048x1024) ![s.val, 0, 0] S1x2048x1024.size hin) (fun _ => rfl)) (hbM0_0.slice (Rect.unit (s := S2x2048x8192) ![0, 0, 1024 * (b.val % 8)] S1x2048x1024.size (inb_src0_0 b)) (fun _ => rfl)) squeezes_S1x2048x1024_S2048x1024 f W)
  rfl

/-- A load of the slot the first weight matrix's chunk has landed in, by the slot's number. -/
theorem load0 (W : HbBuf0 (F := F) c hbM0_0) (n k : ℕ) (h : n = (Ring.sl 3 k).val) (hin) (b : Fin 136) (f : HbBuf0 (F := F) c (rslot0_0 (Ring.sl 3 k))) :
    View.readAt (Elt F) scM0_1.view (Rect.unit (s := S3x2048x1024) ![n, 0, 0] S1x2048x1024.size hin).toLoadRect (landed0_0 c W (Ring.sl 3 k) b f) = wu c W b := by
  subst h
  exact loadSlot0 c W (Ring.sl 3 k) hin b f

/-- A load of the slot the second weight matrix's chunk has landed in, by the slot. -/
theorem loadSlot1 (W : HbBuf0 (F := F) c hbM0_1) (s : Fin 3) (hin) (b : Fin 136) (f : HbBuf0 (F := F) c (rslot0_1 s)) :
    View.readAt (Elt F) scM0_2.view (Rect.unit (s := S3x1024x2048) ![s.val, 0, 0] S1x1024x2048.size hin).toLoadRect (landed0_1 c W s b f) = wd c W b := by
  unfold landed0_1 wd
  unfold rslot0_1 at f
  unfold rslot0_1 srcB0_1
  refine Eq.trans ?_ (load_of (scM0_2.slice (Rect.unit (s := S3x1024x2048) ![s.val, 0, 0] S1x1024x2048.size hin) (fun _ => rfl)) (hbM0_1.slice (Rect.unit (s := S2x8192x2048) ![0, 1024 * (b.val % 8), 0] S1x1024x2048.size (inb_src0_1 b)) (fun _ => rfl)) squeezes_S1x1024x2048_S1024x2048 f W)
  rfl

/-- A load of the slot the second weight matrix's chunk has landed in, by the slot's number. -/
theorem load1 (W : HbBuf0 (F := F) c hbM0_1) (n k : ℕ) (h : n = (Ring.sl 3 k).val) (hin) (b : Fin 136) (f : HbBuf0 (F := F) c (rslot0_1 (Ring.sl 3 k))) :
    View.readAt (Elt F) scM0_2.view (Rect.unit (s := S3x1024x2048) ![n, 0, 0] S1x1024x2048.size hin).toLoadRect (landed0_1 c W (Ring.sl 3 k) b f) = wd c W b := by
  subst h
  exact loadSlot1 c W (Ring.sl 3 k) hin b f

/-- One chunk added to the accumulator. -/
def step (x : Vec F S512x2048 .bf16) (u : Vec F S1x2048x1024 .bf16) (d : Vec F S1x1024x2048 .bf16) (a : Vec F S512x2048 .f32) : Vec F S512x2048 .f32 :=
  k0_pay8 a (k0_pay4 x u) d

/-- What the accumulator holds after point `t`. -/
def nxt (t : ℕ) (x : Vec F S512x2048 .bf16) (r : Vec F S512x2048 .f32) (a : Vec F S512x2048 .f32) (W : HbBuf0 (F := F) c hbM0_0) (W' : HbBuf0 (F := F) c hbM0_1) : Vec F S512x2048 .f32 :=
  step x (wu c W (Ring.bk 136 t)) (wd c W' (Ring.bk 136 t)) (if t % 8 = 0 then k0_pay7 r else a)

/-- The loads of a point put in. -/
theorem step_of {x x' : Vec F S512x2048 .bf16} {u u' : Vec F S1x2048x1024 .bf16} {d d' : Vec F S1x1024x2048 .bf16} {a a' : Vec F S512x2048 .f32}
    (ha : a = a') (hx : x = x') (hu : u = u') (hd : d = d') : k0_pay8 a (k0_pay4 x u) d = step x' u' d' a' := by
  subst ha; subst hx; subst hu; subst hd; rfl

/-- A load of a whole block. -/
theorem load_whole {e : EltTy} (M : Memref sig .tc .vmem S512x2048 e) (h : M.IsWhole) (x : Vec F S512x2048 e) :
    View.readAt (Elt F) M.view (Rect.unit (s := S512x2048) ![0, 0] S512x2048.size inb_S512x2048_S512x2048_0_0).toLoadRect (h.unread x) = x :=
  (View.readAt_full _ _ _).trans (h.read_unread x)

/-- A load of the whole gain. -/
theorem load_gain {e : EltTy} (M : Memref sig .tc .vmem S1x1x2048 e) (h : M.IsWhole) (x : Vec F S1x1x2048 e) :
    View.readAt (Elt F) M.view (Rect.unit (s := S1x1x2048) ![0, 0, 0] S1x1x2048.size inb_S1x1x2048_S1x1x2048_0_0_0).toLoadRect (h.unread x) = x :=
  (View.readAt_full _ _ _).trans (h.read_unread x)

/-- A load of the accumulator just set. -/
theorem load_set (M : Memref sig .tc .vmem S512x2048 .f32) (h : M.IsWhole) (A : Memref sig .tc .vmem S512x2048 .f32) (x : Vec F S512x2048 .f32) (L : List (View.Piece (Elt F) S512x2048 .f32)) :
    A.view.readCov (Val := Elt F) (⟨Rect.unit (s := S512x2048) ![0, 0] S512x2048.size inb_S512x2048_S512x2048_0_0, k0_pay7 (View.readAt (Elt F) M.view (Rect.unit (s := S512x2048) ![0, 0] S512x2048.size inb_S512x2048_S512x2048_0_0).toLoadRect (h.unread x))⟩ :: L) (Rect.unit (s := S512x2048) ![0, 0] S512x2048.size inb_S512x2048_S512x2048_0_0).toLoadRect = k0_pay7 x := by
  refine (View.readCov_full _ _ _ _ _).trans ?_
  exact congrArg k0_pay7 (load_whole M h x)

end Cert.Kernel10Ideal.Tied

end
-- ==== Proof.Point.lean ====
/-
  A grid point of the feed-forward part away from both ends.
-/
module

public import proofs.«01_k».proof.Proof.Land

@[expose] public section

set_option maxRecDepth 16384

noncomputable section

namespace Cert.Kernel10Ideal.Tied

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- A point away from both ends: one chunk is waited for, added, and the one after the next is sent for. -/
theorem steady (c : Dev nD) (t : Fin cfg0.N) (h1 : 1 ≤ t.val) (hB : t.val + 2 < 136) (arg2 : Memref sig .tc .vmem S512x2048 .bf16) (harg2 : arg2.IsWhole) (arg5 : Memref sig .tc .vmem S512x2048 .f32) (harg5 : arg5.IsWhole) (arg6 : Memref sig .tc .vmem S1x1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole)
    (x0 : Vec F S512x2048 .bf16) (x1 : Vec F S512x2048 .f32) (x2 : Vec F S1x1x2048 .f32) (d3 : Vec F S512x2048 .f32) (d4 : Vec F S512x2048 .bf16) (a : Vec F S512x2048 .f32) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg5 fullShare x1 ∗ owns (c : Thread nD τ) arg6 fullShare x2 ∗ owns (c : Thread nD τ) arg7 fullShare d3 ∗ owns (c : Thread nD τ) arg8 fullShare d4 ∗ owns (c : Thread nD τ) arg9 fullShare a ∗ Ring.inflight (flightW0_0 c fh0) (Ring.sl 3 t.val) (Ring.bk 136 t.val) ∗ Ring.inflight (flightW0_0 c fh0) (Ring.sl 3 (t.val + 1)) (Ring.bk 136 (t.val + 1)) ∗ Ring.free (cellP0_0 c) (slotW0_0 c fh0) (Ring.sl 3 (t.val + 2)) ∗ Ring.inflight (flightW0_1 c fh1) (Ring.sl 3 t.val) (Ring.bk 136 t.val) ∗ Ring.inflight (flightW0_1 c fh1) (Ring.sl 3 (t.val + 1)) (Ring.bk 136 (t.val + 1)) ∗ Ring.free (cellP0_1 c) (slotW0_1 c fh1) (Ring.sl 3 (t.val + 2)) ∗ owes (c : Thread nD τ) 0 W
            ∗ (iprop(owns (c : Thread nD τ) arg2 fullShare x0 ∗ owns (c : Thread nD τ) arg5 fullShare x1 ∗ owns (c : Thread nD τ) arg6 fullShare x2 ∗ owns (c : Thread nD τ) arg7 fullShare (if t.val % 8 = 7 then nxt c t.val x0 x1 a fh0 fh1 else d3) ∗ owns (c : Thread nD τ) arg8 fullShare (if t.val % 8 = 7 then k0_pay3 (nxt c t.val x0 x1 a fh0 fh1) x2 else d4) ∗ owns (c : Thread nD τ) arg9 fullShare (nxt c t.val x0 x1 a fh0 fh1) ∗ Ring.inflight (flightW0_0 c fh0) (Ring.sl 3 (t.val + 1)) (Ring.bk 136 (t.val + 1)) ∗ Ring.inflight (flightW0_0 c fh0) (Ring.sl 3 (t.val + 2)) (Ring.bk 136 (t.val + 2)) ∗ Ring.free (cellP0_0 c) (slotW0_0 c fh0) (Ring.sl 3 t.val) ∗ Ring.inflight (flightW0_1 c fh1) (Ring.sl 3 (t.val + 1)) (Ring.bk 136 (t.val + 1)) ∗ Ring.inflight (flightW0_1 c fh1) (Ring.sl 3 (t.val + 2)) (Ring.bk 136 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_mlp (grid0.coords t) arg2 harg2 (Memref.whole main_v0) (Memref.isWhole_whole _) (Memref.whole main_v1) (Memref.isWhole_whole _) arg5 harg5 arg6 harg6 arg7 harg7 arg8 harg8 arg9 harg9 scM0_1 (Memref.isWhole_whole _) scM0_2 (Memref.isWhole_whole _) cc0_scratch3) K := by
    intro W K
    have hs : ∀ n k : ℕ, n = k % 3 → n = (Ring.sl 3 k).val := fun n k h => h
    rcases (by omega : t.val % 3 = 0 ∨ t.val % 3 = 1 ∨ t.val % 3 = 2) with h3 | h3 | h3
    on_goal 1 =>
      have hc0 : ¬ cond0_0 (grid0.coords t) := fun h => by have := (hcond0_0 t).mp h; omega
      have hc2 : cond0_2 (grid0.coords t) := (hcond0_2 t).mpr (by omega)
      have hc3 : ¬ cond0_4 (grid0.coords t) := fun h => by have := (hcond0_4 t).mp h; omega
      have hc4 : ¬ cond0_5 (grid0.coords t) := fun h => by have := (hcond0_5 t).mp h; omega
      have hc5 : cond0_3 (grid0.coords t) := (hcond0_3 t).mpr (by omega)
      have hcanon0 := canonSlot0 2 (t.val + 2) (hs _ _ (by omega)) inb_S3x2048x1024_S1x2048x1024_2_0_0
      have hcanon1 := canonCell0 2 (t.val + 2) (hs _ _ (by omega)) inb_S2x3_S1x1_0_2
      have hcanon2 := canonSlot0 0 t.val (hs _ _ (by omega)) inb_S3x2048x1024_S1x2048x1024_0_0_0
      have hcanon3 := canonCell0 0 t.val (hs _ _ (by omega)) inb_S2x3_S1x1_0_0
      have hcanon4 := canonSlot1 2 (t.val + 2) (hs _ _ (by omega)) inb_S3x1024x2048_S1x1024x2048_2_0_0
      have hcanon5 := canonCell1 2 (t.val + 2) (hs _ _ (by omega)) inb_S2x3_S1x1_1_2
      have hcanon6 := canonSlot1 0 t.val (hs _ _ (by omega)) inb_S3x1024x2048_S1x1024x2048_0_0_0
      have hcanon7 := canonCell1 0 t.val (hs _ _ (by omega)) inb_S2x3_S1x1_1_0
      have hslot0 := slotSub0 0 t.val (hs _ _ (by omega)) inb_S3x2048x1024_S1x2048x1024_0_0_0
      have hslot1 := slotSub1 0 t.val (hs _ _ (by omega)) inb_S3x1024x2048_S1x1024x2048_0_0_0
      have hl0 := load0 c fh0 0 t.val (hs _ _ (by omega)) inb_S3x2048x1024_S1x2048x1024_0_0_0 (Ring.bk 136 t.val)
      have hl1 := load1 c fh1 0 t.val (hs _ _ (by omega)) inb_S3x1024x2048_S1x1024x2048_0_0_0 (Ring.bk 136 t.val)
    on_goal 2 =>
      have hc0 : ¬ cond0_0 (grid0.coords t) := fun h => by have := (hcond0_0 t).mp h; omega
      have hc2 : ¬ cond0_2 (grid0.coords t) := fun h => by have := (hcond0_2 t).mp h; omega
      have hc3 : cond0_4 (grid0.coords t) := (hcond0_4 t).mpr (by omega)
      have hc4 : ¬ cond0_5 (grid0.coords t) := fun h => by have := (hcond0_5 t).mp h; omega
      have hc5 : cond0_7 (grid0.coords t) := (hcond0_7 t).mpr (by omega)
      have hcanon0 := canonSlot0 0 (t.val + 2) (hs _ _ (by omega)) inb_S3x2048x1024_S1x2048x1024_0_0_0
      have hcanon1 := canonCell0 0 (t.val + 2) (hs _ _ (by omega)) inb_S2x3_S1x1_0_0
      have hcanon2 := canonSlot0 1 t.val (hs _ _ (by omega)) inb_S3x2048x1024_S1x2048x1024_1_0_0
      have hcanon3 := canonCell0 1 t.val (hs _ _ (by omega)) inb_S2x3_S1x1_0_1
      have hcanon4 := canonSlot1 0 (t.val + 2) (hs _ _ (by omega)) inb_S3x1024x2048_S1x1024x2048_0_0_0
      have hcanon5 := canonCell1 0 (t.val + 2) (hs _ _ (by omega)) inb_S2x3_S1x1_1_0
      have hcanon6 := canonSlot1 1 t.val (hs _ _ (by omega)) inb_S3x1024x2048_S1x1024x2048_1_0_0
      have hcanon7 := canonCell1 1 t.val (hs _ _ (by omega)) inb_S2x3_S1x1_1_1
      have hslot0 := slotSub0 1 t.val (hs _ _ (by omega)) inb_S3x2048x1024_S1x2048x1024_1_0_0
      have hslot1 := slotSub1 1 t.val (hs _ _ (by omega)) inb_S3x1024x2048_S1x1024x2048_1_0_0
      have hl0 := load0 c fh0 1 t.val (hs _ _ (by omega)) inb_S3x2048x1024_S1x2048x1024_1_0_0 (Ring.bk 136 t.val)
      have hl1 := load1 c fh1 1 t.val (hs _ _ (by omega)) inb_S3x1024x2048_S1x1024x2048_1_0_0 (Ring.bk 136 t.val)
    on_goal 3 =>
      have hc0 : ¬ cond0_0 (grid0.coords t) := fun h => by have := (hcond0_0 t).mp h; omega
      have hc2 : ¬ cond0_2 (grid0.coords t) := fun h => by have := (hcond0_2 t).mp h; omega
      have hc3 : ¬ cond0_4 (grid0.coords t) := fun h => by have := (hcond0_4 t).mp h; omega
      have hc4 : cond0_5 (grid0.coords t) := (hcond0_5 t).mpr (by omega)
      have hc5 : cond0_8 (grid0.coords t) := (hcond0_8 t).mpr (by omega)
      have hcanon0 := canonSlot0 1 (t.val + 2) (hs _ _ (by omega)) inb_S3x2048x1024_S1x2048x1024_1_0_0
      have hcanon1 := canonCell0 1 (t.val + 2) (hs _ _ (by omega)) inb_S2x3_S1x1_0_1
      have hcanon2 := canonSlot0 2 t.val (hs _ _ (by omega)) inb_S3x2048x1024_S1x2048x1024_2_0_0
      have hcanon3 := canonCell0 2 t.val (hs _ _ (by omega)) inb_S2x3_S1x1_0_2
      have hcanon4 := canonSlot1 1 (t.val + 2) (hs _ _ (by omega)) inb_S3x1024x2048_S1x1024x2048_1_0_0
      have hcanon5 := canonCell1 1 (t.val + 2) (hs _ _ (by omega)) inb_S2x3_S1x1_1_1
      have hcanon6 := canonSlot1 2 t.val (hs _ _ (by omega)) inb_S3x1024x2048_S1x1024x2048_2_0_0
      have hcanon7 := canonCell1 2 t.val (hs _ _ (by omega)) inb_S2x3_S1x1_1_2
      have hslot0 := slotSub0 2 t.val (hs _ _ (by omega)) inb_S3x2048x1024_S1x2048x1024_2_0_0
      have hslot1 := slotSub1 2 t.val (hs _ _ (by omega)) inb_S3x1024x2048_S1x1024x2048_2_0_0
      have hl0 := load0 c fh0 2 t.val (hs _ _ (by omega)) inb_S3x2048x1024_S1x2048x1024_2_0_0 (Ring.bk 136 t.val)
      have hl1 := load1 c fh1 2 t.val (hs _ _ (by omega)) inb_S3x1024x2048_S1x1024x2048_2_0_0 (Ring.bk 136 t.val)
    all_goals rcases (by omega : t.val % 8 = 0 ∨ (t.val % 8 ≠ 0 ∧ t.val % 8 ≠ 7) ∨ t.val % 8 = 7) with h8 | h8 | h8
    case' inl.inl | inr.inl.inl | inr.inr.inl =>
      have hc1 : cond0_1 (grid0.coords t) := (hcond0_1 t).mpr (by omega)
      have hc6 : ¬ cond0_6 (grid0.coords t) := fun h => by have := (hcond0_6 t).mp h; omega
    case' inl.inr.inl | inr.inl.inr.inl | inr.inr.inr.inl =>
      have hc1 : ¬ cond0_1 (grid0.coords t) := fun h => by have := (hcond0_1 t).mp h; omega
      have hc6 : ¬ cond0_6 (grid0.coords t) := fun h => by have := (hcond0_6 t).mp h; omega
    case' inl.inr.inr | inr.inl.inr.inr | inr.inr.inr.inr =>
      have hc1 : ¬ cond0_1 (grid0.coords t) := fun h => by have := (hcond0_1 t).mp h; omega
      have hc6 : cond0_6 (grid0.coords t) := (hcond0_6 t).mpr (by omega)
    all_goals
      simp only [cc0_mlp_eq_skeleton]; unfold cc0_mlp_skel
      simp only [k0_part5_eq_skeleton, k0_part2_eq_skeleton, k0_part3_eq_skeleton, k0_part4_eq_skeleton]
      unfold owns Ring.free Ring.inflight
      iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ff0_0_0, Hf0_0_0, Hrf0_0_0⟩, ⟨%ff0_0_1, Hf0_0_1, Hrf0_0_1⟩, ⟨Hc0_0_2, ⟨%fs0_0_2, Hs0_0_2, Hw0_0_2⟩⟩, ⟨%ff0_1_0, Hf0_1_0, Hrf0_1_0⟩, ⟨%ff0_1_1, Hf0_1_1, Hrf0_1_1⟩, ⟨Hc0_1_2, ⟨%fs0_1_2, Hs0_1_2, Hw0_1_2⟩⟩, HW, Hk⟩
      ihave Hsp0_0_2 := (src0_0_split c fh0 (Ring.sl 3 (t.val + 2)) (Ring.bk 136 (t.val + 2))).1 $$ Hw0_0_2
      icases Hsp0_0_2 with ⟨Hh0_0_2, Hr0_0_2⟩
      ihave Hsp0_1_2 := (src0_1_split c fh1 (Ring.sl 3 (t.val + 2)) (Ring.bk 136 (t.val + 2))).1 $$ Hw0_1_2
      icases Hsp0_1_2 with ⟨Hh0_1_2, Hr0_1_2⟩
      obtain rfl := harg2.eq_unread hf0; obtain rfl := harg5.eq_unread hf1; obtain rfl := harg6.eq_unread hf2
      obtain rfl := harg7.eq_unread hf3; obtain rfl := harg8.eq_unread hf4; obtain rfl := harg9.eq_unread hfs0
      sl_exec (disch := first | sl_exact hc0 | sl_exact hc1 | sl_exact hc2 | sl_exact hc3 | sl_exact hc4 | sl_exact hc5 | sl_exact hc6)
      sl_step
      iapply Hk
      isplitl [H0]
      · iexists _; isplitr; · ipureintro; exact harg2.read_unread _
        iexact H0
      isplitl [H1]
      · iexists _; isplitr; · ipureintro; exact harg5.read_unread _
        iexact H1
      isplitl [H2]
      · iexists _; isplitr; · ipureintro; exact harg6.read_unread _
        iexact H2
      have hx := load_whole arg2 harg2 x0
      have hr := load_whole arg5 harg5 x1
      have hg := load_gain arg6 harg6 x2
      have ha := load_whole arg9 harg9 a
      have hz := fun L => load_set arg5 harg5 arg9 x1 L
      unfold nxt
      first
      | isplitl [H3]
        · iexists _; isplitr; swap; · iexact H3
          ipureintro; rw [if_neg (by omega)]; exact harg7.read_unread _
        isplitl [H4]
        · iexists _; isplitr; swap; · iexact H4
          ipureintro; rw [if_neg (by omega)]; exact harg8.read_unread _
        isplitl [HS0]
        · iexists _; isplitr; swap; · iexact HS0
          ipureintro; rw [if_pos (by omega : t.val % 8 = 0)]; exact (View.read_writes_full _ _ _ _ _).trans (step_of (hz _) hx rfl rfl)
      | isplitl [H3]
        · iexists _; isplitr; swap; · iexact H3
          ipureintro; rw [if_neg (by omega)]; exact harg7.read_unread _
        isplitl [H4]
        · iexists _; isplitr; swap; · iexact H4
          ipureintro; rw [if_neg (by omega)]; exact harg8.read_unread _
        isplitl [HS0]
        · iexists _; isplitr; swap; · iexact HS0
          ipureintro; rw [if_neg (by omega : ¬ t.val % 8 = 0)]; exact (View.read_writes_full _ _ _ _ _).trans (step_of ha hx rfl rfl)
      | isplitl [H3]
        · iexists _; isplitr; swap; · iexact H3
          ipureintro; rw [if_pos h8]; rw [if_neg (by omega : ¬ t.val % 8 = 0)]; exact (View.read_writes_full _ _ _ _ _).trans ((View.readCov_full _ _ _ _ _).trans (step_of ha hx rfl rfl))
        isplitl [H4]
        · iexists _; isplitr; swap; · iexact H4
          ipureintro; rw [if_pos h8]; rw [if_neg (by omega : ¬ t.val % 8 = 0)]; exact (View.read_writes_full _ _ _ _ _).trans (congr (congrArg k0_pay3 ((View.readCov_full _ _ _ _ _).trans (step_of ha hx rfl rfl))) hg)
        isplitl [HS0]
        · iexists _; isplitr; swap; · iexact HS0
          ipureintro; rw [if_neg (by omega : ¬ t.val % 8 = 0)]; exact (View.read_writes_full _ _ _ _ _).trans (step_of ha hx rfl rfl)
      isplitl [Hf0_0_1 Hrf0_0_1]
      · iexists ff0_0_1; isplitl [Hf0_0_1]; · iexact Hf0_0_1
        iexact Hrf0_0_1
      isplitl [Hc0_0_2 Hr0_0_2]
      · iexists _; isplitl [Hc0_0_2]; · iexact Hc0_0_2
        iexact Hr0_0_2
      isplitl [Hf0_0_0 Hf0_0_0_dst Hf0_0_0_src Hrf0_0_0]
      · isplitl [Hf0_0_0]; · iexact Hf0_0_0
        iexists _; isplitl [Hf0_0_0_dst]; · iexact Hf0_0_0_dst
        iapply (src0_0_split c fh0 (Ring.sl 3 t.val) (Ring.bk 136 t.val)).2; isplitl [Hf0_0_0_src]; · iexact Hf0_0_0_src
        iexact Hrf0_0_0
      isplitl [Hf0_1_1 Hrf0_1_1]
      · iexists ff0_1_1; isplitl [Hf0_1_1]; · iexact Hf0_1_1
        iexact Hrf0_1_1
      isplitl [Hc0_1_2 Hr0_1_2]
      · iexists _; isplitl [Hc0_1_2]; · iexact Hc0_1_2
        iexact Hr0_1_2
      isplitl [Hf0_1_0 Hf0_1_0_dst Hf0_1_0_src Hrf0_1_0]
      · isplitl [Hf0_1_0]; · iexact Hf0_1_0
        iexists _; isplitl [Hf0_1_0_dst]; · iexact Hf0_1_0_dst
        iapply (src0_1_split c fh1 (Ring.sl 3 t.val) (Ring.bk 136 t.val)).2; isplitl [Hf0_1_0_src]; · iexact Hf0_1_0_src
        iexact Hrf0_1_0
      iexists _; iexact HW

end Cert.Kernel10Ideal.Tied

end
-- ==== Proof.First.lean ====
/-
  The first grid point of the feed-forward part.
-/
module

public import proofs.«01_k».proof.Proof.Point

@[expose] public section

set_option maxRecDepth 16384

noncomputable section

namespace Cert.Kernel10Ideal.Tied

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The first point: the first three chunks are sent for, the first of them waited for and added. -/
theorem first (c : Dev nD) (t : Fin cfg0.N) (h0 : t.val = 0) (arg2 : Memref sig .tc .vmem S512x2048 .bf16) (harg2 : arg2.IsWhole) (arg5 : Memref sig .tc .vmem S512x2048 .f32) (harg5 : arg5.IsWhole) (arg6 : Memref sig .tc .vmem S1x1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole)
    (x0 : Vec F S512x2048 .bf16) (x1 : Vec F S512x2048 .f32) (x2 : Vec F S1x1x2048 .f32) (d3 : Vec F S512x2048 .f32) (d4 : Vec F S512x2048 .bf16) (a : Vec F S512x2048 .f32) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg5 fullShare x1 ∗ owns (c : Thread nD τ) arg6 fullShare x2 ∗ owns (c : Thread nD τ) arg7 fullShare d3 ∗ owns (c : Thread nD τ) arg8 fullShare d4 ∗ owns (c : Thread nD τ) arg9 fullShare a ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ Ring.free (cellP0_1 c) (slotW0_1 c fh1) (Ring.sl 3 t.val) ∗ Ring.free (cellP0_1 c) (slotW0_1 c fh1) (Ring.sl 3 (t.val + 1)) ∗ Ring.free (cellP0_1 c) (slotW0_1 c fh1) (Ring.sl 3 (t.val + 2)) ∗ owes (c : Thread nD τ) 0 W
            ∗ (iprop(owns (c : Thread nD τ) arg2 fullShare x0 ∗ owns (c : Thread nD τ) arg5 fullShare x1 ∗ owns (c : Thread nD τ) arg6 fullShare x2 ∗ owns (c : Thread nD τ) arg7 fullShare (if t.val % 8 = 7 then nxt c t.val x0 x1 a fh0 fh1 else d3) ∗ owns (c : Thread nD τ) arg8 fullShare (if t.val % 8 = 7 then k0_pay3 (nxt c t.val x0 x1 a fh0 fh1) x2 else d4) ∗ owns (c : Thread nD τ) arg9 fullShare (nxt c t.val x0 x1 a fh0 fh1) ∗ Ring.inflight (flightW0_0 c fh0) (Ring.sl 3 (t.val + 1)) (Ring.bk 136 (t.val + 1)) ∗ Ring.inflight (flightW0_0 c fh0) (Ring.sl 3 (t.val + 2)) (Ring.bk 136 (t.val + 2)) ∗ Ring.free (cellP0_0 c) (slotW0_0 c fh0) (Ring.sl 3 t.val) ∗ Ring.inflight (flightW0_1 c fh1) (Ring.sl 3 (t.val + 1)) (Ring.bk 136 (t.val + 1)) ∗ Ring.inflight (flightW0_1 c fh1) (Ring.sl 3 (t.val + 2)) (Ring.bk 136 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_mlp (grid0.coords t) arg2 harg2 (Memref.whole main_v0) (Memref.isWhole_whole _) (Memref.whole main_v1) (Memref.isWhole_whole _) arg5 harg5 arg6 harg6 arg7 harg7 arg8 harg8 arg9 harg9 scM0_1 (Memref.isWhole_whole _) scM0_2 (Memref.isWhole_whole _) cc0_scratch3) K := by
    intro W K
    have hs : ∀ n k : ℕ, n = k % 3 → n = (Ring.sl 3 k).val := fun n k h => h
    have hc0 : cond0_0 (grid0.coords t) := (hcond0_0 t).mpr (by omega)
    have hc1 : cond0_1 (grid0.coords t) := (hcond0_1 t).mpr (by omega)
    have hc2 : cond0_2 (grid0.coords t) := (hcond0_2 t).mpr (by omega)
    have hc3 : cond0_3 (grid0.coords t) := (hcond0_3 t).mpr (by omega)
    have hc4 : ¬ cond0_4 (grid0.coords t) := fun h => by have := (hcond0_4 t).mp h; omega
    have hc5 : ¬ cond0_5 (grid0.coords t) := fun h => by have := (hcond0_5 t).mp h; omega
    have hc6 : ¬ cond0_6 (grid0.coords t) := fun h => by have := (hcond0_6 t).mp h; omega
    have hcanon0 := canonSlot0 0 t.val (hs _ _ (by omega)) inb_S3x2048x1024_S1x2048x1024_0_0_0
    have hcanon1 := canonCell0 0 t.val (hs _ _ (by omega)) inb_S2x3_S1x1_0_0
    have hcanon2 := canonSrc0 ![0, 0, 0] t.val (by rw [h0]; rfl) inb_S2x2048x8192_S1x2048x1024_0_0_0
    have hcanon3 := canonSlot0 1 (t.val + 1) (hs _ _ (by omega)) inb_S3x2048x1024_S1x2048x1024_1_0_0
    have hcanon4 := canonCell0 1 (t.val + 1) (hs _ _ (by omega)) inb_S2x3_S1x1_0_1
    have hcanon5 := canonSrc0 ![0, 0, 1024] (t.val + 1) (by rw [h0]; rfl) inb_S2x2048x8192_S1x2048x1024_0_0_1024
    have hcanon6 := canonSlot0 2 (t.val + 2) (hs _ _ (by omega)) inb_S3x2048x1024_S1x2048x1024_2_0_0
    have hcanon7 := canonCell0 2 (t.val + 2) (hs _ _ (by omega)) inb_S2x3_S1x1_0_2
    have hcanon8 := canonSlot1 0 t.val (hs _ _ (by omega)) inb_S3x1024x2048_S1x1024x2048_0_0_0
    have hcanon9 := canonCell1 0 t.val (hs _ _ (by omega)) inb_S2x3_S1x1_1_0
    have hcanon10 := canonSrc1 ![0, 0, 0] t.val (by rw [h0]; rfl) inb_S2x8192x2048_S1x1024x2048_0_0_0
    have hcanon11 := canonSlot1 1 (t.val + 1) (hs _ _ (by omega)) inb_S3x1024x2048_S1x1024x2048_1_0_0
    have hcanon12 := canonCell1 1 (t.val + 1) (hs _ _ (by omega)) inb_S2x3_S1x1_1_1
    have hcanon13 := canonSrc1 ![0, 1024, 0] (t.val + 1) (by rw [h0]; rfl) inb_S2x8192x2048_S1x1024x2048_0_1024_0
    have hcanon14 := canonSlot1 2 (t.val + 2) (hs _ _ (by omega)) inb_S3x1024x2048_S1x1024x2048_2_0_0
    have hcanon15 := canonCell1 2 (t.val + 2) (hs _ _ (by omega)) inb_S2x3_S1x1_1_2
    have hslot0 := slotSub0 0 t.val (hs _ _ (by omega)) inb_S3x2048x1024_S1x2048x1024_0_0_0
    have hslot1 := slotSub1 0 t.val (hs _ _ (by omega)) inb_S3x1024x2048_S1x1024x2048_0_0_0
    have hl0 := load0 c fh0 0 t.val (hs _ _ (by omega)) inb_S3x2048x1024_S1x2048x1024_0_0_0 (Ring.bk 136 t.val)
    have hl1 := load1 c fh1 0 t.val (hs _ _ (by omega)) inb_S3x1024x2048_S1x1024x2048_0_0_0 (Ring.bk 136 t.val)
    simp only [cc0_mlp_eq_skeleton]; unfold cc0_mlp_skel
    simp only [k0_part5_eq_skeleton, k0_part1_eq_skeleton, k0_part2_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, ⟨Hc0_1_0, ⟨%fs0_1_0, Hs0_1_0, Hw0_1_0⟩⟩, ⟨Hc0_1_1, ⟨%fs0_1_1, Hs0_1_1, Hw0_1_1⟩⟩, ⟨Hc0_1_2, ⟨%fs0_1_2, Hs0_1_2, Hw0_1_2⟩⟩, HW, Hk⟩
    ihave Hsp0_0_0 := (src0_0_split c fh0 (Ring.sl 3 t.val) (Ring.bk 136 t.val)).1 $$ Hw0_0_0
    icases Hsp0_0_0 with ⟨Hh0_0_0, Hr0_0_0⟩
    ihave Hsp0_0_1 := (src0_0_split c fh0 (Ring.sl 3 (t.val + 1)) (Ring.bk 136 (t.val + 1))).1 $$ Hw0_0_1
    icases Hsp0_0_1 with ⟨Hh0_0_1, Hr0_0_1⟩
    ihave Hsp0_0_2 := (src0_0_split c fh0 (Ring.sl 3 (t.val + 2)) (Ring.bk 136 (t.val + 2))).1 $$ Hw0_0_2
    icases Hsp0_0_2 with ⟨Hh0_0_2, Hr0_0_2⟩
    ihave Hsp0_1_0 := (src0_1_split c fh1 (Ring.sl 3 t.val) (Ring.bk 136 t.val)).1 $$ Hw0_1_0
    icases Hsp0_1_0 with ⟨Hh0_1_0, Hr0_1_0⟩
    ihave Hsp0_1_1 := (src0_1_split c fh1 (Ring.sl 3 (t.val + 1)) (Ring.bk 136 (t.val + 1))).1 $$ Hw0_1_1
    icases Hsp0_1_1 with ⟨Hh0_1_1, Hr0_1_1⟩
    ihave Hsp0_1_2 := (src0_1_split c fh1 (Ring.sl 3 (t.val + 2)) (Ring.bk 136 (t.val + 2))).1 $$ Hw0_1_2
    icases Hsp0_1_2 with ⟨Hh0_1_2, Hr0_1_2⟩
    obtain rfl := harg2.eq_unread hf0; obtain rfl := harg5.eq_unread hf1; obtain rfl := harg6.eq_unread hf2
    obtain rfl := harg7.eq_unread hf3; obtain rfl := harg8.eq_unread hf4; obtain rfl := harg9.eq_unread hfs0
    sl_exec (disch := first | sl_exact hc0 | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg5.read_unread _
      iexact H1
    isplitl [H2]
    · iexists _; isplitr; · ipureintro; exact harg6.read_unread _
      iexact H2
    have hx := load_whole arg2 harg2 x0
    have hr := load_whole arg5 harg5 x1
    have hg := load_gain arg6 harg6 x2
    have ha := load_whole arg9 harg9 a
    have hz := fun L => load_set arg5 harg5 arg9 x1 L
    unfold nxt
    isplitl [H3]
    · iexists _; isplitr; swap; · iexact H3
      ipureintro; rw [if_neg (by omega)]; exact harg7.read_unread _
    isplitl [H4]
    · iexists _; isplitr; swap; · iexact H4
      ipureintro; rw [if_neg (by omega)]; exact harg8.read_unread _
    isplitl [HS0]
    · iexists _; isplitr; swap; · iexact HS0
      ipureintro; rw [if_pos (by omega : t.val % 8 = 0)]; exact (View.read_writes_full _ _ _ _ _).trans (step_of (hz _) hx rfl rfl)
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 136 t.val)).2; isplitl [Hh0_0_0]; · iexact Hh0_0_0
      iexact Hr0_0_0
    isplitl [Hc0_1_1 Hr0_1_1]
    · iexists _; isplitl [Hc0_1_1]; · iexact Hc0_1_1
      iexact Hr0_1_1
    isplitl [Hc0_1_2 Hr0_1_2]
    · iexists _; isplitl [Hc0_1_2]; · iexact Hc0_1_2
      iexact Hr0_1_2
    isplitl [Hc0_1_0 Hs0_1_0 Hh0_1_0 Hr0_1_0]
    · isplitl [Hc0_1_0]; · iexact Hc0_1_0
      iexists _; isplitl [Hs0_1_0]; · iexact Hs0_1_0
      iapply (src0_1_split c fh1 (Ring.sl 3 t.val) (Ring.bk 136 t.val)).2; isplitl [Hh0_1_0]; · iexact Hh0_1_0
      iexact Hr0_1_0
    iexists _; iexact HW

end Cert.Kernel10Ideal.Tied

end
-- ==== Proof.Tail.lean ====
/-
  The last two grid points of the feed-forward part.
-/
module

public import proofs.«01_k».proof.Proof.First

@[expose] public section

set_option maxRecDepth 16384

noncomputable section

namespace Cert.Kernel10Ideal.Tied

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 8000000 in
/-- The last two points: the chunk is waited for and added, and nothing more is sent for. -/
theorem tail (c : Dev nD) (t : Fin cfg0.N) (hT : 136 ≤ t.val + 2) (arg2 : Memref sig .tc .vmem S512x2048 .bf16) (harg2 : arg2.IsWhole) (arg5 : Memref sig .tc .vmem S512x2048 .f32) (harg5 : arg5.IsWhole) (arg6 : Memref sig .tc .vmem S1x1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x2048 .f32) (harg9 : arg9.IsWhole)
    (x0 : Vec F S512x2048 .bf16) (x1 : Vec F S512x2048 .f32) (x2 : Vec F S1x1x2048 .f32) (d3 : Vec F S512x2048 .f32) (d4 : Vec F S512x2048 .bf16) (a : Vec F S512x2048 .f32) (fh0 : HbBuf0 (F := F) c hbM0_0) (fh1 : HbBuf0 (F := F) c hbM0_1) :
      ∀ (W : Waits sig Unit) (K : PUnit → sProp 𝕄),
        iprop(owns (c : Thread nD τ) arg2 fullShare x0 ∗ owns (c : Thread nD τ) arg5 fullShare x1 ∗ owns (c : Thread nD τ) arg6 fullShare x2 ∗ owns (c : Thread nD τ) arg7 fullShare d3 ∗ owns (c : Thread nD τ) arg8 fullShare d4 ∗ owns (c : Thread nD τ) arg9 fullShare a ∗ Ring.inflight (flightW0_0 c fh0) (Ring.sl 3 t.val) (Ring.bk 136 t.val) ∗ Ring.slotAt 2 (cellP0_0 c) (slotW0_0 c fh0) (flightW0_0 c fh0) t.val 1 ∗ Ring.free (cellP0_0 c) (slotW0_0 c fh0) (Ring.sl 3 (t.val + 2)) ∗ Ring.inflight (flightW0_1 c fh1) (Ring.sl 3 t.val) (Ring.bk 136 t.val) ∗ Ring.slotAt 2 (cellP0_1 c) (slotW0_1 c fh1) (flightW0_1 c fh1) t.val 1 ∗ Ring.free (cellP0_1 c) (slotW0_1 c fh1) (Ring.sl 3 (t.val + 2)) ∗ owes (c : Thread nD τ) 0 W
            ∗ (iprop(owns (c : Thread nD τ) arg2 fullShare x0 ∗ owns (c : Thread nD τ) arg5 fullShare x1 ∗ owns (c : Thread nD τ) arg6 fullShare x2 ∗ owns (c : Thread nD τ) arg7 fullShare (if t.val % 8 = 7 then nxt c t.val x0 x1 a fh0 fh1 else d3) ∗ owns (c : Thread nD τ) arg8 fullShare (if t.val % 8 = 7 then k0_pay3 (nxt c t.val x0 x1 a fh0 fh1) x2 else d4) ∗ owns (c : Thread nD τ) arg9 fullShare (nxt c t.val x0 x1 a fh0 fh1) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ Ring.slotAt 2 (cellP0_1 c) (slotW0_1 c fh1) (flightW0_1 c fh1) t.val 1 ∗ Ring.free (cellP0_1 c) (slotW0_1 c fh1) (Ring.sl 3 (t.val + 2)) ∗ Ring.free (cellP0_1 c) (slotW0_1 c fh1) (Ring.sl 3 t.val) ∗ (∃ W', owes (c : Thread nD τ) 0 W')) -∗ K ⟨⟩))
          ⊢ wp frame (wpE (defs₀ (F := F)) Variants.none c none) Set.univ (cc0_mlp (grid0.coords t) arg2 harg2 (Memref.whole main_v0) (Memref.isWhole_whole _) (Memref.whole main_v1) (Memref.isWhole_whole _) arg5 harg5 arg6 harg6 arg7 harg7 arg8 harg8 arg9 harg9 scM0_1 (Memref.isWhole_whole _) scM0_2 (Memref.isWhole_whole _) cc0_scratch3) K := by
    intro W K
    have hs : ∀ n k : ℕ, n = k % 3 → n = (Ring.sl 3 k).val := fun n k h => h
    have hlt : t.val < 136 := t.isLt
    rcases (by omega : t.val = 134 ∨ t.val = 135) with h3 | h3
    on_goal 1 =>
      have h8 : t.val % 8 ≠ 0 ∧ t.val % 8 ≠ 7 := by omega
      have hc0 : ¬ cond0_0 (grid0.coords t) := fun h => by have := (hcond0_0 t).mp h; omega
      have hc2 : ¬ cond0_2 (grid0.coords t) := fun h => by have := (hcond0_2 t).mp h; omega
      have hc3 : ¬ cond0_4 (grid0.coords t) := fun h => by have := (hcond0_4 t).mp h; omega
      have hc4 : cond0_5 (grid0.coords t) := (hcond0_5 t).mpr (by omega)
      have hc5 : ¬ cond0_8 (grid0.coords t) := fun h => by have := (hcond0_8 t).mp h; omega
      have hc1 : ¬ cond0_1 (grid0.coords t) := fun h => by have := (hcond0_1 t).mp h; omega
      have hc6 : ¬ cond0_6 (grid0.coords t) := fun h => by have := (hcond0_6 t).mp h; omega
      have hcanon0 := canonSlot0 2 t.val (hs _ _ (by omega)) inb_S3x2048x1024_S1x2048x1024_2_0_0
      have hcanon1 := canonCell0 2 t.val (hs _ _ (by omega)) inb_S2x3_S1x1_0_2
      have hcanon2 := canonSlot1 2 t.val (hs _ _ (by omega)) inb_S3x1024x2048_S1x1024x2048_2_0_0
      have hcanon3 := canonCell1 2 t.val (hs _ _ (by omega)) inb_S2x3_S1x1_1_2
      have hslot0 := slotSub0 2 t.val (hs _ _ (by omega)) inb_S3x2048x1024_S1x2048x1024_2_0_0
      have hslot1 := slotSub1 2 t.val (hs _ _ (by omega)) inb_S3x1024x2048_S1x1024x2048_2_0_0
      have hl0 := load0 c fh0 2 t.val (hs _ _ (by omega)) inb_S3x2048x1024_S1x2048x1024_2_0_0 (Ring.bk 136 t.val)
      have hl1 := load1 c fh1 2 t.val (hs _ _ (by omega)) inb_S3x1024x2048_S1x1024x2048_2_0_0 (Ring.bk 136 t.val)
    on_goal 2 =>
      have h8 : t.val % 8 = 7 := by omega
      have hc0 : ¬ cond0_0 (grid0.coords t) := fun h => by have := (hcond0_0 t).mp h; omega
      have hc2 : cond0_2 (grid0.coords t) := (hcond0_2 t).mpr (by omega)
      have hc3 : ¬ cond0_4 (grid0.coords t) := fun h => by have := (hcond0_4 t).mp h; omega
      have hc4 : ¬ cond0_5 (grid0.coords t) := fun h => by have := (hcond0_5 t).mp h; omega
      have hc5 : ¬ cond0_3 (grid0.coords t) := fun h => by have := (hcond0_3 t).mp h; omega
      have hc1 : ¬ cond0_1 (grid0.coords t) := fun h => by have := (hcond0_1 t).mp h; omega
      have hc6 : cond0_6 (grid0.coords t) := (hcond0_6 t).mpr (by omega)
      have hcanon0 := canonSlot0 0 t.val (hs _ _ (by omega)) inb_S3x2048x1024_S1x2048x1024_0_0_0
      have hcanon1 := canonCell0 0 t.val (hs _ _ (by omega)) inb_S2x3_S1x1_0_0
      have hcanon2 := canonSlot1 0 t.val (hs _ _ (by omega)) inb_S3x1024x2048_S1x1024x2048_0_0_0
      have hcanon3 := canonCell1 0 t.val (hs _ _ (by omega)) inb_S2x3_S1x1_1_0
      have hslot0 := slotSub0 0 t.val (hs _ _ (by omega)) inb_S3x2048x1024_S1x2048x1024_0_0_0
      have hslot1 := slotSub1 0 t.val (hs _ _ (by omega)) inb_S3x1024x2048_S1x1024x2048_0_0_0
      have hl0 := load0 c fh0 0 t.val (hs _ _ (by omega)) inb_S3x2048x1024_S1x2048x1024_0_0_0 (Ring.bk 136 t.val)
      have hl1 := load1 c fh1 0 t.val (hs _ _ (by omega)) inb_S3x1024x2048_S1x1024x2048_0_0_0 (Ring.bk 136 t.val)
    all_goals
      simp only [cc0_mlp_eq_skeleton]; unfold cc0_mlp_skel
      simp only [k0_part5_eq_skeleton, k0_part2_eq_skeleton, k0_part4_eq_skeleton]
      unfold owns Ring.free Ring.inflight
      iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%ff0_0_0, Hf0_0_0, Hrf0_0_0⟩, Hro0_0_1, ⟨Hc0_0_2, ⟨%fs0_0_2, Hs0_0_2, Hw0_0_2⟩⟩, ⟨%ff0_1_0, Hf0_1_0, Hrf0_1_0⟩, Hro0_1_1, ⟨Hc0_1_2, ⟨%fs0_1_2, Hs0_1_2, Hw0_1_2⟩⟩, HW, Hk⟩
      obtain rfl := harg2.eq_unread hf0; obtain rfl := harg5.eq_unread hf1; obtain rfl := harg6.eq_unread hf2
      obtain rfl := harg7.eq_unread hf3; obtain rfl := harg8.eq_unread hf4; obtain rfl := harg9.eq_unread hfs0
      sl_exec (disch := first | sl_exact hc0 | sl_exact hc1 | sl_exact hc2 | sl_exact hc3 | sl_exact hc4 | sl_exact hc5 | sl_exact hc6)
      sl_step
      iapply Hk
      isplitl [H0]
      · iexists _; isplitr; · ipureintro; exact harg2.read_unread _
        iexact H0
      isplitl [H1]
      · iexists _; isplitr; · ipureintro; exact harg5.read_unread _
        iexact H1
      isplitl [H2]
      · iexists _; isplitr; · ipureintro; exact harg6.read_unread _
        iexact H2
      have hx := load_whole arg2 harg2 x0
      have hr := load_whole arg5 harg5 x1
      have hg := load_gain arg6 harg6 x2
      have ha := load_whole arg9 harg9 a
      have hz := fun L => load_set arg5 harg5 arg9 x1 L
      unfold nxt
      first
      | isplitl [H3]
        · iexists _; isplitr; swap; · iexact H3
          ipureintro; rw [if_neg (by omega)]; exact harg7.read_unread _
        isplitl [H4]
        · iexists _; isplitr; swap; · iexact H4
          ipureintro; rw [if_neg (by omega)]; exact harg8.read_unread _
        isplitl [HS0]
        · iexists _; isplitr; swap; · iexact HS0
          ipureintro; rw [if_neg (by omega : ¬ t.val % 8 = 0)]; exact (View.read_writes_full _ _ _ _ _).trans (step_of ha hx rfl rfl)
      | isplitl [H3]
        · iexists _; isplitr; swap; · iexact H3
          ipureintro; rw [if_pos h8]; rw [if_neg (by omega : ¬ t.val % 8 = 0)]; exact (View.read_writes_full _ _ _ _ _).trans ((View.readCov_full _ _ _ _ _).trans (step_of ha hx rfl rfl))
        isplitl [H4]
        · iexists _; isplitr; swap; · iexact H4
          ipureintro; rw [if_pos h8]; rw [if_neg (by omega : ¬ t.val % 8 = 0)]; exact (View.read_writes_full _ _ _ _ _).trans (congr (congrArg k0_pay3 ((View.readCov_full _ _ _ _ _).trans (step_of ha hx rfl rfl))) hg)
        isplitl [HS0]
        · iexists _; isplitr; swap; · iexact HS0
          ipureintro; rw [if_neg (by omega : ¬ t.val % 8 = 0)]; exact (View.read_writes_full _ _ _ _ _).trans (step_of ha hx rfl rfl)
      isplitl [Hro0_0_1]; · iexact Hro0_0_1
      isplitl [Hc0_0_2 Hs0_0_2 Hw0_0_2]
      · isplitl [Hc0_0_2]; · iexact Hc0_0_2
        iexists _; isplitl [Hs0_0_2]; · iexact Hs0_0_2
        iexact Hw0_0_2
      isplitl [Hf0_0_0 Hf0_0_0_dst Hf0_0_0_src Hrf0_0_0]
      · isplitl [Hf0_0_0]; · iexact Hf0_0_0
        iexists _; isplitl [Hf0_0_0_dst]; · iexact Hf0_0_0_dst
        iapply (src0_0_split c fh0 (Ring.sl 3 t.val) (Ring.bk 136 t.val)).2; isplitl [Hf0_0_0_src]; · iexact Hf0_0_0_src
        iexact Hrf0_0_0
      isplitl [Hro0_1_1]; · iexact Hro0_1_1
      isplitl [Hc0_1_2 Hs0_1_2 Hw0_1_2]
      · isplitl [Hc0_1_2]; · iexact Hc0_1_2
        iexists _; isplitl [Hs0_1_2]; · iexact Hs0_1_2
        iexact Hw0_1_2
      isplitl [Hf0_1_0 Hf0_1_0_dst Hf0_1_0_src Hrf0_1_0]
      · isplitl [Hf0_1_0]; · iexact Hf0_1_0
        iexists _; isplitl [Hf0_1_0_dst]; · iexact Hf0_1_0_dst
        iapply (src0_1_split c fh1 (Ring.sl 3 t.val) (Ring.bk 136 t.val)).2; isplitl [Hf0_1_0_src]; · iexact Hf0_1_0_src
        iexact Hrf0_1_0
      iexists _; iexact HW

end Cert.Kernel10Ideal.Tied

end
-- ==== Proof.Held.lean ====
/-
  What the accumulator and the outputs of the feed-forward part hold, point by point, and the whole run.
-/
module

public import proofs.«01_k».proof.Proof.Tail

@[expose] public section

set_option maxRecDepth 16384

noncomputable section

namespace Cert.Kernel10Ideal.Tied

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The grid point numbered `k`. -/
def pt (k : ℕ) : Fin cfg0.N := ⟨k % 136, by show _ < grid0.N; rw [N_0]; exact Nat.mod_lt _ (by decide)⟩

theorem pt_val (t : Fin cfg0.N) : pt t.val = t :=
  Fin.ext (Nat.mod_eq_of_lt (lt_of_lt_of_eq t.isLt (show cfg0.N = 136 from N_0)))

/-- What the accumulator holds after point `k`. -/
def acc (c : Dev nD) : ℕ → Vec F S512x2048 .f32
  | 0 => nxt c 0 (iblk m c 0 (pt 0)) (iblk m c 1 (pt 0)) (iblk m c 1 (pt 0)) (V m c main_v0) (V m c main_v1)
  | k + 1 => nxt c (k + 1) (iblk m c 0 (pt (k + 1))) (iblk m c 1 (pt (k + 1))) (acc c k) (V m c main_v0) (V m c main_v1)

/-- A point takes the accumulator from what the point before left to what it holds after. -/
theorem nxt_acc (c : Dev nD) (t : Fin cfg0.N) (a : Vec F S512x2048 .f32) (h : 0 < t.val → a = acc m c (t.val - 1)) :
    nxt c t.val (iblk m c 0 t) (iblk m c 1 t) a (V m c main_v0) (V m c main_v1) = acc m c t.val := by
  rcases Nat.eq_zero_or_pos t.val with h0 | h0
  · have hp := pt_val t
    rw [h0] at hp ⊢
    unfold acc nxt
    rw [hp, if_pos (by decide), if_pos (by decide)]
  · obtain ⟨k, hk⟩ : ∃ k, t.val = k + 1 := ⟨t.val - 1, by omega⟩
    have hp := pt_val t
    rw [hk] at hp
    rw [h h0, hk, Nat.add_sub_cancel]
    conv_rhs => unfold acc
    rw [hp]

/-- Before point `k`: the accumulator at what the point before left, the generator's register at some state, the two rings. -/
def PhiR (c : Dev nD) (k : ℕ) : sProp 𝕄 := iprop((∃ a, ⌜0 < k → a = acc m c (k - 1)⌝ ∗ owns (c : Thread nD τ) scM0_0 fullShare a) ∗ (∃ r, prngReg c r) ∗ ringAt0_0 c (V m c main_v0) k ∗ ringAt0_1 c (V m c main_v1) k)

/-- What each block holds after each point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => acc m c t.val
    | ⟨4, _⟩ => k0_pay3 (acc m c t.val) (iblk m c 2 t)
  Φ t := PhiR m c t.val
  q _ := fullShare
  owed _ := 0

theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = acc m c t.val := by dsimp only [dats]
theorem after0_4 (c : Dev nD) (t : Fin cfg0.N) : (dats m 0 c).after 4 t = k0_pay3 (acc m c t.val) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idle_3 : ∀ t : Fin cfg0.N, t.val % 8 ≠ 7 → cfg0.idle 3 (grid0.coords t) = true ∧ (cfg0.win 3).flush t = false :=
  (by decide +kernel : ∀ t : Fin grid0.N, t.val % 8 ≠ 7 → idle0 3 (grid0.coords t) = true ∧ (cfg0.win 3).flush t = false)
theorem idle_4 : ∀ t : Fin cfg0.N, t.val % 8 ≠ 7 → cfg0.idle 4 (grid0.coords t) = true ∧ (cfg0.win 4).flush t = false :=
  (by decide +kernel : ∀ t : Fin grid0.N, t.val % 8 ≠ 7 → idle0 4 (grid0.coords t) = true ∧ (cfg0.win 4).flush t = false)
theorem live_3 : ∀ t : Fin cfg0.N, t.val % 8 = 7 → cfg0.idle 3 (grid0.coords t) = false :=
  (by decide +kernel : ∀ t : Fin grid0.N, t.val % 8 = 7 → idle0 3 (grid0.coords t) = false)
theorem live_4 : ∀ t : Fin cfg0.N, t.val % 8 = 7 → cfg0.idle 4 (grid0.coords t) = false :=
  (by decide +kernel : ∀ t : Fin grid0.N, t.val % 8 = 7 → idle0 4 (grid0.coords t) = false)

/-- The first output's block as a point leaves it. -/
theorem leaves_3 (c : Dev nD) (t : Fin cfg0.N) (d) (a : Vec F S512x2048 .f32) (h : 0 < t.val → a = acc m c (t.val - 1)) :
    (owns (c : Thread nD τ) (ms0_3 t) fullShare (if t.val % 8 = 7 then nxt c t.val (iblk m c 0 t) (iblk m c 1 t) a (V m c main_v0) (V m c main_v1) else (dats m 0 c).before 3 t d) : sProp 𝕄) ⊢ (dats m 0 c).leavesExact 3 t := by
  by_cases h7 : t.val % 8 = 7
  · rw [if_pos h7, nxt_acc m c t a h]
    unfold Dat.leavesExact; rw [live_3 t h7, after0_3]
  · rw [if_neg h7, (dats m 0 c).leavesExact_idle 3 t (idle_3 t h7).1 (idle_3 t h7).2]
    iintro H; iexists d; iexact H

/-- The second output's block as a point leaves it. -/
theorem leaves_4 (c : Dev nD) (t : Fin cfg0.N) (d) (a : Vec F S512x2048 .f32) (h : 0 < t.val → a = acc m c (t.val - 1)) :
    (owns (c : Thread nD τ) (ms0_4 t) fullShare (if t.val % 8 = 7 then k0_pay3 (nxt c t.val (iblk m c 0 t) (iblk m c 1 t) a (V m c main_v0) (V m c main_v1)) (iblk m c 2 t) else (dats m 0 c).before 4 t d) : sProp 𝕄) ⊢ (dats m 0 c).leavesExact 4 t := by
  by_cases h7 : t.val % 8 = 7
  · rw [if_pos h7, nxt_acc m c t a h]
    unfold Dat.leavesExact; rw [live_4 t h7, after0_4]
  · rw [if_neg h7, (dats m 0 c).leavesExact_idle 4 t (idle_4 t h7).1 (idle_4 t h7).2]
    iintro H; iexists d; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 ringAt0_1
  rw [Nat.add_sub_cancel]
  have hN : t.val < 136 := lt_of_lt_of_eq t.isLt (show cfg0.N = 136 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rcases (by omega : t.val = 0 ∨ (1 ≤ t.val ∧ t.val + 2 < 136) ∨ (1 ≤ t.val ∧ 136 ≤ t.val + 2)) with h0 | ⟨h1, hB⟩ | ⟨h1, hB⟩
  on_goal 1 =>
    rw [if_pos h0, if_neg (show ¬t.val + 1 = 0 by omega)]
    rw [Ring.At₀_eq3' _ _ _ t.val h0 (by decide : 3 ≤ 136), Ring.At3_one' _ _ _ _ t.val h0 (by decide : 3 ≤ 136)]
    rw [if_pos h0, if_neg (show ¬t.val + 1 = 0 by omega)]
    rw [Ring.At₀_eq3' _ _ _ t.val h0 (by decide : 3 ≤ 136), Ring.At3_one' _ _ _ _ t.val h0 (by decide : 3 ≤ 136)]
  on_goal 2 =>
    rw [if_neg (show ¬t.val = 0 by omega), if_neg (show ¬t.val + 1 = 0 by omega)]
    rw [Ring.At3_here _ _ _ _ t.val hB, Ring.At3_next _ _ _ _ t.val hB, Ring.slotAt3_next0 _ _ _ t.val (by omega), Ring.slotAt3_next1 _ _ _ t.val hB]
    rw [if_neg (show ¬t.val = 0 by omega), if_neg (show ¬t.val + 1 = 0 by omega)]
    rw [Ring.At3_here _ _ _ _ t.val hB, Ring.At3_next _ _ _ _ t.val hB, Ring.slotAt3_next0 _ _ _ t.val (by omega), Ring.slotAt3_next1 _ _ _ t.val hB]
  on_goal 3 =>
    rw [if_neg (show ¬t.val = 0 by omega), if_neg (show ¬t.val + 1 = 0 by omega)]
    rw [Ring.At3_here_tail _ _ _ _ t.val hN, Ring.At3_next_tail _ _ _ _ t.val hB hN, Ring.slotAt3_tail_role _ _ _ t.val]
    rw [if_neg (show ¬t.val = 0 by omega), if_neg (show ¬t.val + 1 = 0 by omega)]
    rw [Ring.At3_here_tail _ _ _ _ t.val hN, Ring.At3_next_tail _ _ _ _ t.val hB hN, Ring.slotAt3_tail_role _ _ _ t.val]
  all_goals
    iintro ⟨⟨⟨%a, %ha, HS0⟩, Hg, ⟨-, Hfr0_0_0, Hfr0_0_1, Hfr0_0_2⟩, ⟨-, Hfr0_1_0, Hfr0_1_1, Hfr0_1_2⟩⟩, ⟨%W, -, HW⟩, ⟨%d0, H0⟩, ⟨%d1, H1⟩, ⟨%d2, H2⟩, ⟨%d3, H3⟩, ⟨%d4, H4⟩⟩
    first
    | iapply ((first c t h0 _ _ _ _ _ _ _ _ _ _ _ _ (iblk m c 0 t) (iblk m c 1 t) (iblk m c 2 t) ((dats m 0 c).before 3 t d3) ((dats m 0 c).before 4 t d4) a (V m c main_v0) (V m c main_v1)) W _)
    | iapply ((steady c t h1 hB _ _ _ _ _ _ _ _ _ _ _ _ (iblk m c 0 t) (iblk m c 1 t) (iblk m c 2 t) ((dats m 0 c).before 3 t d3) ((dats m 0 c).before 4 t d4) a (V m c main_v0) (V m c main_v1)) W _)
    | iapply ((tail c t hB _ _ _ _ _ _ _ _ _ _ _ _ (iblk m c 0 t) (iblk m c 1 t) (iblk m c 2 t) ((dats m 0 c).before 3 t d3) ((dats m 0 c).before 4 t d4) a (V m c main_v0) (V m c main_v1)) W _)
    isplitl [H0]; · iexact H0
    isplitl [H1]; · iexact H1
    isplitl [H2]; · iexact H2
    isplitl [H3]; · iexact H3
    isplitl [H4]; · iexact H4
    isplitl [HS0]; · iexact HS0
    isplitl [Hfr0_0_0]; · iexact Hfr0_0_0
    isplitl [Hfr0_0_1]; · iexact Hfr0_0_1
    isplitl [Hfr0_0_2]; · iexact Hfr0_0_2
    isplitl [Hfr0_1_0]; · iexact Hfr0_1_0
    isplitl [Hfr0_1_1]; · iexact Hfr0_1_1
    isplitl [Hfr0_1_2]; · iexact Hfr0_1_2
    isplitl [HW]; · iexact HW
    iintro ⟨H0, H1, H2, H3, H4, HS0, Hfa0_0', Hfb0_0', Hfc0_0', Hfa0_1', Hfb0_1', Hfc0_1', ⟨%W', HW'⟩⟩
    isplitl [HS0 Hg Hfa0_0' Hfb0_0' Hfc0_0' Hfa0_1' Hfb0_1' Hfc0_1']
    · isplitl [HS0]
      · iexists _; isplitr; swap; · iexact HS0
        ipureintro; exact fun _ => nxt_acc m c t a ha
      isplitl [Hg]; · iexact Hg
      isplitl [Hfa0_0' Hfb0_0' Hfc0_0']
      · iapply (Ring.with_homes (Idealize.SL.BI.Entails.refl _))
        isplitl [Hfa0_0']; · iexact Hfa0_0'
        isplitl [Hfb0_0']; · iexact Hfb0_0'
        iexact Hfc0_0'
      iapply (Ring.with_homes (Idealize.SL.BI.Entails.refl _))
      isplitl [Hfa0_1']; · iexact Hfa0_1'
      isplitl [Hfb0_1']; · iexact Hfb0_1'
      iexact Hfc0_1'
    isplitl [HW']
    · iexists W'; isplitr; · ipureintro; exact fun _ _ => Or.inl trivial
      iexact HW'
    isplitl [H0]; · iexact H0
    isplitl [H1]; · iexact H1
    isplitl [H2]; · iexact H2
    isplitl [H3]; · iapply (leaves_3 m c t d3 a ha); iexact H3
    iapply (leaves_4 m c t d4 a ha); iexact H4

/-- The body table's row at point `t`'s slots is the body as `the program spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨⟨%d, HS0⟩, HR0_0, HR0_1⟩, Hg, ⟨Hq0, Hq1, Hq2, Hq3, Hq4, Hq5⟩, ⟨Hh0, Hh1⟩⟩
  isplitl [HS0]
  · iexists d; isplitr; swap; · iexact HS0
    ipureintro; exact fun h => absurd h (Nat.lt_irrefl 0)
  isplitl [Hg]; · iexact Hg
  isplitl [HR0_0 Hq0 Hq1 Hq2 Hh0]
  · iapply (ring0_0_in (F := F) m c)
    isplitl [HR0_0]; · iexact HR0_0
    isplitl [Hq0 Hq1 Hq2]
    · isplitl [Hq0]; · iexact Hq0
      isplitl [Hq1]; · iexact Hq1
      iexact Hq2
    iexact Hh0
  iapply (ring0_1_in (F := F) m c)
  isplitl [HR0_1]; · iexact HR0_1
  isplitl [Hq3 Hq4 Hq5]
  · isplitl [Hq3]; · iexact Hq3
    isplitl [Hq4]; · iexact Hq4
    iexact Hq5
  iexact Hh1
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 136 by rw [N_0]]
  iintro ⟨⟨%a, -, HS0⟩, Hg, HR0_0, HR0_1⟩
  ihave HX0_0 := (ring0_0_out (F := F) m c) $$ HR0_0
  icases HX0_0 with ⟨HR0_0, ⟨Hq0, Hq1, Hq2⟩, Hh0⟩
  ihave HX0_1 := (ring0_1_out (F := F) m c) $$ HR0_1
  icases HX0_1 with ⟨HR0_1, ⟨Hq3, Hq4, Hq5⟩, Hh1⟩
  isplitl [HS0 HR0_0 HR0_1]
  · isplitl [HS0]; · iexists a; iexact HS0
    isplitl [HR0_0]; · iexact HR0_0
    iexact HR0_1
  isplitl [Hg]
  · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  iexact Hh1

set_option backward.isDefEq.respectTransparency.types false in
/-- The launch: every array ends at what the blocks written back make it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they began. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 1).trans (((dats m 0 c).arrAt_in 1 rfl _).trans ((A_eq m c 1).trans (V_main_arg3 m c))),
    ((h c).2 main_arg4 (Pipeline.mem_restRefs_of main_arg4 (by decide) (by decide))).trans (V_main_arg4 m c)⟩

/-- Every run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m r h.1, h.2⟩) (run_main_quiescent m ρ)

/-- The run with each output named. -/
theorem run_blocks : θ_run defs (onTc (τ := τ) (main (F := F))) ⟨m, fun _ => 0, ρ⟩ fun r => ∀ c : Dev nD,
      r.2.mem ((c.tc : Thread nD τ).loc main_v3_0) = (dats m 0 c).arrAt 3 cfg0.N
      ∧ r.2.mem ((c.tc : Thread nD τ).loc main_v3_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 3, (h.1 c).1 4, kept m r h.1 c⟩) (run_main_quiescent m ρ)

end Cert.Kernel10Ideal.Tied

end
-- ==== Proof.Kept.lean ====
/-
  The feed-forward part as printed for the words and as printed for the extended reals is one program, so what is proved of the
  second at every reading of a float holds of the first.
-/
module

public import proofs.«01_k».proof.Proof.Held
public import proofs.«01_k».proof.Proof.Gen.Kernel10
public import Idealize.ShloMosaic.PureOps.BitExact

@[expose] public section

set_option maxRecDepth 65536

noncomputable section

namespace Cert.Kernel10.Kept

open Idealize Idealize.ShloMosaic Idealize.ShloMosaic.TcCoe Idealize.SL.Sem

variable {F : FTy → Type} [FloatOps F]

theorem part1 : Cert.Kernel10Ideal.k0_part1 (F := F) = Cert.Kernel10.k0_part1 (F := F) := rfl
theorem part2 : Cert.Kernel10Ideal.k0_part2 (F := F) = Cert.Kernel10.k0_part2 (F := F) := rfl
theorem part3 : Cert.Kernel10Ideal.k0_part3 (F := F) = Cert.Kernel10.k0_part3 (F := F) := rfl
theorem part4 : Cert.Kernel10Ideal.k0_part4 (F := F) = Cert.Kernel10.k0_part4 (F := F) := rfl
theorem part5 : Cert.Kernel10Ideal.k0_part5 (F := F) = Cert.Kernel10.k0_part5 (F := F) := rfl
theorem body : Cert.Kernel10Ideal.cc0_mlp (F := F) = Cert.Kernel10.cc0_mlp (F := F) := rfl
theorem pipelines : Cert.Kernel10Ideal.pcfgs (F := F) = Cert.Kernel10.pcfgs (F := F) := rfl

/-- The two tables of bodies below the pipelines are one. -/
theorem bodies : Cert.Kernel10Ideal.defs₀ (F := F) = Cert.Kernel10.defs₀ (F := F) := by
  unfold Cert.Kernel10Ideal.defs₀ Cert.Kernel10.defs₀
  refine congrArg Defs.onTc ?_
  funext l a
  match l, a with
  | ⟨0, _⟩, (t, s) => rfl
  | ⟨_ + 1, h⟩, _ => exact absurd h (Nat.not_lt.2 (Nat.le_add_left _ _))

/-- And so are the two tables with them. -/
theorem tables : Cert.Kernel10Ideal.defs (F := F) = Cert.Kernel10.defs (F := F) := by
  unfold Cert.Kernel10Ideal.defs Cert.Kernel10.defs
  rw [← bodies]; rfl

/-- Every run leaves the arguments as they were and every counter at zero. -/
theorem frame (m : (ℓ : Loc Cert.Kernel10.nD Cert.Kernel10.τ Cert.Kernel10.sig) → Buf (Elt F) ℓ) (ρ : Dev Cert.Kernel10.nD → PrngReg) :
    θ_run (Cert.Kernel10.defs (F := F)) (onTc (τ := Cert.Kernel10.τ) (Cert.Kernel10.main (F := F))) ⟨m, fun _ => 0, ρ⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0) := by
  rw [← tables]
  exact Cert.Kernel10Ideal.Tied.frame (F := F) m ρ

end Cert.Kernel10.Kept
end
-- ==== Proof.FeedForward.lean ====
/-
  The feed-forward part. A row block of 512 rows takes eight grid points, one for each 1024 of the 8192 hidden columns; the accumulator
  starts at the residual rows and each point adds its columns' share of the second product. The eighth point writes the sum and its norm.
-/
module

public import proofs.«01_k».proof.Defs
public import proofs.«01_k».proof.Proof.Held
public import proofs.«01_k».proof.Proof.Gen.Reference10Ideal.Run
public import proofs.«01_k».proof.Proof.Scalars
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Kernel10Ideal.Tied

open Cert.Kernel10Ideal Cert.Kernel10Ideal.Gen
open Idealize.ShloMosaic Idealize.ShloMosaic.TcCoe Idealize.SL.Sem

variable (m : (ℓ : Loc nD τ sig) → Buf (Elt Ideal) ℓ)

theorem index : ∀ t : Fin cfg0.N, win0_0.index t = ![t.val / 8, 0] ∧ win0_1.index t = ![t.val / 8, 0] ∧ win0_2.index t = ![0, 0, 0]
    ∧ win0_3.index t = ![t.val / 8, 0] ∧ win0_4.index t = ![t.val / 8, 0] :=
  (by decide +kernel : ∀ t : Fin grid0.N, _)

/-- A hidden entry: the square of the positive part of the row times a column of the first weights. -/
def hidden (h : S8704x2048.Idx → EReal) (u : S2x2048x8192.Idx → EReal) (r : Fin 8704) (j : Fin 8192) : EReal :=
  max (∑ k : Fin 2048, h (ix2 r k) * u (ix3 0 k j)) 0 * max (∑ k : Fin 2048, h (ix2 r k) * u (ix3 0 k j)) 0

/-- One hidden column's share of an entry of the second product, and zero past the last column. -/
def share (h : S8704x2048.Idx → EReal) (u : S2x2048x8192.Idx → EReal) (d : S2x8192x2048.Idx → EReal) (r : Fin 8704) (q : Fin 2048) (j : ℕ) : EReal :=
  if hj : j < 8192 then hidden h u r ⟨j, hj⟩ * d (ix3 0 ⟨j, hj⟩ q) else 0

/-- The residual row plus the hidden row times the second weights. -/
def summed (h : S8704x2048.Idx → EReal) (u : S2x2048x8192.Idx → EReal) (d : S2x8192x2048.Idx → EReal) (x : S8704x2048.Idx → EReal)
    (i : S8704x2048.Idx) : EReal :=
  x i + ∑ j : Fin 8192, hidden h u (i 0) j * d (ix3 0 j (i 1))

/-- The sum after the norm. -/
def normed (h : S8704x2048.Idx → EReal) (u : S2x2048x8192.Idx → EReal) (d : S2x8192x2048.Idx → EReal) (x : S8704x2048.Idx → EReal)
    (g : S2x2048.Idx → EReal) (i : S8704x2048.Idx) : EReal :=
  Scalars.rmsNorm (fun j => summed h u d x (ix2 (i 0) j)) (g (ix2 0 (i 1))) (i 1)

/-- One point's addition, an entry at a time. -/
theorem step_apply (x : S512x2048.Idx → EReal) (u : S1x2048x1024.Idx → EReal) (d : S1x1024x2048.Idx → EReal) (a : S512x2048.Idx → EReal)
    (y : S512x2048.Idx) :
    step (F := Ideal) x u d a y = a y + ∑ q : Fin 1024,
      max (∑ k : Fin 2048, x (ix2 (y 0) k) * u (ix3 0 k q)) 0 * max (∑ k : Fin 2048, x (ix2 (y 0) k) * u (ix3 0 k q)) 0 * d (ix3 0 q (y 1)) := by
  pointwise [step, k0_pay8, k0_pay4]

/-- The norm, an entry at a time. -/
theorem norm_apply (v : S512x2048.Idx → EReal) (g : S1x1x2048.Idx → EReal) (y : S512x2048.Idx) :
    k0_pay3 (F := Ideal) v g y = Scalars.rmsNorm (fun j => v (ix2 (y 0) j)) (g (ix3 0 0 (y 1))) (y 1) := by
  unfold Scalars.rmsNorm
  pointwise [k0_pay3]

theorem start_apply (v : S512x2048.Idx → EReal) (y : S512x2048.Idx) : k0_pay7 (F := Ideal) v y = v y := by
  pointwise [k0_pay7]

theorem V_main_v0 (c : Dev nD) : V m c main_v0 = m ((c : Thread nD τ).loc main_arg1) := by
  funext i
  blk_point [V]

theorem V_main_v1 (c : Dev nD) : V m c main_v1 = m ((c : Thread nD τ).loc main_arg2) := by
  funext i
  blk_point [V]

theorem wu_apply (c : Dev nD) (W : S2x2048x8192.Idx → EReal) (b : Fin 136) (k : Fin 2048) (q : Fin 1024) :
    wu (F := Ideal) c W b (ix3 0 k q) = W (ix3 0 k ⟨1024 * (b.val % 8) + q.val, by have := q.isLt; show _ < 8192; omega⟩) := by
  unfold wu
  refine congrArg W (funext fun i => Fin.ext ?_)
  fin_cases i <;> simp [ix3]

theorem wd_apply (c : Dev nD) (W : S2x8192x2048.Idx → EReal) (b : Fin 136) (q : Fin 1024) (k : Fin 2048) :
    wd (F := Ideal) c W b (ix3 0 q k) = W (ix3 0 ⟨1024 * (b.val % 8) + q.val, by have := q.isLt; show _ < 8192; omega⟩ k) := by
  unfold wd
  refine congrArg W (funext fun i => Fin.ext ?_)
  fin_cases i <;> simp [ix3]

/-- The place in the array of an entry of a grid point's block. -/
def row (t : Fin cfg0.N) (y : S512x2048.Idx) : Fin 8704 :=
  ⟨t.val / 8 * 512 + (y 0).val, by have ht : t.val < 136 := t.isLt; have h0 : (y 0).val < 512 := (y 0).isLt; omega⟩

theorem blk_rows (c : Dev nD) (t : Fin cfg0.N) (y : S512x2048.Idx) (k : Fin 2048) :
    iblk m c 0 t (ix2 (y 0) k) = m ((c : Thread nD τ).loc main_arg0) (ix2 (row t y) k) := by
  unfold row
  blk_point [iblk, V, index t]

theorem blk_res (c : Dev nD) (t : Fin cfg0.N) (y : S512x2048.Idx) :
    iblk m c 1 t y = m ((c : Thread nD τ).loc main_arg3) (ix2 (row t y) (y 1)) := by
  unfold row
  blk_point [iblk, V, index t]

/-- One point's addition at an entry is its 1024 columns' shares. -/
theorem nxt_apply (c : Dev nD) (t : Fin cfg0.N) (r a : S512x2048.Idx → EReal) (y : S512x2048.Idx) :
    nxt (F := Ideal) c t.val (iblk m c 0 t) r a (V m c main_v0) (V m c main_v1) y
      = (if t.val % 8 = 0 then r y else a y) + ∑ q ∈ Finset.range 1024, share (m ((c : Thread nD τ).loc main_arg0))
          (m ((c : Thread nD τ).loc main_arg1)) (m ((c : Thread nD τ).loc main_arg2)) (row t y) (y 1) (1024 * (t.val % 8) + q) := by
  have hb : (Ring.bk 136 t.val).val = t.val := Nat.mod_eq_of_lt t.isLt
  unfold nxt
  rw [step_apply, V_main_v0, V_main_v1, ← Fin.sum_univ_eq_sum_range]
  refine congrArg₂ (· + ·) ?_ (Finset.sum_congr rfl fun q _ => ?_)
  · split
    · exact start_apply r y
    · rfl
  · have hq : 1024 * (t.val % 8) + q.val < 8192 := by have := q.isLt; omega
    unfold share
    rw [dif_pos hq]
    unfold hidden
    have e := wd_apply c (m ((c : Thread nD τ).loc main_arg2)) (Ring.bk 136 t.val) q (y 1)
    simp only [hb] at e
    simp only [wu_apply, blk_rows, hb]
    exact congrArg₂ (· * ·) rfl e

theorem row_prev (t s : Fin cfg0.N) (h : t.val = s.val + 1) (h8 : t.val % 8 ≠ 0) (y : S512x2048.Idx) : row s y = row t y := by
  unfold row
  exact Fin.ext (by show s.val / 8 * 512 + _ = t.val / 8 * 512 + _; omega)

/-- The residual entry and the shares of the first `n` columns. -/
def partly (h : S8704x2048.Idx → EReal) (u : S2x2048x8192.Idx → EReal) (d : S2x8192x2048.Idx → EReal) (x : S8704x2048.Idx → EReal)
    (r : Fin 8704) (q : Fin 2048) (n : ℕ) : EReal :=
  x (ix2 r q) + ∑ j ∈ Finset.range n, share h u d r q j

/-- After a point the accumulator holds the residual entry and the shares of the columns so far. -/
theorem acc_apply (c : Dev nD) (n : ℕ) : ∀ (h : n < cfg0.N) (y : S512x2048.Idx), acc (F := Ideal) m c n y
      = partly (m ((c : Thread nD τ).loc main_arg0)) (m ((c : Thread nD τ).loc main_arg1)) (m ((c : Thread nD τ).loc main_arg2))
          (m ((c : Thread nD τ).loc main_arg3)) (row ⟨n, h⟩ y) (y 1) (1024 * (n % 8 + 1)) := by
  induction n with
  | zero =>
    intro h y
    rw [← nxt_acc m c ⟨0, h⟩ (iblk m c 1 ⟨0, h⟩) (fun h => absurd h (Nat.lt_irrefl 0)), nxt_apply, if_pos (by rfl), blk_res]
    simp [partly]
  | succ n ih =>
    intro h y
    have hn : n < cfg0.N := Nat.lt_of_succ_lt h
    rw [← nxt_acc m c ⟨n + 1, h⟩ (acc m c n) (fun _ => rfl), nxt_apply]
    by_cases h0 : (n + 1) % 8 = 0
    · rw [if_pos h0, blk_res]
      simp only [h0]
      simp [partly]
    · rw [if_neg h0, ih hn, row_prev ⟨n + 1, h⟩ ⟨n, hn⟩ rfl h0]
      unfold partly
      rw [add_assoc]
      have e : 1024 * ((n + 1) % 8 + 1) = 1024 * (n % 8 + 1) + 1024 := by omega
      have e' : 1024 * ((n + 1) % 8) = 1024 * (n % 8 + 1) := by omega
      rw [e, Finset.sum_range_add]
      simp only [e']

/-- What the eighth point leaves is the whole sum. -/
theorem acc_last (c : Dev nD) (t : Fin cfg0.N) (h7 : t.val % 8 = 7) (y : S512x2048.Idx) : acc (F := Ideal) m c t.val y
      = summed (m ((c : Thread nD τ).loc main_arg0)) (m ((c : Thread nD τ).loc main_arg1)) (m ((c : Thread nD τ).loc main_arg2))
          (m ((c : Thread nD τ).loc main_arg3)) (ix2 (row t y) (y 1)) := by
  rw [acc_apply m c t.val t.isLt, h7, show 1024 * (7 + 1) = 8192 by rfl]
  unfold partly summed
  rw [← Fin.sum_univ_eq_sum_range]
  refine congrArg₂ (· + ·) rfl (Finset.sum_congr rfl fun j _ => ?_)
  unfold share
  rw [dif_pos j.isLt]
  rfl

theorem flush_3 : ∀ t : Fin cfg0.N, (cfg0.win 3).flush t = true → t.val % 8 = 7 :=
  (by decide +kernel : ∀ t : Fin grid0.N, (cfg0.win 3).flush t = true → t.val % 8 = 7)
theorem flush_4 : ∀ t : Fin cfg0.N, (cfg0.win 4).flush t = true → t.val % 8 = 7 :=
  (by decide +kernel : ∀ t : Fin grid0.N, (cfg0.win 4).flush t = true → t.val % 8 = 7)

theorem array_sum (c : Dev nD) : (dats m 0 c).arrAt 3 cfg0.N = summed (m ((c : Thread nD τ).loc main_arg0))
    (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3, acc_last m c t (flush_3 t hf)]
  unfold row
  blk_point [index t]

theorem array_norm (c : Dev nD) : (dats m 0 c).arrAt 4 cfg0.N = normed (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 4 _ (by decide +kernel) fun t hf y => ?_
  blk_simp
  rw [after0_4, norm_apply]
  refine Scalars.rmsNorm_congr (fun k => ?_) ?_ ?_
  · rw [acc_last m c t (flush_4 t hf)]
    unfold row
    blk_point [index t]
  · blk_point [iblk, V, index t]
  · exact Fin.ext (Pipeline.Window.rect_emb_val_of_index_zero win0_4 t 1 (by simp [index t]) y).symm

theorem algebraic : Cert.algebraic_Kernel10Ideal_Reference10Ideal := by
  intro m ρ m' ρ' _ hagree
  refine ⟨_, _, run_blocks (F := Ideal) m ρ, ?_⟩
  refine (θ_run Cert.Reference10Ideal.defs _ _).mono (fun _ h c => ⟨?_, ?_, (h c).2.2⟩) (Cert.Reference10Ideal.Value.run (F := Ideal) m' ρ')
  · rw [(h c).1, array_sum]
    simp only [hagree c]
    funext i
    unfold summed hidden
    pointwise
  · rw [(h c).2.1, array_norm]
    unfold Reference10Ideal.Value.res_main_v25
    simp only [hagree c]
    funext i
    unfold normed summed hidden Scalars.rmsNorm
    pointwise

end Cert.Kernel10Ideal.Tied
end
-- ==== Proof.Stripes.lean ====
/-
  A grid point of the memory part: the sixteen rows a batch row is cut into, and what the body leaves.
-/
module

public import proofs.«01_k».proof.Proof.Gen.Kernel11Ideal.Frame
public import proofs.«01_k».proof.Proof.Gen.Kernel11Ideal.Skeleton
public import Idealize.ShloMosaic.Lib.Pipeline.ValueKit
public import Idealize.ShloMosaic.Lib.Pointwise

@[expose] public section

set_option maxRecDepth 16384

noncomputable section

namespace Cert.Kernel11Ideal.Tied

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where row `y 2`, lane `y 3` of the cut block stands in the product: sixteen rows to a row, the head the quarter
    of 512 lanes and the lane tile the 128 lanes within it. -/
def spot (y : S1x1x4096x128.Idx) : S256x2048.Idx := fun a => match a with
  | ⟨0, _⟩ => ⟨(y 2).val / 16, by have h : (y 2).val < 4096 := (y 2).isLt; show _ < 256; omega⟩
  | ⟨1, _⟩ => ⟨(y 2).val % 4 * 512 + (y 2).val % 16 / 4 * 128 + (y 3).val, by
      have h : (y 3).val < 128 := (y 3).isLt; show _ < 2048; omega⟩

/-- The product cut by head and lane tile. -/
def heads (K : Vec F S256x2048 .f32) : Vec F S1x1x4096x128 .f32 := fun y => K (spot y)

/-- Every sixteenth row from row `r` on. -/
abbrev stripe (r : Nat) (h : ∀ a, S1x1x256x128.size a = 0 ∨ (![0, 0, r, 0] : Fin 4 → Nat) a + (![1, 1, 16, 1] : Fin 4 → Nat) a * (S1x1x256x128.size a - 1) < S1x1x4096x128.size a) : Rect S1x1x4096x128 :=
  ⟨(⟨![0, 0, r, 0], S1x1x256x128.size, ![1, 1, 16, 1], h⟩ : LoadRect S1x1x4096x128), spos_1_1_16_1⟩

/-- What is stored there is the cut product there. -/
theorem stripe_pay (K : Vec F S256x2048 .f32) (r q : Nat) (hr : r < 16) (hq : q = r % 4 * 512 + r / 4 * 128) (h) (hs : S256x2048.Slices ![0, q] S256x128)
    (x : S1x1x256x128.Idx) :
    shapeCast S1x1x256x128 (extractStridedSlice S256x128 ![0, q] K hs) shapeCasts_S256x128_S1x1x256x128 x = heads K ((stripe r h).emb x) := by
  have h0 : (x 0).val < 1 := (x 0).isLt
  have h1 : (x 1).val < 1 := (x 1).isLt
  have h2 : (x 2).val < 256 := (x 2).isLt
  have h3 : (x 3).val < 128 := (x 3).isLt
  have e2 : ((stripe r h).emb x 2).val = r + 16 * (x 2).val := rfl
  have e3 : ((stripe r h).emb x 3).val = 0 + 1 * (x 3).val := rfl
  refine (shapeCast_apply (s := S256x128) (t := S1x1x256x128) _ _ x (ix2 (n0 := 256) (n1 := 128) (x 2) (x 3)) ?_).trans ?_
  · rw [Shape.rowMajor_val_two, Shape.rowMajor_val_four]
    show (x 2).val * 128 + (x 3).val = (((x 0).val * 1 + (x 1).val) * 256 + (x 2).val) * 128 + (x 3).val
    omega
  refine extractStridedSlice_apply _ _ _ _ _ fun a => ?_
  match a with
  | ⟨0, _⟩ => show ((stripe r h).emb x 2).val / 16 = 0 + (x 2).val; omega
  | ⟨1, _⟩ => show ((stripe r h).emb x 2).val % 4 * 512 + ((stripe r h).emb x 2).val % 16 / 4 * 128 + ((stripe r h).emb x 3).val = q + (x 3).val; omega

theorem stripe_mem (r : Nat) (h) (y : S1x1x4096x128.Idx) (hy : (y 2).val % 16 = r) : y ∈ (stripe r h).set := by
  have h0 : (y 0).val < 1 := (y 0).isLt
  have h1 : (y 1).val < 1 := (y 1).isLt
  have h2 : (y 2).val < 4096 := (y 2).isLt
  rw [LoadRect.mem_set]
  intro a
  match a with
  | ⟨0, _⟩ => exact ⟨0, Nat.one_pos, show (y 0).val = 0 + 1 * 0 by omega⟩
  | ⟨1, _⟩ => exact ⟨0, Nat.one_pos, show (y 1).val = 0 + 1 * 0 by omega⟩
  | ⟨2, _⟩ => exact ⟨(y 2).val / 16, show _ < 256 by omega, show (y 2).val = r + 16 * ((y 2).val / 16) by omega⟩
  | ⟨3, _⟩ => exact ⟨(y 3).val, (y 3).isLt, show (y 3).val = 0 + 1 * (y 3).val by omega⟩

/-- One store: the 128 lanes of the product from lane `q` on, to every sixteenth row from row `r` on. -/
abbrev piece (K : Vec F S256x2048 .f32) (r q : Nat) (h : ∀ a, S1x1x256x128.size a = 0 ∨ (![0, 0, r, 0] : Fin 4 → Nat) a + (![1, 1, 16, 1] : Fin 4 → Nat) a * (S1x1x256x128.size a - 1) < S1x1x4096x128.size a) (hs : S256x2048.Slices ![0, q] S256x128) : View.Piece (Elt F) S1x1x4096x128 .f32 :=
  ⟨stripe r h, shapeCast S1x1x256x128 (extractStridedSlice S256x128 ![0, q] K hs) shapeCasts_S256x128_S1x1x256x128⟩

/-- The sixteen stores, the last first. -/
def pieces (K : Vec F S256x2048 .f32) : List (View.Piece (Elt F) S1x1x4096x128 .f32) :=
  [piece K 15 1920 inb_S1x1x4096x128_S1x1x256x128_0_0_15_0_s_1_1_16_1 slices_S256x2048_o0_1920_S256x128,
    piece K 11 1792 inb_S1x1x4096x128_S1x1x256x128_0_0_11_0_s_1_1_16_1 slices_S256x2048_o0_1792_S256x128,
    piece K 7 1664 inb_S1x1x4096x128_S1x1x256x128_0_0_7_0_s_1_1_16_1 slices_S256x2048_o0_1664_S256x128,
    piece K 3 1536 inb_S1x1x4096x128_S1x1x256x128_0_0_3_0_s_1_1_16_1 slices_S256x2048_o0_1536_S256x128,
    piece K 14 1408 inb_S1x1x4096x128_S1x1x256x128_0_0_14_0_s_1_1_16_1 slices_S256x2048_o0_1408_S256x128,
    piece K 10 1280 inb_S1x1x4096x128_S1x1x256x128_0_0_10_0_s_1_1_16_1 slices_S256x2048_o0_1280_S256x128,
    piece K 6 1152 inb_S1x1x4096x128_S1x1x256x128_0_0_6_0_s_1_1_16_1 slices_S256x2048_o0_1152_S256x128,
    piece K 2 1024 inb_S1x1x4096x128_S1x1x256x128_0_0_2_0_s_1_1_16_1 slices_S256x2048_o0_1024_S256x128,
    piece K 13 896 inb_S1x1x4096x128_S1x1x256x128_0_0_13_0_s_1_1_16_1 slices_S256x2048_o0_896_S256x128,
    piece K 9 768 inb_S1x1x4096x128_S1x1x256x128_0_0_9_0_s_1_1_16_1 slices_S256x2048_o0_768_S256x128,
    piece K 5 640 inb_S1x1x4096x128_S1x1x256x128_0_0_5_0_s_1_1_16_1 slices_S256x2048_o0_640_S256x128,
    piece K 1 512 inb_S1x1x4096x128_S1x1x256x128_0_0_1_0_s_1_1_16_1 slices_S256x2048_o0_512_S256x128,
    piece K 12 384 inb_S1x1x4096x128_S1x1x256x128_0_0_12_0_s_1_1_16_1 slices_S256x2048_o0_384_S256x128,
    piece K 8 256 inb_S1x1x4096x128_S1x1x256x128_0_0_8_0_s_1_1_16_1 slices_S256x2048_o0_256_S256x128,
    piece K 4 128 inb_S1x1x4096x128_S1x1x256x128_0_0_4_0_s_1_1_16_1 slices_S256x2048_o0_128_S256x128,
    piece K 0 0 inb_S1x1x4096x128_S1x1x256x128_0_0_0_0_s_1_1_16_1 slices_S256x2048_o0_0_S256x128]

/-- Among them is one for every row. -/
theorem pieces_cover (K : Vec F S256x2048 .f32) (y : S1x1x4096x128.Idx) : ∃ p ∈ pieces K, y ∈ p.1.set := by
  have hr : (y 2).val % 16 < 16 := Nat.mod_lt _ (by decide)
  unfold pieces
  simp only [List.exists_mem_cons_iff]
  generalize hn : (y 2).val % 16 = n at hr
  match n, hr with
  | 15, _ => exact .inl (stripe_mem _ _ y hn)
  | 11, _ => exact .inr (.inl (stripe_mem _ _ y hn))
  | 7, _ => exact .inr (.inr (.inl (stripe_mem _ _ y hn)))
  | 3, _ => exact .inr (.inr (.inr (.inl (stripe_mem _ _ y hn))))
  | 14, _ => exact .inr (.inr (.inr (.inr (.inl (stripe_mem _ _ y hn)))))
  | 10, _ => exact .inr (.inr (.inr (.inr (.inr (.inl (stripe_mem _ _ y hn))))))
  | 6, _ => exact .inr (.inr (.inr (.inr (.inr (.inr (.inl (stripe_mem _ _ y hn)))))))
  | 2, _ => exact .inr (.inr (.inr (.inr (.inr (.inr (.inr (.inl (stripe_mem _ _ y hn))))))))
  | 13, _ => exact .inr (.inr (.inr (.inr (.inr (.inr (.inr (.inr (.inl (stripe_mem _ _ y hn)))))))))
  | 9, _ => exact .inr (.inr (.inr (.inr (.inr (.inr (.inr (.inr (.inr (.inl (stripe_mem _ _ y hn))))))))))
  | 5, _ => exact .inr (.inr (.inr (.inr (.inr (.inr (.inr (.inr (.inr (.inr (.inl (stripe_mem _ _ y hn)))))))))))
  | 1, _ => exact .inr (.inr (.inr (.inr (.inr (.inr (.inr (.inr (.inr (.inr (.inr (.inl (stripe_mem _ _ y hn))))))))))))
  | 12, _ => exact .inr (.inr (.inr (.inr (.inr (.inr (.inr (.inr (.inr (.inr (.inr (.inr (.inl (stripe_mem _ _ y hn)))))))))))))
  | 8, _ => exact .inr (.inr (.inr (.inr (.inr (.inr (.inr (.inr (.inr (.inr (.inr (.inr (.inr (.inl (stripe_mem _ _ y hn))))))))))))))
  | 4, _ => exact .inr (.inr (.inr (.inr (.inr (.inr (.inr (.inr (.inr (.inr (.inr (.inr (.inr (.inr (.inl (stripe_mem _ _ y hn)))))))))))))))
  | 0, _ => exact .inr (.inr (.inr (.inr (.inr (.inr (.inr (.inr (.inr (.inr (.inr (.inr (.inr (.inr (.inr (.inl (stripe_mem _ _ y hn))))))))))))))))
  | _ + 16, h => exact absurd h (by omega)

/-- Each is the cut product where it stores. -/
theorem pieces_pay (K : Vec F S256x2048 .f32) : ∀ p ∈ pieces K, ∀ x : p.1.shape.Idx, p.2 x = heads K (p.1.emb x) := by
  unfold pieces
  simp only [List.forall_mem_cons]
  refine ⟨?_, ?_, ?_, ?_, ?_, ?_, ?_, ?_, ?_, ?_, ?_, ?_, ?_, ?_, ?_, ?_, fun _ h => absurd h List.not_mem_nil⟩ <;>
    exact fun x => stripe_pay K _ _ (by decide) (by decide) _ _ x

/-- Together they leave the cut product. -/
theorem pieces_read (v : View sig .tc .vmem S1x1x4096x128 .f32) (f : BufTy.Contents (Elt F) v.ty) (K : Vec F S256x2048 .f32) :
    View.read (Elt F) v (v.writes (Elt F) f (pieces K)) = heads K :=
  (View.read_writes_eq_canon v f _ (pieces_cover K)).trans
    (funext fun y => View.canon_apply_of_pieces (heads K) _ (pieces_pay K) y (pieces_cover K y))

abbrev r0_0 : Rect S256x2048 := Rect.unit (s := S256x2048) ![0, 0] S256x2048.size inb_S256x2048_S256x2048_0_0
abbrev r0_1 : Rect S1x1x2048 := Rect.unit (s := S1x1x2048) ![0, 0, 0] S1x1x2048.size inb_S1x1x2048_S1x1x2048_0_0_0
abbrev r0_2 : Rect S1x2048x2048 := Rect.unit (s := S1x2048x2048) ![0, 0, 0] S1x2048x2048.size inb_S1x2048x2048_S1x2048x2048_0_0_0
abbrev r0_3 : Rect S1x256x2048 := Rect.unit (s := S1x256x2048) ![0, 0, 0] S1x256x2048.size inb_S1x256x2048_S1x256x2048_0_0_0

def out0_4 (x0 : Vec F S256x2048 .f32) (x1 : Vec F S1x1x2048 .f32) (x2 : Vec F S1x2048x2048 .bf16) : Vec F S1x1x4096x128 .f32 :=
  heads (k0_pay7 (View.ld x0 r0_0) (View.ld x1 r0_1) (View.ld x2 r0_2))
def out0_5 (x0 : Vec F S256x2048 .f32) (x1 : Vec F S1x1x2048 .f32) (x3 : Vec F S1x2048x2048 .bf16) : Vec F S1x1x4096x128 .f32 :=
  heads (k0_pay27 (k0_pay6 (View.ld x0 r0_0) (View.ld x1 r0_1)) (View.ld x3 r0_2))
def out0_6 (x0 : Vec F S256x2048 .f32) (x1 : Vec F S1x1x2048 .f32) (x2 : Vec F S1x2048x2048 .bf16) : Vec F S1x256x2048 .bf16 :=
  View.canon [⟨r0_3, k0_pay8 (View.ld x0 r0_0) (View.ld x1 r0_1) (View.ld x2 r0_2)⟩]
def out0_7 (x0 : Vec F S256x2048 .f32) (x1 : Vec F S1x1x2048 .f32) (x3 : Vec F S1x2048x2048 .bf16) : Vec F S1x256x2048 .bf16 :=
  View.canon [⟨r0_3, k0_pay28 (k0_pay6 (View.ld x0 r0_0) (View.ld x1 r0_1)) (View.ld x3 r0_2)⟩]

theorem cover0_6 (p0 : Vec F S1x256x2048 .bf16) (y : S1x256x2048.Idx) :
    ∃ pc ∈ ([⟨r0_3, p0⟩] : List (View.Piece (Elt F) S1x256x2048 .bf16)), y ∈ pc.1.set :=
  View.cover_of_tiled [⟨r0_3, p0⟩] S1x256x2048.size (by rfl) y

set_option maxHeartbeats 8000000 in
/-- The body on whole buffers: the inputs' as they were, each output's at its value of them. -/
theorem sound_kernel (c : Dev nD) (E : Set ℕ) (i : grid0.Coords) (arg2 : Memref sig .tc .vmem S256x2048 .f32) (harg2 : arg2.IsWhole) (arg3 : Memref sig .tc .vmem S1x1x2048 .f32) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x1x4096x128 .f32) (harg6 : arg6.IsWhole) (arg7 : Memref sig .tc .vmem S1x1x4096x128 .f32) (harg7 : arg7.IsWhole) (arg8 : Memref sig .tc .vmem S1x256x2048 .bf16) (harg8 : arg8.IsWhole) (arg9 : Memref sig .tc .vmem S1x256x2048 .bf16) (harg9 : arg9.IsWhole)
    (x0 : Vec F S256x2048 .f32) (x1 : Vec F S1x1x2048 .f32) (x2 : Vec F S1x2048x2048 .bf16) (x3 : Vec F S1x2048x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1 x2) ∗ owns (c : Thread nD τ) arg7 fullShare (out0_5 x0 x1 x3) ∗ owns (c : Thread nD τ) arg8 fullShare (out0_6 x0 x1 x2) ∗ owns (c : Thread nD τ) arg9 fullShare (out0_7 x0 x1 x3)) -∗ K PUnit.unit))
      ⊢ wp frame (wpE (defs₀ (F := F)) Variants.none c none) E (cc0_mem_kv i arg2 harg2 arg3 harg3 arg4 harg4 arg5 harg5 arg6 harg6 arg7 harg7 arg8 harg8 arg9 harg9) K := by
  simp only [cc0_mem_kv_eq_skeleton]; unfold cc0_mem_kv_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact pieces_read _ _ _
  isplitl [H5]
  · iexists _; isplitr
    swap; · iexact H5
    ipureintro
    exact pieces_read _ _ _
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_6 _)

variable (m : (ℓ : Loc nD τ sig) → Buf (Elt F) ℓ) (ρ : Dev nD → PrngReg)

/-- What each grid point leaves in each window's block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t)
    | ⟨5, _⟩ => out0_5 (iblk m c 0 t) (iblk m c 1 t) (iblk m c 3 t)
    | ⟨6, _⟩ => out0_6 (iblk m c 0 t) (iblk m c 1 t) (iblk m c 2 t)
    | ⟨7, _⟩ => out0_7 (iblk m c 0 t) (iblk m c 1 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 0 t) (iblk m c 1 t) (iblk m c 3 t) := by dsimp only [dats]
theorem after0_6 (c : Dev nD) (t : Fin cfg0.N) : (dats m 0 c).after 6 t = out0_6 (iblk m c 0 t) (iblk m c 1 t) (iblk m c 2 t) := by dsimp only [dats]
theorem after0_7 (c : Dev nD) (t : Fin cfg0.N) : (dats m 0 c).after 7 t = out0_7 (iblk m c 0 t) (iblk m c 1 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as the program spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at what the blocks written back make it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- Every run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨kept m r h.1, h.2⟩) (run_main_quiescent m ρ)

/-- The run with each output named. -/
theorem run_blocks : θ_run defs (onTc (τ := τ) (main (F := F))) ⟨m, fun _ => 0, ρ⟩ fun r => ∀ c : Dev nD,
      r.2.mem ((c.tc : Thread nD τ).loc main_v4_0) = (dats m 0 c).arrAt 4 cfg0.N
      ∧ r.2.mem ((c.tc : Thread nD τ).loc main_v4_1) = (dats m 0 c).arrAt 5 cfg0.N
      ∧ r.2.mem ((c.tc : Thread nD τ).loc main_v4_2) = (dats m 0 c).arrAt 6 cfg0.N
      ∧ r.2.mem ((c.tc : Thread nD τ).loc main_v4_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 4, (h.1 c).1 5, (h.1 c).1 6, (h.1 c).1 7, kept m r h.1 c⟩) (run_main_quiescent m ρ)

end Cert.Kernel11Ideal.Tied

end
-- ==== Proof.Stored.lean ====
/-
  The memory part as printed for the words and as printed for the extended reals is one program, so what is proved of the
  second at every reading of a float holds of the first.
-/
module

public import proofs.«01_k».proof.Proof.Stripes
public import proofs.«01_k».proof.Proof.Gen.Kernel11
public import Idealize.ShloMosaic.PureOps.BitExact

@[expose] public section

set_option maxRecDepth 65536

noncomputable section

namespace Cert.Kernel11.Kept

open Idealize Idealize.ShloMosaic Idealize.ShloMosaic.TcCoe Idealize.SL.Sem

variable {F : FTy → Type} [FloatOps F]

theorem part1 : Cert.Kernel11Ideal.k0_part1 (F := F) = Cert.Kernel11.k0_part1 (F := F) := rfl
theorem part2 : Cert.Kernel11Ideal.k0_part2 (F := F) = Cert.Kernel11.k0_part2 (F := F) := rfl
theorem part3 : Cert.Kernel11Ideal.k0_part3 (F := F) = Cert.Kernel11.k0_part3 (F := F) := rfl
theorem part4 : Cert.Kernel11Ideal.k0_part4 (F := F) = Cert.Kernel11.k0_part4 (F := F) := rfl
theorem part5 : Cert.Kernel11Ideal.k0_part5 (F := F) = Cert.Kernel11.k0_part5 (F := F) := rfl
theorem body : Cert.Kernel11Ideal.cc0_mem_kv (F := F) = Cert.Kernel11.cc0_mem_kv (F := F) := rfl
theorem pipelines : Cert.Kernel11Ideal.pcfgs (F := F) = Cert.Kernel11.pcfgs (F := F) := rfl

/-- The two tables of bodies below the pipelines are one. -/
theorem bodies : Cert.Kernel11Ideal.defs₀ (F := F) = Cert.Kernel11.defs₀ (F := F) := by
  unfold Cert.Kernel11Ideal.defs₀ Cert.Kernel11.defs₀
  refine congrArg Defs.onTc ?_
  funext l a
  match l, a with
  | ⟨0, _⟩, (t, s) => rfl
  | ⟨_ + 1, h⟩, _ => exact absurd h (Nat.not_lt.2 (Nat.le_add_left _ _))

/-- And so are the two tables with them. -/
theorem tables : Cert.Kernel11Ideal.defs (F := F) = Cert.Kernel11.defs (F := F) := by
  unfold Cert.Kernel11Ideal.defs Cert.Kernel11.defs
  rw [← bodies]; rfl

/-- Every run leaves the arguments as they were and every counter at zero. -/
theorem frame (m : (ℓ : Loc Cert.Kernel11.nD Cert.Kernel11.τ Cert.Kernel11.sig) → Buf (Elt F) ℓ) (ρ : Dev Cert.Kernel11.nD → PrngReg) :
    θ_run (Cert.Kernel11.defs (F := F)) (onTc (τ := Cert.Kernel11.τ) (Cert.Kernel11.main (F := F))) ⟨m, fun _ => 0, ρ⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0) := by
  rw [← tables]
  exact Cert.Kernel11Ideal.Tied.frame (F := F) m ρ

end Cert.Kernel11.Kept
end
-- ==== Proof.MemoryRows.lean ====
/-
  The reference's keys and values of the memory, a step at a time.
-/
module

public import proofs.«01_k».proof.Proof.Gen.Reference11Ideal.Run
public import proofs.«01_k».proof.Proof.Scalars
public import Idealize.ShloMosaic.Lib.Pipeline.ValueKit
public import Idealize.ShloMosaic.Lib.Pointwise

@[expose] public section

set_option maxRecDepth 16384

noncomputable section

namespace Cert.Reference11Ideal.Rows

open Cert.Reference11Ideal Cert.Reference11Ideal.Gen
open Idealize.ShloMosaic Idealize.ShloMosaic.TcCoe Idealize.SL.Sem

/-- The rows scaled to root mean square one. -/
abbrev scaled (z : S1024x2048.Idx → EReal) : FVec Ideal S1024x2048 .f32 :=
  mulf (F := Ideal) (φ := .f32) z (broadcastInDim S1024x2048 ![0, 1] bcast_S1024x1_S1024x2048_0_1 (Host.rsqrt (addf (Host.divf (broadcastInDim S1024x1 ![0] bcast_S1024_S1024x1_0
    (Host.reduceAdd (mulf (F := Ideal) (φ := .f32) z z) (constant S_ .f32 0x00000000#32) reducesTo_S1024x2048_S1024_d1 h_S_)) (broadcastInDim S1024x1 ![] bcast_S_S1024x1 (constant S_ .f32 0x45000000#32)))
    (broadcastInDim S1024x1 ![] bcast_S_S1024x1 (constant S_ .f32 0x358637BD#32)))))

/-- The rows after each layer's norm. -/
abbrev gained (u : FVec Ideal S1024x2048 .f32) (g : FVec Ideal S2x2048 .f32) : FVec Ideal S2x1024x2048 .f32 :=
  mulf (F := Ideal) (φ := .f32) (broadcastInDim S2x1024x2048 ![0, 1, 2] bcast_S1x1024x2048_S2x1024x2048_0_1_2 (broadcastInDim S1x1024x2048 ![1, 2] bcast_S1024x2048_S1x1024x2048_1_2 u))
    (broadcastInDim S2x1024x2048 ![0, 1, 2] bcast_S2x1x2048_S2x1024x2048_0_1_2 (broadcastInDim S2x1x2048 ![0, 2] bcast_S2x2048_S2x1x2048_0_2 g))

theorem gained_apply (u : S1024x2048.Idx → EReal) (g : S2x2048.Idx → EReal) (l : Fin 2) (r : Fin 1024) (k : Fin 2048) :
    gained u g (ix3 l r k) = (show EReal from u (ix2 r k)) * g (ix2 l k) := by
  unfold gained
  pointwise

theorem scaled_apply (z : S1024x2048.Idx → EReal) (g : EReal) (r : Fin 1024) (k : Fin 2048) :
    (show EReal from scaled z (ix2 r k)) * g = Scalars.rmsNorm (fun j => z (ix2 r j)) g k := by
  unfold scaled Scalars.rmsNorm
  pointwise

theorem flat_apply (x : S4x256x2048.Idx → EReal) (h) (r : Fin 1024) (j : Fin 2048) :
    shapeCast S1024x2048 x h (ix2 r j)
      = x (ix3 ⟨r.val / 256, by have h := r.isLt; omega⟩ ⟨r.val % 256, Nat.mod_lt _ (by decide)⟩ j) := by
  pointwise

theorem product_apply (u : FVec Ideal S2x1024x2048 .f32) (w : FVec Ideal S2x2048x2048 .f32) (i : S2x1024x2048.Idx) :
    (Host.dotGeneral dot_S2x1024x2048_S2x2048x2048_S2x1024x2048_2_1_1_2_0_0 none u w : FVec Ideal S2x1024x2048 .f32) i
      = ∑ k : Fin 2048, (show EReal from u (ix3 (i 0) (i 1) k)) * w (ix3 (i 0) k (i 2)) := by
  pointwise

/-- An entry of the product of the rows after a layer's norm and the layer's map. -/
theorem entry_apply (x : FVec Ideal S4x256x2048 .f32) (g : FVec Ideal S2x2048 .f32) (w : FVec Ideal S2x2048x2048 .f32) (i : S2x1024x2048.Idx) :
    (Host.dotGeneral dot_S2x1024x2048_S2x2048x2048_S2x1024x2048_2_1_1_2_0_0 none
        (gained (scaled (shapeCast S1024x2048 x shapeCasts_S4x256x2048_S1024x2048)) g) w : FVec Ideal S2x1024x2048 .f32) i
      = ∑ k : Fin 2048, Scalars.rmsNorm (fun j => x (ix3 ⟨(i 1).val / 256, by have h : (i 1).val < 1024 := (i 1).isLt; omega⟩
          ⟨(i 1).val % 256, Nat.mod_lt _ (by decide)⟩ j)) (g (ix2 (i 0) k)) k * w (ix3 (i 0) k (i 2)) := by
  rw [product_apply]
  refine Finset.sum_congr rfl fun k _ => congrArg (· * (show EReal from w (ix3 (i 0) k (i 2)))) ?_
  refine (gained_apply _ _ _ _ _).trans ((scaled_apply _ _ _ _).trans ?_)
  exact Scalars.rmsNorm_congr (fun j => flat_apply x _ _ j) rfl rfl

end Cert.Reference11Ideal.Rows
end
-- ==== Proof.Memory.lean ====
/-
  The keys and values of the memory. A grid point is one layer and one prompt sequence: its 256 memory rows after the norm, times the
  layer's key map and its value map, each stored twice: as it stands in bf16, and in f32 cut into heads of four lane tiles.
-/
module

public import proofs.«01_k».proof.Defs
public import proofs.«01_k».proof.Proof.Stripes
public import proofs.«01_k».proof.Proof.MemoryRows
public import Idealize.ShloMosaic.Lib.Pipeline.ValueKit
public import Idealize.ShloMosaic.Lib.Pointwise

@[expose] public section

set_option maxRecDepth 16384

noncomputable section

namespace Cert.Kernel11Ideal.Tied

open Cert.Kernel11Ideal Cert.Kernel11Ideal.Gen
open Idealize.ShloMosaic Idealize.ShloMosaic.TcCoe Idealize.SL.Sem

variable (m : (ℓ : Loc nD τ sig) → Buf (Elt Ideal) ℓ)

theorem index : ∀ t : Fin cfg0.N, win0_0.index t = ![t.val % 4, 0] ∧ win0_1.index t = ![t.val / 4, 0, 0] ∧ win0_2.index t = ![t.val / 4, 0, 0]
    ∧ win0_3.index t = ![t.val / 4, 0, 0] ∧ win0_4.index t = ![t.val / 4, t.val % 4, 0, 0] ∧ win0_5.index t = ![t.val / 4, t.val % 4, 0, 0]
    ∧ win0_6.index t = ![t.val / 4, t.val % 4, 0] ∧ win0_7.index t = ![t.val / 4, t.val % 4, 0] :=
  (by decide +kernel : ∀ t : Fin grid0.N, _)

/-- Memory row `r` of sequence `b` after layer `l`'s norm, times column `q` of that layer's map. -/
def entry (x : S4x256x2048.Idx → EReal) (g : S2x2048.Idx → EReal) (w : S2x2048x2048.Idx → EReal) (l : Fin 2) (b : Fin 4) (r : Fin 256)
    (q : Fin 2048) : EReal :=
  ∑ k : Fin 2048, Scalars.rmsNorm (fun j => x (ix3 b r j)) (g (ix2 l k)) k * w (ix3 l k q)

/-- The product as it stands. -/
def byRow (x : S4x256x2048.Idx → EReal) (g : S2x2048.Idx → EReal) (w : S2x2048x2048.Idx → EReal) (i : S2x1024x2048.Idx) : EReal :=
  entry x g w (i 0) ⟨(i 1).val / 256, by have h : (i 1).val < 1024 := (i 1).isLt; omega⟩ ⟨(i 1).val % 256, Nat.mod_lt _ (by decide)⟩ (i 2)

/-- The product cut into heads. -/
def byHead (x : S4x256x2048.Idx → EReal) (g : S2x2048.Idx → EReal) (w : S2x2048x2048.Idx → EReal) (i : S2x4x4096x128.Idx) : EReal :=
  entry x g w (i 0) (i 1) ⟨(i 2).val / 16, by have h : (i 2).val < 4096 := (i 2).isLt; omega⟩
    ⟨(i 2).val % 4 * 512 + (i 2).val % 16 / 4 * 128 + (i 3).val, by have h : (i 3).val < 128 := (i 3).isLt; omega⟩

/-- The key product of a block, an entry at a time. -/
theorem key_apply (x : S256x2048.Idx → EReal) (g : S1x1x2048.Idx → EReal) (w : S1x2048x2048.Idx → EReal) (y : S256x2048.Idx) :
    k0_pay7 (F := Ideal) x g w y
      = ∑ k : Fin 2048, Scalars.rmsNorm (fun j => x (ix2 (y 0) j)) (g (ix3 0 0 k)) k * w (ix3 0 k (y 1)) := by
  unfold Scalars.rmsNorm
  pointwise [k0_pay7, k0_pay6]

/-- The value product is the same of the other map, -/
theorem value_eq (x : S256x2048.Idx → EReal) (g : S1x1x2048.Idx → EReal) (w : S1x2048x2048.Idx → EReal) :
    k0_pay27 (F := Ideal) (k0_pay6 x g) w = k0_pay7 x g w := rfl

theorem value_row_eq (x : S256x2048.Idx → EReal) (g : S1x1x2048.Idx → EReal) (w : S1x2048x2048.Idx → EReal) :
    k0_pay28 (F := Ideal) (k0_pay6 x g) w = k0_pay8 x g w := rfl

/-- and the bf16 copy holds the product as it stands. -/
theorem row_apply (x : S256x2048.Idx → EReal) (g : S1x1x2048.Idx → EReal) (w : S1x2048x2048.Idx → EReal) (y : S1x256x2048.Idx) :
    k0_pay8 (F := Ideal) x g w y = (show EReal from k0_pay7 (F := Ideal) x g w (ix2 (y 1) (y 2))) := by
  pointwise [k0_pay8]

def layer (t : Fin cfg0.N) : Fin 2 := ⟨t.val / 4, by have ht : t.val < 8 := t.isLt; omega⟩
def seqn (t : Fin cfg0.N) : Fin 4 := ⟨t.val % 4, Nat.mod_lt _ (by decide)⟩

theorem blk_rows (c : Dev nD) (t : Fin cfg0.N) (r : Fin 256) (k : Fin 2048) :
    iblk m c 0 t (ix2 r k) = m ((c : Thread nD τ).loc main_arg0) (ix3 (seqn t) r k) := by
  unfold seqn
  blk_point [iblk, V, index t]

theorem blk_gain (c : Dev nD) (t : Fin cfg0.N) (k : Fin 2048) :
    iblk m c 1 t (ix3 0 0 k) = m ((c : Thread nD τ).loc main_arg1) (ix2 (layer t) k) := by
  unfold layer
  blk_point [iblk, V, index t]

theorem blk_keys (c : Dev nD) (t : Fin cfg0.N) (k q : Fin 2048) :
    iblk m c 2 t (ix3 0 k q) = m ((c : Thread nD τ).loc main_arg2) (ix3 (layer t) k q) := by
  unfold layer
  blk_point [iblk, V, index t]

theorem blk_values (c : Dev nD) (t : Fin cfg0.N) (k q : Fin 2048) :
    iblk m c 3 t (ix3 0 k q) = m ((c : Thread nD τ).loc main_arg3) (ix3 (layer t) k q) := by
  unfold layer
  blk_point [iblk, V, index t]

/-- A block's key product is its share of the keys, -/
theorem keys_apply (c : Dev nD) (t : Fin cfg0.N) (y : S256x2048.Idx) : k0_pay7 (F := Ideal) (iblk m c 0 t) (iblk m c 1 t) (iblk m c 2 t) y
      = entry (m ((c : Thread nD τ).loc main_arg0)) (m ((c : Thread nD τ).loc main_arg1)) (m ((c : Thread nD τ).loc main_arg2))
          (layer t) (seqn t) (y 0) (y 1) := by
  rw [key_apply]
  unfold entry
  refine Finset.sum_congr rfl fun k _ => congrArg₂ (· * ·) (Scalars.rmsNorm_congr (fun j => blk_rows m c t _ j) (blk_gain m c t k) rfl)
    (blk_keys m c t k _)

/-- and its value product its share of the values. -/
theorem values_apply (c : Dev nD) (t : Fin cfg0.N) (y : S256x2048.Idx) : k0_pay7 (F := Ideal) (iblk m c 0 t) (iblk m c 1 t) (iblk m c 3 t) y
      = entry (m ((c : Thread nD τ).loc main_arg0)) (m ((c : Thread nD τ).loc main_arg1)) (m ((c : Thread nD τ).loc main_arg3))
          (layer t) (seqn t) (y 0) (y 1) := by
  rw [key_apply]
  unfold entry
  refine Finset.sum_congr rfl fun k _ => congrArg₂ (· * ·) (Scalars.rmsNorm_congr (fun j => blk_rows m c t _ j) (blk_gain m c t k) rfl)
    (blk_values m c t k _)

theorem array_keys (c : Dev nD) : (dats m 0 c).arrAt 4 cfg0.N = byHead (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  unfold out0_4 heads
  frame_out
  rw [keys_apply]
  unfold byHead layer seqn spot
  blk_point [index t]

theorem array_values (c : Dev nD) : (dats m 0 c).arrAt 5 cfg0.N = byHead (m ((c : Thread nD τ).loc main_arg0))
    (m ((c : Thread nD τ).loc main_arg1)) (m ((c : Thread nD τ).loc main_arg3)) := by
  refine (dats m 0 c).arrAt_eq_of_covers 5 _ (by decide +kernel) fun t hf y => ?_
  blk_simp
  rw [after0_5]
  unfold out0_5 heads
  frame_out
  rw [value_eq, values_apply]
  unfold byHead layer seqn spot
  blk_point [index t]

theorem array_key_rows (c : Dev nD) : (dats m 0 c).arrAt 6 cfg0.N = byRow (m ((c : Thread nD τ).loc main_arg0))
    (m ((c : Thread nD τ).loc main_arg1)) (m ((c : Thread nD τ).loc main_arg2)) := by
  refine (dats m 0 c).arrAt_eq_of_covers 6 _ (by decide +kernel) fun t hf y => ?_
  blk_simp
  rw [after0_6]
  frame_out
  rw [row_apply, keys_apply]
  unfold byRow layer seqn
  blk_point [index t]

theorem array_value_rows (c : Dev nD) : (dats m 0 c).arrAt 7 cfg0.N = byRow (m ((c : Thread nD τ).loc main_arg0))
    (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [value_row_eq, row_apply, values_apply]
  unfold byRow layer seqn
  blk_point [index t]

/-- Cutting into heads is a matter of where an entry stands. -/
theorem cut (z : Cert.Reference11Ideal.S2x1024x2048.Idx → EReal) (h1 h2 h3) (i : Cert.Reference11Ideal.S2x4x4096x128.Idx) :
    shapeCast Cert.Reference11Ideal.S2x4x4096x128 (transpose Cert.Reference11Ideal.S2x4x256x4x4x128 [0, 1, 2, 4, 3, 5]
      (shapeCast Cert.Reference11Ideal.S2x4x256x4x4x128 z h1) h2) h3 i
      = z (ix3 (i 0) ⟨(i 1).val * 256 + (i 2).val / 16, by
            have h : (i 1).val < 4 := (i 1).isLt; have h' : (i 2).val < 4096 := (i 2).isLt; omega⟩
          ⟨(i 2).val % 4 * 512 + (i 2).val % 16 / 4 * 128 + (i 3).val, by have h : (i 3).val < 128 := (i 3).isLt; omega⟩) := by
  pointwise
  refine congrArg (fun q => z (ix3 (i 0) _ q)) (Fin.ext ?_)
  show (i 2).val % 4 * 512 + (i 2).val / 4 % 4 * 128 + (i 3).val = (i 2).val % 4 * 512 + (i 2).val % 16 / 4 * 128 + (i 3).val
  omega

/-- Where a cut entry stands as it is. -/
theorem byRow_cut (x : S4x256x2048.Idx → EReal) (g : S2x2048.Idx → EReal) (w : S2x2048x2048.Idx → EReal) (i : S2x4x4096x128.Idx) (h1 h2) :
    byRow x g w (ix3 (i 0) ⟨(i 1).val * 256 + (i 2).val / 16, h1⟩ ⟨(i 2).val % 4 * 512 + (i 2).val % 16 / 4 * 128 + (i 3).val, h2⟩)
      = byHead x g w i := by
  have h : (i 2).val < 4096 := (i 2).isLt
  unfold byRow byHead
  refine congrArg₂ (fun a b => entry x g w (i 0) a b _) (Fin.ext ?_) (Fin.ext ?_)
  · show ((i 1).val * 256 + (i 2).val / 16) / 256 = (i 1).val; omega
  · show ((i 1).val * 256 + (i 2).val / 16) % 256 = (i 2).val / 16; omega

theorem algebraic : Cert.algebraic_Kernel11Ideal_Reference11Ideal := by
  intro m ρ m' ρ' _ hagree
  refine ⟨_, _, _, _, run_blocks (F := Ideal) m ρ, ?_⟩
  refine (θ_run Cert.Reference11Ideal.defs _ _).mono (fun _ h c => ⟨?_, ?_, ?_, ?_, (h c).2.2.2.2⟩) (Cert.Reference11Ideal.Value.run (F := Ideal) m' ρ')
  · rw [(h c).1, array_keys]
    simp only [hagree c]
    funext i
    rw [cut, ← byRow_cut]
    exact Cert.Reference11Ideal.Rows.entry_apply _ _ _ _
  · rw [(h c).2.1, array_values]
    simp only [hagree c]
    funext i
    rw [cut, ← byRow_cut]
    exact Cert.Reference11Ideal.Rows.entry_apply _ _ _ _
  · rw [(h c).2.2.1, array_key_rows]
    simp only [hagree c]
    exact funext fun i => Cert.Reference11Ideal.Rows.entry_apply _ _ _ i
  · rw [(h c).2.2.2.1, array_value_rows]
    simp only [hagree c]
    exact funext fun i => Cert.Reference11Ideal.Rows.entry_apply _ _ _ i

end Cert.Kernel11Ideal.Tied
end
-- ==== Proof.NormRows.lean ====
/-
  The rows of both groups as the reference joins them, and its norm of any rows.
-/
module

public import proofs.«01_k».proof.Proof.Gen.Reference13Ideal.Run
public import proofs.«01_k».proof.Proof.Scalars
public import Idealize.ShloMosaic.Lib.Pipeline.ValueKit
public import Idealize.ShloMosaic.Lib.Pointwise

@[expose] public section

set_option maxRecDepth 16384

noncomputable section

namespace Cert.Reference13Ideal.Rows

open Cert.Reference13Ideal Cert.Reference13Ideal.Gen
open Idealize.ShloMosaic Idealize.ShloMosaic.TcCoe Idealize.SL.Sem

/-- Entry `k` of row `r` of both groups, the prompt's rows first. -/
def both (x : S4x2048x2048.Idx → EReal) (s : S512x2048.Idx → EReal) (r : Fin 8704) (k : Fin 2048) : EReal :=
  if h : r.val < 8192 then x (ix3 ⟨r.val / 2048, by omega⟩ ⟨r.val % 2048, Nat.mod_lt _ (by decide)⟩ k)
  else s (ix2 ⟨r.val - 8192, by have h1 := r.isLt; omega⟩ k)

theorem both_prompt (x : S4x2048x2048.Idx → EReal) (s : S512x2048.Idx → EReal) (r : Fin 8704) (k : Fin 2048) (h : r.val < 8192) :
    both x s r k = x (ix3 ⟨r.val / 2048, by omega⟩ ⟨r.val % 2048, Nat.mod_lt _ (by decide)⟩ k) := dif_pos h

theorem both_sample (x : S4x2048x2048.Idx → EReal) (s : S512x2048.Idx → EReal) (r : Fin 8704) (k : Fin 2048) (h : ¬ r.val < 8192) :
    both x s r k = s (ix2 ⟨r.val - 8192, by have h1 := r.isLt; omega⟩ k) := dif_neg h

/-- The rows of both groups as the reference joins them, -/
theorem both_apply (x : FVec Ideal S4x2048x2048 .f32) (s : FVec Ideal S512x2048 .f32) (i : S8704x2048.Idx) :
    (concatenate S8704x2048 0 [⟨S8192x2048, (shapeCast _ x shapeCasts_S4x2048x2048_S8192x2048)⟩,
      ⟨S512x2048, s⟩] concatenates_S8192x2048_S512x2048_S8704x2048_d0 : FVec Ideal S8704x2048 .f32) i = both x s (i 0) (i 1) := by
  unfold both
  pointwise

/-- and its norm of any rows. -/
theorem norm_apply (u : FVec Ideal S8704x2048 .f32) (g : FVec Ideal S2x2048 .f32) (i : S8704x2048.Idx) :
    (truncf .bf16 (mulf (mulf u (broadcastInDim S8704x2048 ![0, 1] bcast_S8704x1_S8704x2048_0_1 (Host.rsqrt (addf (Host.divf (broadcastInDim S8704x1 ![0] bcast_S8704_S8704x1_0 (Host.reduceAdd (mulf u u) (constant S_ .f32 0x00000000#32) reducesTo_S8704x2048_S8704_d1 h_S_)) (broadcastInDim S8704x1 ![] bcast_S_S8704x1 (constant S_ .f32 0x45000000#32))) (broadcastInDim S8704x1 ![] bcast_S_S8704x1 (constant S_ .f32 0x358637BD#32)))))) (broadcastInDim S8704x2048 ![0, 1] bcast_S1x2048_S8704x2048_0_1 (broadcastInDim S1x2048 ![1] bcast_S2048_S1x2048_1 (shapeCast _ (extractStridedSlice S1x2048 ![0, 0] g slices_S2x2048_S1x2048_0_0) shapeCasts_S1x2048_S2048)))) bitsLt_bf16_f32 : FVec Ideal S8704x2048 .bf16) i
      = Scalars.rmsNorm (fun k => u (ix2 (i 0) k)) (g (ix2 0 (i 1))) (i 1) := by
  unfold Scalars.rmsNorm
  pointwise

end Cert.Reference13Ideal.Rows
end
-- ==== Proof.Norm.lean ====
/-
  The norm before the first layer. Each grid point takes 512 rows, the first sixteen points of the prompt group and the last
  of the sample group.
-/
module

public import proofs.«01_k».proof.Defs
public import proofs.«01_k».proof.Proof.Gen.Kernel13Ideal.Value
public import proofs.«01_k».proof.Proof.NormRows
public import Idealize.ShloMosaic.Lib.Pipeline.ValueKit
public import Idealize.ShloMosaic.Lib.Pointwise

@[expose] public section

set_option maxRecDepth 16384

noncomputable section

namespace Cert.Kernel13Ideal.Tied

open Cert.Reference13Ideal.Rows (both both_prompt both_sample both_apply norm_apply)
open Cert.Kernel13Ideal Cert.Kernel13Ideal.Gen Cert.Kernel13Ideal.Value
open Idealize.ShloMosaic Idealize.ShloMosaic.TcCoe Idealize.SL.Sem

variable (m : (ℓ : Loc nD τ sig) → Buf (Elt Ideal) ℓ)

theorem index : ∀ t : Fin cfg0.N, win0_0.index t = ![min t.val 15, 0] ∧ win0_1.index t = ![0, 0] ∧ win0_2.index t = ![0, 0, 0]
    ∧ win0_3.index t = ![t.val, 0] :=
  (by decide +kernel : ∀ t : Fin grid0.N, _)

/-- An entry after the first layer's norm. -/
def normed (x : S4x2048x2048.Idx → EReal) (s : S512x2048.Idx → EReal) (g : S2x2048.Idx → EReal) (i : S8704x2048.Idx) : EReal :=
  Scalars.rmsNorm (both x s (i 0)) (g (ix2 0 (i 1))) (i 1)

theorem first_apply (x : S512x2048.Idx → EReal) (g : S1x1x2048.Idx → EReal) (y : S512x2048.Idx) :
    k0_pay1 (F := Ideal) x g y = Scalars.rmsNorm (fun k => x (ix2 (y 0) k)) (g (ix3 0 0 (y 1))) (y 1) := by
  unfold Scalars.rmsNorm
  pointwise [k0_pay1]

theorem second_apply (x : S512x2048.Idx → EReal) (g : S1x1x2048.Idx → EReal) (y : S512x2048.Idx) :
    k0_pay2 (F := Ideal) x g y = Scalars.rmsNorm (fun k => x (ix2 (y 0) k)) (g (ix3 0 0 (y 1))) (y 1) := by
  unfold Scalars.rmsNorm
  pointwise [k0_pay2]

/-- Where entry `y` of block `t` stands in the array. -/
def spot (t : Fin cfg0.N) (y : S512x2048.Idx) : S8704x2048.Idx :=
  ix2 ⟨t.val * 512 + (y 0).val, by have h : t.val < 17 := t.isLt; have h0 : (y 0).val < 512 := (y 0).isLt; show _ < 8704; omega⟩ (y 1)

theorem blk_prompt (c : Dev nD) (t : Fin cfg0.N) (ht : t.val < 16) (r : Fin 512) (k : Fin 2048) :
    iblk m c 0 t (ix2 r k) = m ((c : Thread nD τ).loc main_arg0)
      (ix3 (n0 := 4) (n1 := 2048) (n2 := 2048) ⟨(t.val * 512 + r.val) / 2048, by have h := r.isLt; omega⟩ ⟨(t.val * 512 + r.val) % 2048, Nat.mod_lt _ (by decide)⟩ k) := by
  have e : win0_0.index t = ![t.val, 0] := (index t).1.trans (by rw [Nat.min_eq_left (by omega)])
  blk_point [iblk, V, e]

theorem blk_sample (c : Dev nD) (t : Fin cfg0.N) (r : Fin 512) (k : Fin 2048) :
    iblk m c 1 t (ix2 r k) = m ((c : Thread nD τ).loc main_arg1) (ix2 r k) := by
  blk_point [iblk, V, index t]

theorem blk_gain (c : Dev nD) (t : Fin cfg0.N) (k : Fin 2048) :
    iblk m c 2 t (ix3 0 0 k) = m ((c : Thread nD τ).loc main_arg2) (ix2 0 k) := by
  blk_point [iblk, V, index t]

theorem array (c : Dev nD) : (dats m 0 c).arrAt 3 cfg0.N = normed (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  have e : (win0_3.blk t).view.emb y = spot t y := by
    unfold spot
    blk_ext [index t]
  rw [after0_3, e]
  have hy : (y 0).val < 512 := (y 0).isLt
  have h17 : t.val < 17 := t.isLt
  by_cases ht : t.val < 16
  · rw [outsAt0_A m c t ht (by omega)]
    frame_out
    rw [first_apply]
    refine Scalars.rmsNorm_congr (fun k => (blk_prompt m c t ht _ k).trans (both_prompt _ _ (spot t y 0) k ?_).symm) (blk_gain m c t _) rfl
    show t.val * 512 + (y 0).val < 8192
    omega
  · rw [outsAt0_B m c t ht (by omega)]
    frame_out
    rw [second_apply]
    refine Scalars.rmsNorm_congr (fun k => (blk_sample m c t _ k).trans (Eq.trans ?_ (both_sample _ _ (spot t y 0) k ?_).symm)) (blk_gain m c t _) rfl
    · refine congrArg (m ((c : Thread nD τ).loc main_arg1)) (congrArg (fun r : Fin 512 => (ix2 r k : S512x2048.Idx)) (Fin.ext ?_))
      show (y 0).val = t.val * 512 + (y 0).val - 8192
      omega
    · show ¬ t.val * 512 + (y 0).val < 8192
      omega

theorem algebraic : Cert.algebraic_Kernel13Ideal_Reference13Ideal := by
  intro m ρ m' ρ' _ hagree
  refine ⟨_, run_blocks (F := Ideal) m ρ, ?_⟩
  refine (θ_run Cert.Reference13Ideal.defs _ _).mono (fun _ h c => ⟨?_, (h c).2⟩) (Cert.Reference13Ideal.Value.run (F := Ideal) m' ρ')
  rw [(h c).1, array]
  obtain ⟨h0, h1, h2⟩ := hagree c
  rw [h0, h1, h2]
  funext i
  exact (norm_apply _ _ i).trans (Scalars.rmsNorm_congr (fun k => both_apply _ _ _) rfl rfl)

end Cert.Kernel13Ideal.Tied
end
-- ==== Proof.lean ====
/-
  The claim, put together from the frames, the references' runs and the value theorems.
-/
module

public import proofs.«01_k».proof.Defs
public import proofs.«01_k».proof.Proof.Gen.Kernel.Frame
public import proofs.«01_k».proof.Proof.Gen.ReferenceIdeal.Run
public import proofs.«01_k».proof.Proof.Mixers
public import proofs.«01_k».proof.Proof.Gen.Kernel2.Frame
public import proofs.«01_k».proof.Proof.Gen.Reference2Ideal.Run
public import proofs.«01_k».proof.Proof.Gate
public import proofs.«01_k».proof.Proof.Gen.Kernel3.Frame
public import proofs.«01_k».proof.Proof.Gen.Reference3Ideal.Run
public import proofs.«01_k».proof.Proof.Gated
public import proofs.«01_k».proof.Proof.Gen.Kernel4.Frame
public import proofs.«01_k».proof.Proof.Gen.Reference4Ideal.Run
public import proofs.«01_k».proof.Proof.Normed
public import proofs.«01_k».proof.Proof.Gen.Kernel5.Frame
public import proofs.«01_k».proof.Proof.Gen.Reference5Ideal.Run
public import proofs.«01_k».proof.Proof.Glu
public import proofs.«01_k».proof.Proof.Gen.Kernel6.Frame
public import proofs.«01_k».proof.Proof.Gen.Reference6Ideal.Run
public import proofs.«01_k».proof.Proof.PoolIn
public import proofs.«01_k».proof.Proof.Gen.Kernel7.Frame
public import proofs.«01_k».proof.Proof.Gen.Reference7Ideal.Run
public import proofs.«01_k».proof.Proof.Query
public import proofs.«01_k».proof.Proof.Gen.Kernel8.Frame
public import proofs.«01_k».proof.Proof.Gen.Reference8Ideal.Run
public import proofs.«01_k».proof.Proof.Merge
public import proofs.«01_k».proof.Proof.Gen.Kernel9.Frame
public import proofs.«01_k».proof.Proof.Gen.Reference9Ideal.Run
public import proofs.«01_k».proof.Proof.Residual
public import proofs.«01_k».proof.Proof.Kept
public import proofs.«01_k».proof.Proof.Gen.Reference10Ideal.Run
public import proofs.«01_k».proof.Proof.FeedForward
public import proofs.«01_k».proof.Proof.Stored
public import proofs.«01_k».proof.Proof.Gen.Reference11Ideal.Run
public import proofs.«01_k».proof.Proof.Memory
public import proofs.«01_k».proof.Proof.Gen.Kernel13.Frame
public import proofs.«01_k».proof.Proof.Gen.Reference13Ideal.Run
public import proofs.«01_k».proof.Proof.Norm
public import Idealize.ShloMosaic.Adequacy
public import Idealize.ShloMosaic.Init

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem quiescent_Reference9Ideal : quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem quiescent_Reference10Ideal : quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

theorem quiescent_Reference11Ideal : quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem quiescent_Reference13Ideal : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel13.Gen.facts,
    Cert.Kernel13Ideal.Gen.facts,
    Cert.Reference13Ideal.Gen.facts,
    fun m ρ _ => Cert.Kernel.Gen.frame m ρ,
    fun m ρ _ => Cert.KernelIdeal.Gen.frame m ρ,
    quiescent_ReferenceIdeal,
    fun m ρ _ => Cert.Kernel2.Gen.frame m ρ,
    fun m ρ _ => Cert.Kernel2Ideal.Gen.frame m ρ,
    quiescent_Reference2Ideal,
    fun m ρ _ => Cert.Kernel3.Gen.frame m ρ,
    fun m ρ _ => Cert.Kernel3Ideal.Gen.frame m ρ,
    quiescent_Reference3Ideal,
    fun m ρ _ => Cert.Kernel4.Gen.frame m ρ,
    fun m ρ _ => Cert.Kernel4Ideal.Gen.frame m ρ,
    quiescent_Reference4Ideal,
    fun m ρ _ => Cert.Kernel5.Gen.frame m ρ,
    fun m ρ _ => Cert.Kernel5Ideal.Gen.frame m ρ,
    quiescent_Reference5Ideal,
    fun m ρ _ => Cert.Kernel6.Gen.frame m ρ,
    fun m ρ _ => Cert.Kernel6Ideal.Gen.frame m ρ,
    quiescent_Reference6Ideal,
    fun m ρ _ => Cert.Kernel7.Gen.frame m ρ,
    fun m ρ _ => Cert.Kernel7Ideal.Gen.frame m ρ,
    quiescent_Reference7Ideal,
    fun m ρ _ => Cert.Kernel8.Gen.frame m ρ,
    fun m ρ _ => Cert.Kernel8Ideal.Gen.frame m ρ,
    quiescent_Reference8Ideal,
    fun m ρ _ => Cert.Kernel9.Gen.frame m ρ,
    fun m ρ _ => Cert.Kernel9Ideal.Gen.frame m ρ,
    quiescent_Reference9Ideal,
    fun m ρ _ => Cert.Kernel10.Kept.frame m ρ,
    fun m ρ _ => Cert.Kernel10Ideal.Tied.frame m ρ,
    quiescent_Reference10Ideal,
    fun m ρ _ => Cert.Kernel11.Kept.frame m ρ,
    fun m ρ _ => Cert.Kernel11Ideal.Tied.frame m ρ,
    quiescent_Reference11Ideal,
    fun m ρ _ => Cert.Kernel13.Gen.frame m ρ,
    fun m ρ _ => Cert.Kernel13Ideal.Gen.frame m ρ,
    quiescent_Reference13Ideal,
    (trivial : preserves_Kernel_KernelIdeal),
    Cert.KernelIdeal.Tied.algebraic,
    (trivial : preserves_Kernel2_Kernel2Ideal),
    Cert.Kernel2Ideal.Tied.algebraic,
    (trivial : preserves_Kernel3_Kernel3Ideal),
    Cert.Kernel3Ideal.Tied.algebraic,
    (trivial : preserves_Kernel4_Kernel4Ideal),
    Cert.Kernel4Ideal.Tied.algebraic,
    (trivial : preserves_Kernel5_Kernel5Ideal),
    Cert.Kernel5Ideal.Tied.algebraic,
    (trivial : preserves_Kernel6_Kernel6Ideal),
    Cert.Kernel6Ideal.Tied.algebraic,
    (trivial : preserves_Kernel7_Kernel7Ideal),
    Cert.Kernel7Ideal.Tied.algebraic,
    (trivial : preserves_Kernel8_Kernel8Ideal),
    Cert.Kernel8Ideal.Tied.algebraic,
    (trivial : preserves_Kernel9_Kernel9Ideal),
    Cert.Kernel9Ideal.Tied.algebraic,
    (trivial : preserves_Kernel10_Kernel10Ideal),
    Cert.Kernel10Ideal.Tied.algebraic,
    (trivial : preserves_Kernel11_Kernel11Ideal),
    Cert.Kernel11Ideal.Tied.algebraic,
    (trivial : preserves_Kernel13_Kernel13Ideal),
    Cert.Kernel13Ideal.Tied.algebraic⟩

end Cert.Proof

end
